-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)) (v3 : (c : Dev Cert.KernelIdeal.nD) → Buf (Elt Ideal) ((c.tc : Thread Cert.KernelIdeal.nD Cert.KernelIdeal.τ).loc Cert.KernelIdeal.main_v16_3)) (v4 : (c : Dev Cert.KernelIdeal.nD) → Buf (Elt Ideal) ((c.tc : Thread Cert.KernelIdeal.nD Cert.KernelIdeal.τ).loc Cert.KernelIdeal.main_v16_4)) (v5 : (c : Dev Cert.KernelIdeal.nD) → Buf (Elt Ideal) ((c.tc : Thread Cert.KernelIdeal.nD Cert.KernelIdeal.τ).loc Cert.KernelIdeal.main_v16_5)) (v6 : (c : Dev Cert.KernelIdeal.nD) → Buf (Elt Ideal) ((c.tc : Thread Cert.KernelIdeal.nD Cert.KernelIdeal.τ).loc Cert.KernelIdeal.main_v16_6)) (v7 : (c : Dev Cert.KernelIdeal.nD) → Buf (Elt Ideal) ((c.tc : Thread Cert.KernelIdeal.nD Cert.KernelIdeal.τ).loc Cert.KernelIdeal.main_v16_7)) (v8 : (c : Dev Cert.KernelIdeal.nD) → Buf (Elt Ideal) ((c.tc : Thread Cert.KernelIdeal.nD Cert.KernelIdeal.τ).loc Cert.KernelIdeal.main_v16_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_v16_3) = v3 c
          ∧ r.2.mem ((c.tc : Thread Cert.KernelIdeal.nD Cert.KernelIdeal.τ).loc Cert.KernelIdeal.main_v16_4) = v4 c
          ∧ r.2.mem ((c.tc : Thread Cert.KernelIdeal.nD Cert.KernelIdeal.τ).loc Cert.KernelIdeal.main_v16_5) = v5 c
          ∧ r.2.mem ((c.tc : Thread Cert.KernelIdeal.nD Cert.KernelIdeal.τ).loc Cert.KernelIdeal.main_v16_6) = v6 c
          ∧ r.2.mem ((c.tc : Thread Cert.KernelIdeal.nD Cert.KernelIdeal.τ).loc Cert.KernelIdeal.main_v16_7) = v7 c
          ∧ r.2.mem ((c.tc : Thread Cert.KernelIdeal.nD Cert.KernelIdeal.τ).loc Cert.KernelIdeal.main_v16_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v84) = v4 c
          ∧ r.2.mem ((c.tc : Thread Cert.ReferenceIdeal.nD Cert.ReferenceIdeal.τ).loc Cert.ReferenceIdeal.main_v86) = v5 c
          ∧ r.2.mem ((c.tc : Thread Cert.ReferenceIdeal.nD Cert.ReferenceIdeal.τ).loc Cert.ReferenceIdeal.main_v88) = v6 c
          ∧ r.2.mem ((c.tc : Thread Cert.ReferenceIdeal.nD Cert.ReferenceIdeal.τ).loc Cert.ReferenceIdeal.main_v90) = v7 c
          ∧ r.2.mem ((c.tc : Thread Cert.ReferenceIdeal.nD Cert.ReferenceIdeal.τ).loc Cert.ReferenceIdeal.main_v92) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v62) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v24)) (v1 : (c : Dev Cert.Kernel3Ideal.nD) → Buf (Elt Ideal) ((c.tc : Thread Cert.Kernel3Ideal.nD Cert.Kernel3Ideal.τ).loc Cert.Kernel3Ideal.main_v26)) (v2 : (c : Dev Cert.Kernel3Ideal.nD) → Buf (Elt Ideal) ((c.tc : Thread Cert.Kernel3Ideal.nD Cert.Kernel3Ideal.τ).loc Cert.Kernel3Ideal.main_v30)) (v3 : (c : Dev Cert.Kernel3Ideal.nD) → Buf (Elt Ideal) ((c.tc : Thread Cert.Kernel3Ideal.nD Cert.Kernel3Ideal.τ).loc Cert.Kernel3Ideal.main_v17_4)) (v4 : (c : Dev Cert.Kernel3Ideal.nD) → Buf (Elt Ideal) ((c.tc : Thread Cert.Kernel3Ideal.nD Cert.Kernel3Ideal.τ).loc Cert.Kernel3Ideal.main_v17_5)) (v5 : (c : Dev Cert.Kernel3Ideal.nD) → Buf (Elt Ideal) ((c.tc : Thread Cert.Kernel3Ideal.nD Cert.Kernel3Ideal.τ).loc Cert.Kernel3Ideal.main_v17_3)) (v6 : (c : Dev Cert.Kernel3Ideal.nD) → Buf (Elt Ideal) ((c.tc : Thread Cert.Kernel3Ideal.nD Cert.Kernel3Ideal.τ).loc Cert.Kernel3Ideal.main_v17_6)) (v7 : (c : Dev Cert.Kernel3Ideal.nD) → Buf (Elt Ideal) ((c.tc : Thread Cert.Kernel3Ideal.nD Cert.Kernel3Ideal.τ).loc Cert.Kernel3Ideal.main_v31)) (v8 : (c : Dev Cert.Kernel3Ideal.nD) → Buf (Elt Ideal) ((c.tc : Thread Cert.Kernel3Ideal.nD Cert.Kernel3Ideal.τ).loc Cert.Kernel3Ideal.main_v33)) (v9 : (c : Dev Cert.Kernel3Ideal.nD) → Buf (Elt Ideal) ((c.tc : Thread Cert.Kernel3Ideal.nD Cert.Kernel3Ideal.τ).loc Cert.Kernel3Ideal.main_v34)) (v10 : (c : Dev Cert.Kernel3Ideal.nD) → Buf (Elt Ideal) ((c.tc : Thread Cert.Kernel3Ideal.nD Cert.Kernel3Ideal.τ).loc Cert.Kernel3Ideal.main_v38)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24) = v0 c
          ∧ r.2.mem ((c.tc : Thread Cert.Kernel3Ideal.nD Cert.Kernel3Ideal.τ).loc Cert.Kernel3Ideal.main_v26) = v1 c
          ∧ r.2.mem ((c.tc : Thread Cert.Kernel3Ideal.nD Cert.Kernel3Ideal.τ).loc Cert.Kernel3Ideal.main_v30) = v2 c
          ∧ r.2.mem ((c.tc : Thread Cert.Kernel3Ideal.nD Cert.Kernel3Ideal.τ).loc Cert.Kernel3Ideal.main_v17_4) = v3 c
          ∧ r.2.mem ((c.tc : Thread Cert.Kernel3Ideal.nD Cert.Kernel3Ideal.τ).loc Cert.Kernel3Ideal.main_v17_5) = v4 c
          ∧ r.2.mem ((c.tc : Thread Cert.Kernel3Ideal.nD Cert.Kernel3Ideal.τ).loc Cert.Kernel3Ideal.main_v17_3) = v5 c
          ∧ r.2.mem ((c.tc : Thread Cert.Kernel3Ideal.nD Cert.Kernel3Ideal.τ).loc Cert.Kernel3Ideal.main_v17_6) = v6 c
          ∧ r.2.mem ((c.tc : Thread Cert.Kernel3Ideal.nD Cert.Kernel3Ideal.τ).loc Cert.Kernel3Ideal.main_v31) = v7 c
          ∧ r.2.mem ((c.tc : Thread Cert.Kernel3Ideal.nD Cert.Kernel3Ideal.τ).loc Cert.Kernel3Ideal.main_v33) = v8 c
          ∧ r.2.mem ((c.tc : Thread Cert.Kernel3Ideal.nD Cert.Kernel3Ideal.τ).loc Cert.Kernel3Ideal.main_v34) = v9 c
          ∧ r.2.mem ((c.tc : Thread Cert.Kernel3Ideal.nD Cert.Kernel3Ideal.τ).loc Cert.Kernel3Ideal.main_v38) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v133) = v0 c
          ∧ r.2.mem ((c.tc : Thread Cert.Reference3Ideal.nD Cert.Reference3Ideal.τ).loc Cert.Reference3Ideal.main_v134) = v1 c
          ∧ r.2.mem ((c.tc : Thread Cert.Reference3Ideal.nD Cert.Reference3Ideal.τ).loc Cert.Reference3Ideal.main_v135) = v2 c
          ∧ r.2.mem ((c.tc : Thread Cert.Reference3Ideal.nD Cert.Reference3Ideal.τ).loc Cert.Reference3Ideal.main_v142) = v3 c
          ∧ r.2.mem ((c.tc : Thread Cert.Reference3Ideal.nD Cert.Reference3Ideal.τ).loc Cert.Reference3Ideal.main_v150) = v4 c
          ∧ r.2.mem ((c.tc : Thread Cert.Reference3Ideal.nD Cert.Reference3Ideal.τ).loc Cert.Reference3Ideal.main_v71) = v5 c
          ∧ r.2.mem ((c.tc : Thread Cert.Reference3Ideal.nD Cert.Reference3Ideal.τ).loc Cert.Reference3Ideal.main_v151) = v6 c
          ∧ r.2.mem ((c.tc : Thread Cert.Reference3Ideal.nD Cert.Reference3Ideal.τ).loc Cert.Reference3Ideal.main_v152) = v7 c
          ∧ r.2.mem ((c.tc : Thread Cert.Reference3Ideal.nD Cert.Reference3Ideal.τ).loc Cert.Reference3Ideal.main_v153) = v8 c
          ∧ r.2.mem ((c.tc : Thread Cert.Reference3Ideal.nD Cert.Reference3Ideal.τ).loc Cert.Reference3Ideal.main_v154) = v9 c
          ∧ r.2.mem ((c.tc : Thread Cert.Reference3Ideal.nD Cert.Reference3Ideal.τ).loc Cert.Reference3Ideal.main_v155) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8192x1024 : Shape := ⟨3, ![2, 8192, 1024]⟩
abbrev S16x1024 : Shape := ⟨2, ![16, 1024]⟩
abbrev S1x1024x5128 : Shape := ⟨3, ![1, 1024, 5128]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x5128 : Shape := ⟨2, ![1024, 5128]⟩
abbrev S5128x1024 : Shape := ⟨2, ![5128, 1024]⟩
abbrev S1024x5632 : Shape := ⟨2, ![1024, 5632]⟩
abbrev S2816x1024 : Shape := ⟨2, ![2816, 1024]⟩
abbrev S512x1024 : Shape := ⟨2, ![512, 1024]⟩
abbrev S1024x1024 : Shape := ⟨2, ![1024, 1024]⟩
abbrev S16384x1024 : Shape := ⟨2, ![16384, 1024]⟩
abbrev S1024 : Shape := ⟨1, ![1024]⟩
abbrev S1536x1024 : Shape := ⟨2, ![1536, 1024]⟩
abbrev S3584x1024 : Shape := ⟨2, ![3584, 1024]⟩
abbrev S96x1024 : Shape := ⟨2, ![96, 1024]⟩
abbrev S224x1024 : Shape := ⟨2, ![224, 1024]⟩
abbrev S32x1024 : Shape := ⟨2, ![32, 1024]⟩
abbrev S64x1024 : Shape := ⟨2, ![64, 1024]⟩
abbrev S64x5632 : Shape := ⟨2, ![64, 5632]⟩
abbrev S176x1024 : Shape := ⟨2, ![176, 1024]⟩
abbrev S1024x2816 : Shape := ⟨2, ![1024, 2816]⟩
abbrev S16x2816 : Shape := ⟨2, ![16, 2816]⟩
abbrev S16 : Shape := ⟨1, ![16]⟩
abbrev S16x1 : Shape := ⟨2, ![16, 1]⟩
abbrev S1024x256 : Shape := ⟨2, ![1024, 256]⟩
abbrev S16x256 : Shape := ⟨2, ![16, 256]⟩
abbrev S1024x1 : Shape := ⟨2, ![1024, 1]⟩

abbrev nBuf : Space → Nat
  | .hbm => 37
  | .vmem => 40
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024x5128, .f32⟩
  | .hbm, ⟨3, _⟩ => ⟨S1x512x1024, .f32⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024x5632, .f32⟩
  | .hbm, ⟨9, _⟩ => ⟨S1x2816x1024, .f32⟩
  | .hbm, ⟨10, _⟩ => ⟨S1x1024x5632, .f32⟩
  | .hbm, ⟨11, _⟩ => ⟨S1x2816x1024, .f32⟩
  | .hbm, ⟨12, _⟩ => ⟨S1024x5128, .f32⟩
  | .hbm, ⟨13, _⟩ => ⟨S5128x1024, .f32⟩
  | .hbm, ⟨14, _⟩ => ⟨S1024x5632, .f32⟩
  | .hbm, ⟨15, _⟩ => ⟨S1024x5632, .bf16⟩
  | .hbm, ⟨16, _⟩ => ⟨S2816x1024, .f32⟩
  | .hbm, ⟨17, _⟩ => ⟨S2816x1024, .bf16⟩
  | .hbm, ⟨18, _⟩ => ⟨S512x1024, .f32⟩
  | .hbm, ⟨19, _⟩ => ⟨S512x1024, .f32⟩
  | .hbm, ⟨20, _⟩ => ⟨S1024x1024, .f32⟩
  | .hbm, ⟨21, _⟩ => ⟨S1024x5632, .f32⟩
  | .hbm, ⟨22, _⟩ => ⟨S2816x1024, .f32⟩
  | .hbm, ⟨23, _⟩ => ⟨S16384x1024, .f32⟩
  | .hbm, ⟨24, _⟩ => ⟨S1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S16384x1024, .f32⟩
  | .hbm, ⟨29, _⟩ => ⟨S16x1024, .f32⟩
  | .hbm, ⟨30, _⟩ => ⟨S1536x1024, .bf16⟩
  | .hbm, ⟨31, _⟩ => ⟨S3584x1024, .bf16⟩
  | .hbm, ⟨32, _⟩ => ⟨S512x1024, .bf16⟩
  | .hbm, ⟨33, _⟩ => ⟨S512x1024, .bf16⟩
  | .hbm, ⟨34, _⟩ => ⟨S1024x1024, .bf16⟩
  | .hbm, ⟨35, _⟩ => ⟨S1024x5632, .bf16⟩
  | .hbm, ⟨36, _⟩ => ⟨S2816x1024, .bf16⟩
  | .local _ .vmem, ⟨0, _⟩ => ⟨S1024x1024, .f32⟩
  | .local _ .vmem, ⟨1, _⟩ => ⟨S1024x1024, .f32⟩
  | .local _ .vmem, ⟨2, _⟩ => ⟨S16x1024, .f32⟩
  | .local _ .vmem, ⟨3, _⟩ => ⟨S1x1024, .f32⟩
  | .local _ .vmem, ⟨4, _⟩ => ⟨S1x1024, .f32⟩
  | .local _ .vmem, ⟨5, _⟩ => ⟨S1024x5632, .bf16⟩
  | .local _ .vmem, ⟨6, _⟩ => ⟨S2816x1024, .bf16⟩
  | .local _ .vmem, ⟨7, _⟩ => ⟨S96x1024, .f32⟩
  | .local _ .vmem, ⟨8, _⟩ => ⟨S96x1024, .f32⟩
  | .local _ .vmem, ⟨9, _⟩ => ⟨S224x1024, .f32⟩
  | .local _ .vmem, ⟨10, _⟩ => ⟨S224x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S64x1024, .f32⟩
  | .local _ .vmem, ⟨16, _⟩ => ⟨S64x1024, .f32⟩
  | .local _ .vmem, ⟨17, _⟩ => ⟨S64x5632, .f32⟩
  | .local _ .vmem, ⟨18, _⟩ => ⟨S64x5632, .f32⟩
  | .local _ .vmem, ⟨19, _⟩ => ⟨S176x1024, .f32⟩
  | .local _ .vmem, ⟨20, _⟩ => ⟨S176x1024, .f32⟩
  | .local _ .vmem, ⟨21, _⟩ => ⟨S1024x1024, .f32⟩
  | .local _ .vmem, ⟨22, _⟩ => ⟨S1024x1024, .f32⟩
  | .local _ .vmem, ⟨23, _⟩ => ⟨S16x1024, .f32⟩
  | .local _ .vmem, ⟨24, _⟩ => ⟨S96x1024, .bf16⟩
  | .local _ .vmem, ⟨25, _⟩ => ⟨S96x1024, .bf16⟩
  | .local _ .vmem, ⟨26, _⟩ => ⟨S224x1024, .bf16⟩
  | .local _ .vmem, ⟨27, _⟩ => ⟨S224x1024, .bf16⟩
  | .local _ .vmem, ⟨28, _⟩ => ⟨S32x1024, .bf16⟩
  | .local _ .vmem, ⟨29, _⟩ => ⟨S32x1024, .bf16⟩
  | .local _ .vmem, ⟨30, _⟩ => ⟨S32x1024, .bf16⟩
  | .local _ .vmem, ⟨31, _⟩ => ⟨S32x1024, .bf16⟩
  | .local _ .vmem, ⟨32, _⟩ => ⟨S64x1024, .bf16⟩
  | .local _ .vmem, ⟨33, _⟩ => ⟨S64x1024, .bf16⟩
  | .local _ .vmem, ⟨34, _⟩ => ⟨S64x5632, .bf16⟩
  | .local _ .vmem, ⟨35, _⟩ => ⟨S64x5632, .bf16⟩
  | .local _ .vmem, ⟨36, _⟩ => ⟨S176x1024, .bf16⟩
  | .local _ .vmem, ⟨37, _⟩ => ⟨S176x1024, .bf16⟩
  | .local _ .vmem, ⟨38, _⟩ => ⟨S1024x2816, .bf16⟩
  | .local _ .vmem, ⟨39, _⟩ => ⟨S16x2816, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev main_v16_3 : Ref sig .tc := ⟨.hbm, 31, rfl⟩
abbrev main_v16_4 : Ref sig .tc := ⟨.hbm, 32, rfl⟩
abbrev main_v16_5 : Ref sig .tc := ⟨.hbm, 33, rfl⟩
abbrev main_v16_6 : Ref sig .tc := ⟨.hbm, 34, rfl⟩
abbrev main_v16_7 : Ref sig .tc := ⟨.hbm, 35, rfl⟩
abbrev main_v16_8 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![16], ![false]⟩

def k0_mult1 (i : grid0.Coords) : BitVec 32 :=
  let c0_i32 : BitVec 32 := 0#32
  let arg0 : BitVec 32 := BitVec.ofNat 32 (i 0).val
  let c96_i32 : BitVec 32 := 96#32
  let v0 : BitVec 32 := Scalar.muli arg0 c96_i32
  let v1 : BitVec 32 := Scalar.addi c0_i32 v0
  v1
def k0_mult2 (i : grid0.Coords) : BitVec 32 :=
  let c1544_i32 : BitVec 32 := 1544#32
  let arg0 : BitVec 32 := BitVec.ofNat 32 (i 0).val
  let c224_i32 : BitVec 32 := 224#32
  let v0 : BitVec 32 := Scalar.muli arg0 c224_i32
  let v1 : BitVec 32 := Scalar.addi c1544_i32 v0
  v1
def k0_mult3 (i : grid0.Coords) : BitVec 32 :=
  let c0_i32 : BitVec 32 := 0#32
  let arg0 : BitVec 32 := BitVec.ofNat 32 (i 0).val
  let c32_i32 : BitVec 32 := 32#32
  let v0 : BitVec 32 := Scalar.muli arg0 c32_i32
  let v1 : BitVec 32 := Scalar.addi c0_i32 v0
  v1
def k0_mult4 (i : grid0.Coords) : BitVec 32 :=
  let c0_i32 : BitVec 32 := 0#32
  let arg0 : BitVec 32 := BitVec.ofNat 32 (i 0).val
  let c32_i32 : BitVec 32 := 32#32
  let v0 : BitVec 32 := Scalar.muli arg0 c32_i32
  let v1 : BitVec 32 := Scalar.addi c0_i32 v0
  v1
def k0_mult5 (i : grid0.Coords) : BitVec 32 :=
  let c0_i32 : BitVec 32 := 0#32
  let arg0 : BitVec 32 := BitVec.ofNat 32 (i 0).val
  let c64_i32 : BitVec 32 := 64#32
  let v0 : BitVec 32 := Scalar.muli arg0 c64_i32
  let v1 : BitVec 32 := Scalar.addi c0_i32 v0
  v1
def k0_mult6 (i : grid0.Coords) : BitVec 32 :=
  let c0_i32 : BitVec 32 := 0#32
  let arg0 : BitVec 32 := BitVec.ofNat 32 (i 0).val
  let c64_i32 : BitVec 32 := 64#32
  let v0 : BitVec 32 := Scalar.muli arg0 c64_i32
  let v1 : BitVec 32 := Scalar.addi c0_i32 v0
  v1
def k0_mult7 (i : grid0.Coords) : BitVec 32 :=
  let c0_i32 : BitVec 32 := 0#32
  let arg0 : BitVec 32 := BitVec.ofNat 32 (i 0).val
  let c176_i32 : BitVec 32 := 176#32
  let v0 : BitVec 32 := Scalar.muli arg0 c176_i32
  let v1 : BitVec 32 := Scalar.addi c0_i32 v0
  v1
def k0_cond1 (i : grid0.Coords) : BitVec 1 :=
  let arg0 : BitVec 32 := BitVec.ofNat 32 (i 0).val
  let c0_i32 : BitVec 32 := 0#32
  let v28 : BitVec 1 := Scalar.cmpi .eq arg0 c0_i32
  let v29 : BitVec 32 := Scalar.extui v28
  let c0_i32_27 : BitVec 32 := 0#32
  let v30 : BitVec 1 := Scalar.cmpi .ne v29 c0_i32_27
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c96_i32 : BitVec 32 := 96#32
  let v0 : BitVec 32 := Scalar.muli arg0 c96_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c224_i32 : BitVec 32 := 224#32
  let v0 : BitVec 32 := Scalar.muli arg0 c224_i32
  let c1544_i32 : BitVec 32 := 1544#32
  let v1 : BitVec 32 := Scalar.addi c1544_i32 v0
  let v2 : BitVec 32 := v1
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let c64_i32 : BitVec 32 := 64#32
  let v0 : BitVec 32 := Scalar.muli arg0 c64_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let c176_i32 : BitVec 32 := 176#32
  let v0 : BitVec 32 := Scalar.muli arg0 c176_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S176x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S96x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S224x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S32x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x5632 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S176x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S2x8192x1024 : Shape := ⟨3, ![2, 8192, 1024]⟩
abbrev S16x1024 : Shape := ⟨2, ![16, 1024]⟩
abbrev S1x1024x5128 : Shape := ⟨3, ![1, 1024, 5128]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩
abbrev S16 : Shape := ⟨1, ![16]⟩
abbrev S16x1 : Shape := ⟨2, ![16, 1]⟩
abbrev S16x5632 : Shape := ⟨2, ![16, 5632]⟩
abbrev S16x2816 : Shape := ⟨2, ![16, 2816]⟩
abbrev S1x1024x1536 : Shape := ⟨3, ![1, 1024, 1536]⟩
abbrev S1024x1536 : Shape := ⟨2, ![1024, 1536]⟩
abbrev S1536x1024 : Shape := ⟨2, ![1536, 1024]⟩
abbrev S1x1024x3584 : Shape := ⟨3, ![1, 1024, 3584]⟩
abbrev S1024x3584 : Shape := ⟨2, ![1024, 3584]⟩
abbrev S3584x1024 : Shape := ⟨2, ![3584, 1024]⟩
abbrev S512x1024 : Shape := ⟨2, ![512, 1024]⟩
abbrev S1024x1024 : Shape := ⟨2, ![1024, 1024]⟩

abbrev nBuf : Space → Nat
  | .hbm => 135
  | .vmem => 0
  | .smem => 0
  | _ => 0

abbrev hbmTy0_0 (i : Nat) : BufTy := match i % 128 with
  | 0 => ⟨S2x8192x1024, .f32⟩
  | 1 => ⟨S16x1024, .f32⟩
  | 2 => ⟨S1x1024x5128, .f32⟩
  | 3 => ⟨S1x512x1024, .f32⟩
  | 4 => ⟨S1x512x1024, .f32⟩
  | 5 => ⟨S1x1024x1024, .f32⟩
  | 6 => ⟨S1x1024, .f32⟩
  | 7 => ⟨S1x1024, .f32⟩
  | 8 => ⟨S1x1024x5632, .f32⟩
  | 9 => ⟨S1x2816x1024, .f32⟩
  | 10 => ⟨S1x1024x5632, .f32⟩
  | 11 => ⟨S1x2816x1024, .f32⟩
  | 12 => ⟨S1024, .f32⟩
  | 13 => ⟨S1024, .f32⟩
  | 14 => ⟨S1024x5632, .f32⟩
  | 15 => ⟨S2816x1024, .f32⟩
  | 16 => ⟨S2x8192x1024, .f32⟩
  | 17 => ⟨S_, .f32⟩
  | 18 => ⟨S2x8192, .f32⟩
  | 19 => ⟨S2x8192x1, .f32⟩
  | 20 => ⟨S_, .f32⟩
  | 21 => ⟨S2x8192x1, .f32⟩
  | 22 => ⟨S2x8192x1, .f32⟩
  | 23 => ⟨S_, .f32⟩
  | 24 => ⟨S2x8192x1, .f32⟩
  | 25 => ⟨S2x8192x1, .f32⟩
  | 26 => ⟨S2x8192x1, .f32⟩
  | 27 => ⟨S2x8192x1024, .f32⟩
  | 28 => ⟨S2x8192x1024, .f32⟩
  | 29 => ⟨S1x1x1024, .f32⟩
  | 30 => ⟨S2x8192x1024, .f32⟩
  | 31 => ⟨S2x8192x1024, .f32⟩
  | 32 => ⟨S2x8192x5632, .f32⟩
  | 33 => ⟨S2x8192x2816, .f32⟩
  | 34 => ⟨S2x8192x2816, .f32⟩
  | 35 => ⟨S2x8192x2816, .f32⟩
  | 36 => ⟨S2x8192x2816, .f32⟩
  | 37 => ⟨S_, .f32⟩
  | 38 => ⟨S2x8192x2816, .f32⟩
  | 39 => ⟨S2x8192x2816, .f32⟩
  | 40 => ⟨S_, .f32⟩
  | 41 => ⟨S2x8192x2816, .f32⟩
  | 42 => ⟨S2x8192x2816, .f32⟩
  | 43 => ⟨S2x8192x2816, .f32⟩
  | 44 => ⟨S2x8192x2816, .f32⟩
  | 45 => ⟨S2x8192x1024, .f32⟩
  | 46 => ⟨S2x8192x1024, .f32⟩
  | 47 => ⟨S_, .f32⟩
  | 48 => ⟨S2x8192, .f32⟩
  | 49 => ⟨S2x8192x1, .f32⟩
  | 50 => ⟨S_, .f32⟩
  | 51 => ⟨S2x8192x1, .f32⟩
  | 52 => ⟨S2x8192x1, .f32⟩
  | 53 => ⟨S_, .f32⟩
  | 54 => ⟨S2x8192x1, .f32⟩
  | 55 => ⟨S2x8192x1, .f32⟩
  | 56 => ⟨S2x8192x1, .f32⟩
  | 57 => ⟨S2x8192x1024, .f32⟩
  | 58 => ⟨S2x8192x1024, .f32⟩
  | 59 => ⟨S1x1x1024, .f32⟩
  | 60 => ⟨S2x8192x1024, .f32⟩
  | 61 => ⟨S2x8192x1024, .f32⟩
  | 62 => ⟨S_, .f32⟩
  | 63 => ⟨S2x8192x1024, .f32⟩
  | 64 => ⟨S2x8192x1024, .f32⟩
  | 65 => ⟨S2x8192x1024, .f32⟩
  | 66 => ⟨S16384x1024, .f32⟩
  | 67 => ⟨S16x1024, .f32⟩
  | 68 => ⟨S_, .f32⟩
  | 69 => ⟨S16, .f32⟩
  | 70 => ⟨S16x1, .f32⟩
  | 71 => ⟨S_, .f32⟩
  | 72 => ⟨S16x1, .f32⟩
  | 73 => ⟨S16x1, .f32⟩
  | 74 => ⟨S_, .f32⟩
  | 75 => ⟨S16x1, .f32⟩
  | 76 => ⟨S16x1, .f32⟩
  | 77 => ⟨S16x1, .f32⟩
  | 78 => ⟨S16x1024, .f32⟩
  | 79 => ⟨S16x1024, .f32⟩
  | 80 => ⟨S1x1024, .f32⟩
  | 81 => ⟨S16x1024, .f32⟩
  | 82 => ⟨S16x1024, .f32⟩
  | 83 => ⟨S16x5632, .f32⟩
  | 84 => ⟨S16x2816, .f32⟩
  | 85 => ⟨S16x2816, .f32⟩
  | 86 => ⟨S16x2816, .f32⟩
  | 87 => ⟨S16x2816, .f32⟩
  | 88 => ⟨S_, .f32⟩
  | 89 => ⟨S16x2816, .f32⟩
  | 90 => ⟨S16x2816, .f32⟩
  | 91 => ⟨S_, .f32⟩
  | 92 => ⟨S16x2816, .f32⟩
  | 93 => ⟨S16x2816, .f32⟩
  | 94 => ⟨S16x2816, .f32⟩
  | 95 => ⟨S16x2816, .f32⟩
  | 96 => ⟨S16x1024, .f32⟩
  | 97 => ⟨S16x1024, .f32⟩
  | 98 => ⟨S_, .f32⟩
  | 99 => ⟨S16, .f32⟩
  | 100 => ⟨S16x1, .f32⟩
  | 101 => ⟨S_, .f32⟩
  | 102 => ⟨S16x1, .f32⟩
  | 103 => ⟨S16x1, .f32⟩
  | 104 => ⟨S_, .f32⟩
  | 105 => ⟨S16x1, .f32⟩
  | 106 => ⟨S16x1, .f32⟩
  | 107 => ⟨S16x1, .f32⟩
  | 108 => ⟨S16x1024, .f32⟩
  | 109 => ⟨S16x1024, .f32⟩
  | 110 => ⟨S1x1024, .f32⟩
  | 111 => ⟨S16x1024, .f32⟩
  | 112 => ⟨S16x1024, .f32⟩
  | 113 => ⟨S_, .f32⟩
  | 114 => ⟨S16x1024, .f32⟩
  | 115 => ⟨S16x1024, .f32⟩
  | 116 => ⟨S16x1024, .f32⟩
  | 117 => ⟨S1x1024x1536, .f32⟩
  | 118 => ⟨S1024x1536, .f32⟩
  | 119 => ⟨S1536x1024, .f32⟩
  | 120 => ⟨S1536x1024, .bf16⟩
  | 121 => ⟨S1x1024x3584, .f32⟩
  | 122 => ⟨S1024x3584, .f32⟩
  | 123 => ⟨S3584x1024, .f32⟩
  | 124 => ⟨S3584x1024, .bf16⟩
  | 125 => ⟨S512x1024, .f32⟩
  | 126 => ⟨S512x1024, .bf16⟩
  | 127 => ⟨S512x1024, .f32⟩
  | _ => ⟨S2x8192x1024, .f32⟩

abbrev hbmTy0_1 (i : Nat) : BufTy := match i % 128 with
  | 0 => ⟨S512x1024, .bf16⟩
  | 1 => ⟨S1024x1024, .f32⟩
  | 2 => ⟨S1024x1024, .bf16⟩
  | 3 => ⟨S1024x5632, .f32⟩
  | 4 => ⟨S1024x5632, .bf16⟩
  | 5 => ⟨S2816x1024, .f32⟩
  | 6 => ⟨S2816x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call1_v0 : Ref sig .tc := ⟨.hbm, 86, rfl⟩
abbrev main_call1_v1 : Ref sig .tc := ⟨.hbm, 87, rfl⟩
abbrev main_call1_cst : Ref sig .tc := ⟨.hbm, 88, rfl⟩
abbrev main_call1_v2 : Ref sig .tc := ⟨.hbm, 89, rfl⟩
abbrev main_call1_v3 : Ref sig .tc := ⟨.hbm, 90, rfl⟩
abbrev main_call1_cst_0 : Ref sig .tc := ⟨.hbm, 91, rfl⟩
abbrev main_call1_v4 : Ref sig .tc := ⟨.hbm, 92, rfl⟩
abbrev main_call1_v5 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_9 : Ref sig .tc := ⟨.hbm, 98, rfl⟩
abbrev main_v60 : Ref sig .tc := ⟨.hbm, 99, rfl⟩
abbrev main_v61 : Ref sig .tc := ⟨.hbm, 100, rfl⟩
abbrev main_cst_10 : Ref sig .tc := ⟨.hbm, 101, rfl⟩
abbrev main_v62 : Ref sig .tc := ⟨.hbm, 102, rfl⟩
abbrev main_v63 : Ref sig .tc := ⟨.hbm, 103, rfl⟩
abbrev main_cst_11 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_12 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩

abbrev nD : Nat := 1
abbrev τ : Topo := Topo.v7x

variable {F : FTy → Type} [FloatOps F]
-- ==== Kernel2.lean ====
abbrev S16384x1024 : Shape := ⟨2, ![16384, 1024]⟩
abbrev S16384x512 : Shape := ⟨2, ![16384, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S1024 : Shape := ⟨1, ![1024]⟩
abbrev S512x512 : Shape := ⟨2, ![512, 512]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 26
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x1024, .bf16⟩
  | .hbm, ⟨3, _⟩ => ⟨S16384x1024, .bf16⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S512x1024, .f32⟩
  | .hbm, ⟨12, _⟩ => ⟨S512x1024, .bf16⟩
  | .hbm, ⟨13, _⟩ => ⟨S1024x1024, .f32⟩
  | .hbm, ⟨14, _⟩ => ⟨S1024x1024, .bf16⟩
  | .hbm, ⟨15, _⟩ => ⟨S1024x5632, .f32⟩
  | .hbm, ⟨16, _⟩ => ⟨S1024x5632, .bf16⟩
  | .hbm, ⟨17, _⟩ => ⟨S2816x1024, .f32⟩
  | .hbm, ⟨18, _⟩ => ⟨S2816x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1024x5632, .bf16⟩
  | .local _ .vmem, ⟨14, _⟩ => ⟨S2816x1024, .bf16⟩
  | .local _ .vmem, ⟨15, _⟩ => ⟨S512x1024, .f32⟩
  | .local _ .vmem, ⟨16, _⟩ => ⟨S512x1024, .f32⟩
  | .local _ .vmem, ⟨17, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference2Ideal.lean ====
abbrev S16384x1024 : Shape := ⟨2, ![16384, 1024]⟩
abbrev S16384x512 : Shape := ⟨2, ![16384, 512]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 92
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x1024, .bf16⟩
  | .hbm, ⟨3, _⟩ => ⟨S16384x1024, .bf16⟩
  | .hbm, ⟨4, _⟩ => ⟨S1x512x1024, .f32⟩
  | .hbm, ⟨5, _⟩ => ⟨S1x1024x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024x5632, .f32⟩
  | .hbm, ⟨10, _⟩ => ⟨S1x2816x1024, .f32⟩
  | .hbm, ⟨11, _⟩ => ⟨S16384x512, .f32⟩
  | .hbm, ⟨12, _⟩ => ⟨S512x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S1024, .f32⟩
  | .hbm, ⟨39, _⟩ => ⟨S1024, .f32⟩
  | .hbm, ⟨40, _⟩ => ⟨S1024x5632, .f32⟩
  | .hbm, ⟨41, _⟩ => ⟨S2816x1024, .f32⟩
  | .hbm, ⟨42, _⟩ => ⟨S16384x1024, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S16384x1, .f32⟩
  | .hbm, ⟨53, _⟩ => ⟨S16384x1024, .f32⟩
  | .hbm, ⟨54, _⟩ => ⟨S16384x1024, .f32⟩
  | .hbm, ⟨55, _⟩ => ⟨S1x1024, .f32⟩
  | .hbm, ⟨56, _⟩ => ⟨S16384x1024, .f32⟩
  | .hbm, ⟨57, _⟩ => ⟨S16384x1024, .f32⟩
  | .hbm, ⟨58, _⟩ => ⟨S16384x5632, .f32⟩
  | .hbm, ⟨59, _⟩ => ⟨S16384x2816, .f32⟩
  | .hbm, ⟨60, _⟩ => ⟨S16384x2816, .f32⟩
  | .hbm, ⟨61, _⟩ => ⟨S16384x2816, .f32⟩
  | .hbm, ⟨62, _⟩ => ⟨S16384x2816, .f32⟩
  | .hbm, ⟨63, _⟩ => ⟨S_, .f32⟩
  | .hbm, ⟨64, _⟩ => ⟨S16384x2816, .f32⟩
  | .hbm, ⟨65, _⟩ => ⟨S16384x2816, .f32⟩
  | .hbm, ⟨66, _⟩ => ⟨S_, .f32⟩
  | .hbm, ⟨67, _⟩ => ⟨S16384x2816, .f32⟩
  | .hbm, ⟨68, _⟩ => ⟨S16384x2816, .f32⟩
  | .hbm, ⟨69, _⟩ => ⟨S16384x2816, .f32⟩
  | .hbm, ⟨70, _⟩ => ⟨S16384x2816, .f32⟩
  | .hbm, ⟨71, _⟩ => ⟨S16384x1024, .f32⟩
  | .hbm, ⟨72, _⟩ => ⟨S16384x1024, .f32⟩
  | .hbm, ⟨73, _⟩ => ⟨S_, .f32⟩
  | .hbm, ⟨74, _⟩ => ⟨S16384, .f32⟩
  | .hbm, ⟨75, _⟩ => ⟨S16384x1, .f32⟩
  | .hbm, ⟨76, _⟩ => ⟨S_, .f32⟩
  | .hbm, ⟨77, _⟩ => ⟨S16384x1, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1024, .f32⟩
  | .hbm, ⟨84, _⟩ => ⟨S16384x1024, .f32⟩
  | .hbm, ⟨85, _⟩ => ⟨S1x1024, .f32⟩
  | .hbm, ⟨86, _⟩ => ⟨S16384x1024, .f32⟩
  | .hbm, ⟨87, _⟩ => ⟨S16384x1024, .f32⟩
  | .hbm, ⟨88, _⟩ => ⟨S_, .f32⟩
  | .hbm, ⟨89, _⟩ => ⟨S16384x1024, .f32⟩
  | .hbm, ⟨90, _⟩ => ⟨S16384x1024, .f32⟩
  | .hbm, ⟨91, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_cst_4 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_cst_6 : Ref sig .tc := ⟨.hbm, 76, rfl⟩
abbrev main_v50 : Ref sig .tc := ⟨.hbm, 77, rfl⟩
abbrev main_v51 : Ref sig .tc := ⟨.hbm, 78, rfl⟩
abbrev main_cst_7 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_8 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩

abbrev nD : Nat := 1
abbrev τ : Topo := Topo.v7x

variable {F : FTy → Type} [FloatOps F]
-- ==== Kernel3.lean ====
abbrev S16384x1024 : Shape := ⟨2, ![16384, 1024]⟩
abbrev S1x1024x5128 : Shape := ⟨3, ![1, 1024, 5128]⟩
abbrev S1x8 : Shape := ⟨2, ![1, 8]⟩
abbrev S1x3x512 : Shape := ⟨3, ![1, 3, 512]⟩
abbrev S1x512x1024 : Shape := ⟨3, ![1, 512, 1024]⟩
abbrev S1x1024 : Shape := ⟨2, ![1, 1024]⟩
abbrev S8x512 : Shape := ⟨2, ![8, 512]⟩
abbrev S1x128 : Shape := ⟨2, ![1, 128]⟩
abbrev S128x512 : Shape := ⟨2, ![128, 512]⟩
abbrev S128x1024 : Shape := ⟨2, ![128, 1024]⟩
abbrev S1024x5128 : Shape := ⟨2, ![1024, 5128]⟩
abbrev S5128x1024 : Shape := ⟨2, ![5128, 1024]⟩
abbrev S1536x1024 : Shape := ⟨2, ![1536, 1024]⟩
abbrev S3584x1024 : Shape := ⟨2, ![3584, 1024]⟩
abbrev S8x1024 : Shape := ⟨2, ![8, 1024]⟩
abbrev S_ : Shape := ⟨0, ![]⟩
abbrev S8 : Shape := ⟨1, ![8]⟩
abbrev S128 : Shape := ⟨1, ![128]⟩
abbrev S1024 : Shape := ⟨1, ![1024]⟩
abbrev S3x512 : Shape := ⟨2, ![3, 512]⟩
abbrev S512x1024 : Shape := ⟨2, ![512, 1024]⟩
abbrev S16384x2048 : Shape := ⟨2, ![16384, 2048]⟩
abbrev S16384x8 : Shape := ⟨2, ![16384, 8]⟩
abbrev S256x512 : Shape := ⟨2, ![256, 512]⟩
abbrev S512x2048 : Shape := ⟨2, ![512, 2048]⟩
abbrev S512x8 : Shape := ⟨2, ![512, 8]⟩
abbrev S520x512 : Shape := ⟨2, ![520, 512]⟩
abbrev S512 : Shape := ⟨1, ![512]⟩
abbrev S512x1 : Shape := ⟨2, ![512, 1]⟩
abbrev S128x128 : Shape := ⟨2, ![128, 128]⟩
abbrev S512x128 : Shape := ⟨2, ![512, 128]⟩
abbrev S512x512 : Shape := ⟨2, ![512, 512]⟩
abbrev S128x8 : Shape := ⟨2, ![128, 8]⟩
abbrev S1x512 : Shape := ⟨2, ![1, 512]⟩
abbrev S1024x1024 : Shape := ⟨2, ![1024, 1024]⟩
abbrev S16384x4x512 : Shape := ⟨3, ![16384, 4, 512]⟩
abbrev S16384x4x256 : Shape := ⟨3, ![16384, 4, 256]⟩
abbrev S16384x4x64 : Shape := ⟨3, ![16384, 4, 64]⟩
abbrev S16384x4x128 : Shape := ⟨3, ![16384, 4, 128]⟩
abbrev S16384x512 : Shape := ⟨2, ![16384, 512]⟩
abbrev S16384x8x256 : Shape := ⟨3, ![16384, 8, 256]⟩
abbrev S16384x8x128 : Shape := ⟨3, ![16384, 8, 128]⟩

abbrev nBuf : Space → Nat
  | .hbm => 59
  | .vmem => 29
  | .smem => 0
  | _ => 0

abbrev bufTy : (tb : Table) → Fin (tcTables nBuf tb) → BufTy
  | .hbm, ⟨0, _⟩ => ⟨S16384x1024, .f32⟩
  | .hbm, ⟨1, _⟩ => ⟨S1x1024x5128, .f32⟩
  | .hbm, ⟨2, _⟩ => ⟨S1x8, .f32⟩
  | .hbm, ⟨3, _⟩ => ⟨S1x3x512, .f32⟩
  | .hbm, ⟨4, _⟩ => ⟨S1x512x1024, .f32⟩
  | .hbm, ⟨5, _⟩ => ⟨S1x1024, .f32⟩
  | .hbm, ⟨6, _⟩ => ⟨S8x512, .f32⟩
  | .hbm, ⟨7, _⟩ => ⟨S1x128, .f32⟩
  | .hbm, ⟨8, _⟩ => ⟨S128x512, .bf16⟩
  | .hbm, ⟨9, _⟩ => ⟨S128x1024, .bf16⟩
  | .hbm, ⟨10, _⟩ => ⟨S1024x5128, .f32⟩
  | .hbm, ⟨11, _⟩ => ⟨S5128x1024, .f32⟩
  | .hbm, ⟨12, _⟩ => ⟨S1536x1024, .f32⟩
  | .hbm, ⟨13, _⟩ => ⟨S1536x1024, .bf16⟩
  | .hbm, ⟨14, _⟩ => ⟨S3584x1024, .f32⟩
  | .hbm, ⟨15, _⟩ => ⟨S3584x1024, .bf16⟩
  | .hbm, ⟨16, _⟩ => ⟨S8x1024, .f32⟩
  | .hbm, ⟨17, _⟩ => ⟨S8x1024, .bf16⟩
  | .hbm, ⟨18, _⟩ => ⟨S_, .i32⟩
  | .hbm, ⟨19, _⟩ => ⟨S_, .bf16⟩
  | .hbm, ⟨20, _⟩ => ⟨S128x1024, .bf16⟩
  | .hbm, ⟨21, _⟩ => ⟨S8, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S1024, .f32⟩
  | .hbm, ⟨27, _⟩ => ⟨S1x1024, .f32⟩
  | .hbm, ⟨28, _⟩ => ⟨S3x512, .f32⟩
  | .hbm, ⟨29, _⟩ => ⟨S512x1024, .f32⟩
  | .hbm, ⟨30, _⟩ => ⟨S512x1024, .bf16⟩
  | .hbm, ⟨31, _⟩ => ⟨S16384x2048, .bf16⟩
  | .hbm, ⟨32, _⟩ => ⟨S16384x1024, .bf16⟩
  | .hbm, ⟨33, _⟩ => ⟨S16384x1024, .bf16⟩
  | .hbm, ⟨34, _⟩ => ⟨S16384x8, .f32⟩
  | .hbm, ⟨35, _⟩ => ⟨S16384x1024, .bf16⟩
  | .hbm, ⟨36, _⟩ => ⟨S16384x1024, .bf16⟩
  | .hbm, ⟨37, _⟩ => ⟨S256x512, .f32⟩
  | .hbm, ⟨38, _⟩ => ⟨S16384x4x512, .bf16⟩
  | .hbm, ⟨39, _⟩ => ⟨S16384x4x256, .bf16⟩
  | .hbm, ⟨40, _⟩ => ⟨S16384x4x256, .bf16⟩
  | .hbm, ⟨41, _⟩ => ⟨S16384x4x64, .bf16⟩
  | .hbm, ⟨42, _⟩ => ⟨S16384x4x64, .bf16⟩
  | .hbm, ⟨43, _⟩ => ⟨S16384x4x128, .bf16⟩
  | .hbm, ⟨44, _⟩ => ⟨S16384x512, .bf16⟩
  | .hbm, ⟨45, _⟩ => ⟨S16384x4x128, .bf16⟩
  | .hbm, ⟨46, _⟩ => ⟨S16384x512, .bf16⟩
  | .hbm, ⟨47, _⟩ => ⟨S16384x4x64, .bf16⟩
  | .hbm, ⟨48, _⟩ => ⟨S16384x4x64, .bf16⟩
  | .hbm, ⟨49, _⟩ => ⟨S16384x4x128, .bf16⟩
  | .hbm, ⟨50, _⟩ => ⟨S16384x512, .bf16⟩
  | .hbm, ⟨51, _⟩ => ⟨S16384x4x128, .bf16⟩
  | .hbm, ⟨52, _⟩ => ⟨S16384x8x256, .bf16⟩
  | .hbm, ⟨53, _⟩ => ⟨S16384x8x128, .bf16⟩
  | .hbm, ⟨54, _⟩ => ⟨S16384x4x128, .bf16⟩
  | .hbm, ⟨55, _⟩ => ⟨S16384x4x64, .bf16⟩
  | .hbm, ⟨56, _⟩ => ⟨S16384x4x64, .bf16⟩
  | .hbm, ⟨57, _⟩ => ⟨S16384x4x128, .bf16⟩
  | .hbm, ⟨58, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1536x1024, .bf16⟩
  | .local _ .vmem, ⟨4, _⟩ => ⟨S3584x1024, .bf16⟩
  | .local _ .vmem, ⟨5, _⟩ => ⟨S128x1024, .bf16⟩
  | .local _ .vmem, ⟨6, _⟩ => ⟨S1x128, .f32⟩
  | .local _ .vmem, ⟨7, _⟩ => ⟨S3x512, .f32⟩
  | .local _ .vmem, ⟨8, _⟩ => ⟨S512x1024, .bf16⟩
  | .local _ .vmem, ⟨9, _⟩ => ⟨S8x512, .f32⟩
  | .local _ .vmem, ⟨10, _⟩ => ⟨S1x128, .f32⟩
  | .local _ .vmem, ⟨11, _⟩ => ⟨S128x512, .bf16⟩
  | .local _ .vmem, ⟨12, _⟩ => ⟨S128x1024, .bf16⟩
  | .local _ .vmem, ⟨13, _⟩ => ⟨S512x2048, .bf16⟩
  | .local _ .vmem, ⟨14, _⟩ => ⟨S512x2048, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x8, .f32⟩
  | .local _ .vmem, ⟨20, _⟩ => ⟨S512x8, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S8x512, .f32⟩
  | .local _ .vmem, ⟨26, _⟩ => ⟨S8x512, .f32⟩
  | .local _ .vmem, ⟨27, _⟩ => ⟨S520x512, .f32⟩
  | .local _ .vmem, ⟨28, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v17_3 : Ref sig .tc := ⟨.hbm, 34, rfl⟩
abbrev main_v17_4 : Ref sig .tc := ⟨.hbm, 35, rfl⟩
abbrev main_v17_5 : Ref sig .tc := ⟨.hbm, 36, rfl⟩
abbrev main_v17_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3584x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x8 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== Reference3Ideal.lean ====
abbrev S16384x1024 : Shape := ⟨2, ![16384, 1024]⟩
abbrev S1x1024x5128 : Shape := ⟨3, ![1, 1024, 5128]⟩
abbrev S1x8 : Shape := ⟨2, ![1, 8]⟩
abbrev S1x3x512 : Shape := ⟨3, ![1, 3, 512]⟩
abbrev S1x512x1024 : Shape := ⟨3, ![1, 512, 1024]⟩
abbrev S1x1024 : Shape := ⟨2, ![1, 1024]⟩
abbrev S8x512 : Shape := ⟨2, ![8, 512]⟩
abbrev S1x128 : Shape := ⟨2, ![1, 128]⟩
abbrev S128x512 : Shape := ⟨2, ![128, 512]⟩
abbrev S128x1024 : Shape := ⟨2, ![128, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5128 : Shape := ⟨2, ![1024, 5128]⟩
abbrev S16384x5128 : Shape := ⟨2, ![16384, 5128]⟩
abbrev S16384x512 : Shape := ⟨2, ![16384, 512]⟩
abbrev S16384x8 : Shape := ⟨2, ![16384, 8]⟩
abbrev S8 : Shape := ⟨1, ![8]⟩
abbrev S2x8192x8 : Shape := ⟨3, ![2, 8192, 8]⟩
abbrev S1x1x8 : Shape := ⟨3, ![1, 1, 8]⟩
abbrev S2x8192x512 : Shape := ⟨3, ![2, 8192, 512]⟩
abbrev S32x512x512 : Shape := ⟨3, ![32, 512, 512]⟩
abbrev S32x8x512 : Shape := ⟨3, ![32, 8, 512]⟩
abbrev S2x512 : Shape := ⟨2, ![2, 512]⟩
abbrev S2x2x512 : Shape := ⟨3, ![2, 2, 512]⟩
abbrev S2x8194x512 : Shape := ⟨3, ![2, 8194, 512]⟩
abbrev S3x512 : Shape := ⟨2, ![3, 512]⟩
abbrev S1x512 : Shape := ⟨2, ![1, 512]⟩
abbrev S512 : Shape := ⟨1, ![512]⟩
abbrev S1x1x512 : Shape := ⟨3, ![1, 1, 512]⟩
abbrev S512x1024 : Shape := ⟨2, ![512, 1024]⟩
abbrev S128 : Shape := ⟨1, ![128]⟩
abbrev S8x1 : Shape := ⟨2, ![8, 1]⟩
abbrev S16384x4x128 : Shape := ⟨3, ![16384, 4, 128]⟩
abbrev S8x128 : Shape := ⟨2, ![8, 128]⟩
abbrev S8x1024 : Shape := ⟨2, ![8, 1024]⟩
abbrev S16384x8x128 : Shape := ⟨3, ![16384, 8, 128]⟩
abbrev S256x512 : Shape := ⟨2, ![256, 512]⟩

abbrev nBuf : Space → Nat
  | .hbm => 212
  | .vmem => 0
  | .smem => 0
  | _ => 0

abbrev hbmTy0_0 (i : Nat) : BufTy := match i % 128 with
  | 0 => ⟨S16384x1024, .f32⟩
  | 1 => ⟨S1x1024x5128, .f32⟩
  | 2 => ⟨S1x8, .f32⟩
  | 3 => ⟨S1x3x512, .f32⟩
  | 4 => ⟨S1x512x1024, .f32⟩
  | 5 => ⟨S1x1024, .f32⟩
  | 6 => ⟨S8x512, .f32⟩
  | 7 => ⟨S1x128, .f32⟩
  | 8 => ⟨S128x512, .bf16⟩
  | 9 => ⟨S128x1024, .bf16⟩
  | 10 => ⟨S1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S1024x5128, .f32⟩
  | 28 => ⟨S16384x5128, .f32⟩
  | 29 => ⟨S16384x512, .f32⟩
  | 30 => ⟨S16384x512, .f32⟩
  | 31 => ⟨S16384x512, .f32⟩
  | 32 => ⟨S16384x512, .f32⟩
  | 33 => ⟨S16384x512, .f32⟩
  | 34 => ⟨S16384x512, .f32⟩
  | 35 => ⟨S16384x1024, .f32⟩
  | 36 => ⟨S16384x1024, .f32⟩
  | 37 => ⟨S16384x8, .f32⟩
  | 38 => ⟨S8, .f32⟩
  | 39 => ⟨S1x8, .f32⟩
  | 40 => ⟨S16384x8, .f32⟩
  | 41 => ⟨S16384x8, .f32⟩
  | 42 => ⟨S16384x8, .f32⟩
  | 43 => ⟨S_, .f32⟩
  | 44 => ⟨S16384x8, .f32⟩
  | 45 => ⟨S16384x8, .f32⟩
  | 46 => ⟨S16384x8, .f32⟩
  | 47 => ⟨S16384x8, .f32⟩
  | 48 => ⟨S16384x8, .i1⟩
  | 49 => ⟨S16384x8, .f32⟩
  | 50 => ⟨S16384x8, .f32⟩
  | 51 => ⟨S16384x8, .f32⟩
  | 52 => ⟨S16384x8, .f32⟩
  | 53 => ⟨S16384x8, .f32⟩
  | 54 => ⟨S16384x8, .f32⟩
  | 55 => ⟨S16384x8, .f32⟩
  | 56 => ⟨S16384x8, .f32⟩
  | 57 => ⟨S16384x8, .f32⟩
  | 58 => ⟨S_, .f32⟩
  | 59 => ⟨S16384x8, .f32⟩
  | 60 => ⟨S16384x8, .f32⟩
  | 61 => ⟨S1x8, .f32⟩
  | 62 => ⟨S2x8192x8, .f32⟩
  | 63 => ⟨S_, .f32⟩
  | 64 => ⟨S_, .f32⟩
  | 65 => ⟨S2x8192x8, .f32⟩
  | 66 => ⟨S1x1x8, .f32⟩
  | 67 => ⟨S2x8192x8, .f32⟩
  | 68 => ⟨S2x8192x8, .f32⟩
  | 69 => ⟨S16384x512, .f32⟩
  | 70 => ⟨S2x8192x512, .f32⟩
  | 71 => ⟨S16384x512, .f32⟩
  | 72 => ⟨S32x512x512, .f32⟩
  | 73 => ⟨S32x8x512, .f32⟩
  | 74 => ⟨S2x512, .f32⟩
  | 75 => ⟨S2x2x512, .f32⟩
  | 76 => ⟨S2x8194x512, .f32⟩
  | 77 => ⟨S3x512, .f32⟩
  | 78 => ⟨S2x8192x512, .f32⟩
  | 79 => ⟨S1x512, .f32⟩
  | 80 => ⟨S512, .f32⟩
  | 81 => ⟨S1x1x512, .f32⟩
  | 82 => ⟨S2x8192x512, .f32⟩
  | 83 => ⟨S2x8192x512, .f32⟩
  | 84 => ⟨S2x8192x512, .f32⟩
  | 85 => ⟨S1x512, .f32⟩
  | 86 => ⟨S512, .f32⟩
  | 87 => ⟨S1x1x512, .f32⟩
  | 88 => ⟨S2x8192x512, .f32⟩
  | 89 => ⟨S2x8192x512, .f32⟩
  | 90 => ⟨S2x8192x512, .f32⟩
  | 91 => ⟨S2x8192x512, .f32⟩
  | 92 => ⟨S1x512, .f32⟩
  | 93 => ⟨S512, .f32⟩
  | 94 => ⟨S1x1x512, .f32⟩
  | 95 => ⟨S2x8192x512, .f32⟩
  | 96 => ⟨S2x8192x512, .f32⟩
  | 97 => ⟨S2x8192x512, .f32⟩
  | 98 => ⟨S16384x512, .f32⟩
  | 99 => ⟨S16384x512, .f32⟩
  | 100 => ⟨S512x1024, .f32⟩
  | 101 => ⟨S16384x1024, .f32⟩
  | 102 => ⟨S16384x8, .f32⟩
  | 103 => ⟨S16384x8, .bf16⟩
  | 104 => ⟨S16384x8, .f32⟩
  | 105 => ⟨S16384x8, .f32⟩
  | 106 => ⟨S16384x8, .bf16⟩
  | 107 => ⟨S16384x8, .f32⟩
  | 108 => ⟨S16384x8, .f32⟩
  | 109 => ⟨S16384x8, .f32⟩
  | 110 => ⟨S16384x8, .bf16⟩
  | 111 => ⟨S16384x8, .f32⟩
  | 112 => ⟨S128, .i32⟩
  | 113 => ⟨S8, .i32⟩
  | 114 => ⟨S8x1, .i32⟩
  | 115 => ⟨S_, .i32⟩
  | 116 => ⟨S8x1, .i32⟩
  | 117 => ⟨S8x1, .i32⟩
  | 118 => ⟨S_, .i32⟩
  | 119 => ⟨S8x1, .i32⟩
  | 120 => ⟨S8x1, .i32⟩
  | 121 => ⟨S_, .i32⟩
  | 122 => ⟨S8x1, .i32⟩
  | 123 => ⟨S8x1, .i32⟩
  | 124 => ⟨S_, .i32⟩
  | 125 => ⟨S128, .i32⟩
  | 126 => ⟨S128, .i1⟩
  | 127 => ⟨S128x512, .f32⟩
  | _ => ⟨S16384x1024, .f32⟩

abbrev hbmTy0_1 (i : Nat) : BufTy := match i % 128 with
  | 0 => ⟨S8x512, .f32⟩
  | 1 => ⟨S16384x512, .f32⟩
  | 2 => ⟨S8x512, .f32⟩
  | 3 => ⟨S16384x512, .f32⟩
  | 4 => ⟨S16384x512, .f32⟩
  | 5 => ⟨S8x512, .f32⟩
  | 6 => ⟨S16384x512, .f32⟩
  | 7 => ⟨S16384x512, .f32⟩
  | 8 => ⟨S16384x4x128, .f32⟩
  | 9 => ⟨S_, .f32⟩
  | 10 => ⟨S_, .f32⟩
  | 11 => ⟨S16384x4x128, .i1⟩
  | 12 => ⟨S16384x4x128, .f32⟩
  | 13 => ⟨S16384x4x128, .f32⟩
  | 14 => ⟨S1x128, .i32⟩
  | 15 => ⟨S8x128, .i32⟩
  | 16 => ⟨S8x128, .i32⟩
  | 17 => ⟨S8x128, .i1⟩
  | 18 => ⟨S_, .i32⟩
  | 19 => ⟨S8x1, .i32⟩
  | 20 => ⟨S8x1, .i32⟩
  | 21 => ⟨S1x128, .i32⟩
  | 22 => ⟨S8x128, .i32⟩
  | 23 => ⟨S8x128, .i32⟩
  | 24 => ⟨S8x128, .i1⟩
  | 25 => ⟨S8x128, .i1⟩
  | 26 => ⟨S128x1024, .f32⟩
  | 27 => ⟨S8x1024, .f32⟩
  | 28 => ⟨S16384x1024, .f32⟩
  | 29 => ⟨S8x1024, .f32⟩
  | 30 => ⟨S16384x1024, .f32⟩
  | 31 => ⟨S16384x1024, .f32⟩
  | 32 => ⟨S8x1024, .f32⟩
  | 33 => ⟨S16384x1024, .f32⟩
  | 34 => ⟨S16384x1024, .f32⟩
  | 35 => ⟨S16384x8x128, .f32⟩
  | 36 => ⟨S_, .f32⟩
  | 37 => ⟨S_, .f32⟩
  | 38 => ⟨S16384x8x128, .i1⟩
  | 39 => ⟨S16384x8x128, .f32⟩
  | 40 => ⟨S16384x8x128, .f32⟩
  | 41 => ⟨S_, .i32⟩
  | 42 => ⟨S128, .i32⟩
  | 43 => ⟨S128, .i32⟩
  | 44 => ⟨S_, .i32⟩
  | 45 => ⟨S128, .i32⟩
  | 46 => ⟨S128, .i1⟩
  | 47 => ⟨S_, .f32⟩
  | 48 => ⟨S_, .f32⟩
  | 49 => ⟨S128, .f32⟩
  | 50 => ⟨S128, .f32⟩
  | 51 => ⟨S128, .f32⟩
  | 52 => ⟨S16384x4x128, .f32⟩
  | 53 => ⟨S_, .f32⟩
  | 54 => ⟨S16384x512, .f32⟩
  | 55 => ⟨S16384x512, .f32⟩
  | 56 => ⟨S16384x512, .bf16⟩
  | 57 => ⟨S16384x512, .bf16⟩
  | 58 => ⟨S16384x512, .bf16⟩
  | 59 => ⟨S16384x1024, .f32⟩
  | 60 => ⟨S16384x1024, .f32⟩
  | 61 => ⟨S_, .f32⟩
  | 62 => ⟨S16384x1024, .f32⟩
  | 63 => ⟨S16384x1024, .f32⟩
  | 64 => ⟨S_, .f32⟩
  | 65 => ⟨S16384x1024, .f32⟩
  | 66 => ⟨S16384x1024, .f32⟩
  | 67 => ⟨S16384x1024, .bf16⟩
  | 68 => ⟨S16384x1024, .f32⟩
  | 69 => ⟨S16384x1024, .f32⟩
  | 70 => ⟨S_, .f32⟩
  | 71 => ⟨S16384x1024, .f32⟩
  | 72 => ⟨S16384x1024, .f32⟩
  | 73 => ⟨S_, .f32⟩
  | 74 => ⟨S16384x1024, .f32⟩
  | 75 => ⟨S16384x1024, .f32⟩
  | 76 => ⟨S16384x1024, .f32⟩
  | 77 => ⟨S16384x1024, .bf16⟩
  | 78 => ⟨S256x512, .f32⟩
  | 79 => ⟨S16384x4x128, .bf16⟩
  | 80 => ⟨S16384x8x128, .bf16⟩
  | 81 => ⟨S16384x4x128, .bf16⟩
  | 82 => ⟨S_, .bf16⟩
  | 83 => ⟨S16384x512, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_v0 : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_v2 : Ref sig .tc := ⟨.hbm, 46, rfl⟩
abbrev main_call0_call0_v3 : Ref sig .tc := ⟨.hbm, 47, rfl⟩
abbrev main_call0_call0_v4 : Ref sig .tc := ⟨.hbm, 48, rfl⟩
abbrev main_call0_call0_v5 : Ref sig .tc := ⟨.hbm, 49, rfl⟩
abbrev main_call0_call0_v6 : Ref sig .tc := ⟨.hbm, 50, rfl⟩
abbrev main_call0_call0_v7 : Ref sig .tc := ⟨.hbm, 51, rfl⟩
abbrev main_call0_call0_v8 : Ref sig .tc := ⟨.hbm, 52, rfl⟩
abbrev main_call0_call0_v9 : Ref sig .tc := ⟨.hbm, 53, rfl⟩
abbrev main_call0_call0_v10 : Ref sig .tc := ⟨.hbm, 54, rfl⟩
abbrev main_call0_call0_v11 : Ref sig .tc := ⟨.hbm, 55, rfl⟩
abbrev main_call0_v1 : Ref sig .tc := ⟨.hbm, 56, rfl⟩
abbrev main_v29 : Ref sig .tc := ⟨.hbm, 57, rfl⟩
abbrev main_cst_2 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_call1_call0_cst : Ref sig .tc := ⟨.hbm, 63, rfl⟩
abbrev main_call1_call0_v0 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c : Ref sig .tc := ⟨.hbm, 115, rfl⟩
abbrev main_v84 : Ref sig .tc := ⟨.hbm, 116, rfl⟩
abbrev main_v85 : Ref sig .tc := ⟨.hbm, 117, rfl⟩
abbrev main_c_3 : Ref sig .tc := ⟨.hbm, 118, rfl⟩
abbrev main_v86 : Ref sig .tc := ⟨.hbm, 119, rfl⟩
abbrev main_v87 : Ref sig .tc := ⟨.hbm, 120, rfl⟩
abbrev main_c_4 : Ref sig .tc := ⟨.hbm, 121, rfl⟩
abbrev main_v88 : Ref sig .tc := ⟨.hbm, 122, rfl⟩
abbrev main_v89 : Ref sig .tc := ⟨.hbm, 123, rfl⟩
abbrev main_c_5 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_cst_6 : Ref sig .tc := ⟨.hbm, 137, rfl⟩
abbrev main_call2_v0 : Ref sig .tc := ⟨.hbm, 138, rfl⟩
abbrev main_call2_v1 : Ref sig .tc := ⟨.hbm, 139, rfl⟩
abbrev main_call2_v2 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_c_7 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_8 : Ref sig .tc := ⟨.hbm, 164, rfl⟩
abbrev main_call3_v0 : Ref sig .tc := ⟨.hbm, 165, rfl⟩
abbrev main_call3_v1 : Ref sig .tc := ⟨.hbm, 166, rfl⟩
abbrev main_call3_v2 : Ref sig .tc := ⟨.hbm, 167, rfl⟩
abbrev main_v124 : Ref sig .tc := ⟨.hbm, 168, rfl⟩
abbrev main_c_9 : Ref sig .tc := ⟨.hbm, 169, rfl⟩
abbrev main_v125 : Ref sig .tc := ⟨.hbm, 170, rfl⟩
abbrev main_v126 : Ref sig .tc := ⟨.hbm, 171, rfl⟩
abbrev main_c_10 : Ref sig .tc := ⟨.hbm, 172, rfl⟩
abbrev main_v127 : Ref sig .tc := ⟨.hbm, 173, rfl⟩
abbrev main_v128 : Ref sig .tc := ⟨.hbm, 174, rfl⟩
abbrev main_cst_11 : Ref sig .tc := ⟨.hbm, 175, rfl⟩
abbrev main_cst_12 : Ref sig .tc := ⟨.hbm, 176, rfl⟩
abbrev main_call4_v0 : Ref sig .tc := ⟨.hbm, 177, rfl⟩
abbrev main_call4_v1 : Ref sig .tc := ⟨.hbm, 178, rfl⟩
abbrev main_v129 : Ref sig .tc := ⟨.hbm, 179, rfl⟩
abbrev main_v130 : Ref sig .tc := ⟨.hbm, 180, rfl⟩
abbrev main_cst_13 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_14 : Ref sig .tc := ⟨.hbm, 189, rfl⟩
abbrev main_v138 : Ref sig .tc := ⟨.hbm, 190, rfl⟩
abbrev main_v139 : Ref sig .tc := ⟨.hbm, 191, rfl⟩
abbrev main_cst_15 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_16 : Ref sig .tc := ⟨.hbm, 198, rfl⟩
abbrev main_v145 : Ref sig .tc := ⟨.hbm, 199, rfl⟩
abbrev main_v146 : Ref sig .tc := ⟨.hbm, 200, rfl⟩
abbrev main_cst_17 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_18 : Ref sig .tc := ⟨.hbm, 210, rfl⟩
abbrev main_v155 : Ref sig .tc := ⟨.hbm, 211, rfl⟩

abbrev nD : Nat := 1
abbrev τ : Topo := Topo.v7x

variable {F : FTy → Type} [FloatOps F]
-- ==== Proof.Ffn.RunA.lean ====
/- The body of the feed-forward call at its first grid point. -/
module

public import proofs.«01_k».proof.Proof.Gen.KernelIdeal.Frame
public import proofs.«01_k».proof.Proof.Gen.KernelIdeal.Skeleton

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What both runs of the body use -/

/-- The condition under which the body computes the small array's rows. -/
abbrev cond0 (i : grid0.Coords) : Prop := k0_cond1 i = 1#1

/-- It holds at the first grid point and at no other. -/
theorem cond0_iff (t : Fin cfg0.N) : cond0 (grid0.coords t) ↔ t.val = 0 := by
  have ht : t.val < 16 := Nat.lt_of_lt_of_eq t.isLt N_0
  have e0 : (grid0.coords t 0).val = t.val / 1 % 16 := Pipeline.Grid.coords_val t 0 (by decide) rfl
  have h16 : cond0 (grid0.coords t) ↔ t.val % 16 = 0 := by
    simp only [cond0, k0_cond1, e0]
    word_cmp
  rw [h16, Nat.mod_eq_of_lt ht]

set_option maxHeartbeats 1000000 in
/-- The body at the grid's first point, where the small array's rows are computed too: the pieces its stores
    leave in each output and in the two work buffers, with the triple of the whole body. -/
def runA (c : Dev nD) (i : grid0.Coords)
    (a0 : Memref sig .tc .vmem S1024x1024 .f32) (h0 : a0.IsWhole) (a1 : Memref sig .tc .vmem S16x1024 .f32) (h1 : a1.IsWhole)
    (a2 : Memref sig .tc .vmem S1x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S2816x1024 .bf16) (h5 : a5.IsWhole)
    (a6 : Memref sig .tc .vmem S96x1024 .f32) (h6 : a6.IsWhole) (a7 : Memref sig .tc .vmem S224x1024 .f32) (h7 : a7.IsWhole)
    (a8 : Memref sig .tc .vmem S32x1024 .f32) (h8 : a8.IsWhole) (a9 : Memref sig .tc .vmem S32x1024 .f32) (h9 : a9.IsWhole)
    (a10 : Memref sig .tc .vmem S64x1024 .f32) (h10 : a10.IsWhole) (a11 : Memref sig .tc .vmem S64x5632 .f32) (h11 : a11.IsWhole)
    (a12 : Memref sig .tc .vmem S176x1024 .f32) (h12 : a12.IsWhole) (a13 : Memref sig .tc .vmem S1024x1024 .f32) (h13 : a13.IsWhole)
    (a14 : Memref sig .tc .vmem S16x1024 .f32) (h14 : a14.IsWhole) (a15 : Memref sig .tc .vmem S96x1024 .bf16) (h15 : a15.IsWhole)
    (a16 : Memref sig .tc .vmem S224x1024 .bf16) (h16 : a16.IsWhole) (a17 : Memref sig .tc .vmem S32x1024 .bf16) (h17 : a17.IsWhole)
    (a18 : Memref sig .tc .vmem S32x1024 .bf16) (h18 : a18.IsWhole) (a19 : Memref sig .tc .vmem S64x1024 .bf16) (h19 : a19.IsWhole)
    (a20 : Memref sig .tc .vmem S64x5632 .bf16) (h20 : a20.IsWhole) (a21 : Memref sig .tc .vmem S176x1024 .bf16) (h21 : a21.IsWhole)
    (a22 : Memref sig .tc .vmem S1024x2816 .bf16) (h22 : a22.IsWhole) (a23 : Memref sig .tc .vmem S16x2816 .bf16) (h23 : a23.IsWhole)
    (hc : cond0 i)
    (x0 : Vec F S1024x1024 .f32) (x1 : Vec F S16x1024 .f32) (x2 : Vec F S1x1024 .f32) (x3 : Vec F S1x1024 .f32) (x4 : Vec F S1024x5632 .bf16)
    (x5 : Vec F S2816x1024 .bf16) (x6 : Vec F S96x1024 .f32) (x7 : Vec F S224x1024 .f32) (x8 : Vec F S32x1024 .f32) (x9 : Vec F S32x1024 .f32)
    (x10 : Vec F S64x1024 .f32) (x11 : Vec F S64x5632 .f32) (x12 : Vec F S176x1024 .f32) :
    Σ' (L13 : List (View.Piece (Elt F) S1024x1024 .f32)),
    Σ' (L14 : List (View.Piece (Elt F) S16x1024 .f32)),
    Σ' (L15 : List (View.Piece (Elt F) S96x1024 .bf16)),
    Σ' (L16 : List (View.Piece (Elt F) S224x1024 .bf16)),
    Σ' (L17 : List (View.Piece (Elt F) S32x1024 .bf16)),
    Σ' (L18 : List (View.Piece (Elt F) S32x1024 .bf16)),
    Σ' (L19 : List (View.Piece (Elt F) S64x1024 .bf16)),
    Σ' (L20 : List (View.Piece (Elt F) S64x5632 .bf16)),
    Σ' (L21 : List (View.Piece (Elt F) S176x1024 .bf16)),
    Σ' (L22 : List (View.Piece (Elt F) S1024x2816 .bf16)),
    { L23 : List (View.Piece (Elt F) S16x2816 .bf16) //
      ∀ (E : Set ℕ) (K : PUnit → sProp 𝕄),
        iprop(owns (c : Thread nD τ) a0 fullShare x0 ∗ owns (c : Thread nD τ) a1 fullShare x1
          ∗ owns (c : Thread nD τ) a2 fullShare x2 ∗ owns (c : Thread nD τ) a3 fullShare x3
          ∗ owns (c : Thread nD τ) a4 fullShare x4 ∗ owns (c : Thread nD τ) a5 fullShare x5
          ∗ owns (c : Thread nD τ) a6 fullShare x6 ∗ owns (c : Thread nD τ) a7 fullShare x7
          ∗ owns (c : Thread nD τ) a8 fullShare x8 ∗ owns (c : Thread nD τ) a9 fullShare x9
          ∗ owns (c : Thread nD τ) a10 fullShare x10 ∗ owns (c : Thread nD τ) a11 fullShare x11
          ∗ owns (c : Thread nD τ) a12 fullShare x12 ∗ (∃ d, owns (c : Thread nD τ) a13 fullShare d)
          ∗ (∃ d, owns (c : Thread nD τ) a14 fullShare d) ∗ (∃ d, owns (c : Thread nD τ) a15 fullShare d)
          ∗ (∃ d, owns (c : Thread nD τ) a16 fullShare d) ∗ (∃ d, owns (c : Thread nD τ) a17 fullShare d)
          ∗ (∃ d, owns (c : Thread nD τ) a18 fullShare d) ∗ (∃ d, owns (c : Thread nD τ) a19 fullShare d)
          ∗ (∃ d, owns (c : Thread nD τ) a20 fullShare d) ∗ (∃ d, owns (c : Thread nD τ) a21 fullShare d)
          ∗ (∃ d, owns (c : Thread nD τ) a22 fullShare d) ∗ (∃ d, owns (c : Thread nD τ) a23 fullShare d)
          ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare x8 ∗ owns (c : Thread nD τ) a9 fullShare x9
            ∗ owns (c : Thread nD τ) a10 fullShare x10 ∗ owns (c : Thread nD τ) a11 fullShare x11
            ∗ owns (c : Thread nD τ) a12 fullShare x12 ∗ (∃ f, a13.view.loc (c : Thread nD τ) ↦[a13.view.set]{fullShare} a13.view.writes (Elt F) f L13)
            ∗ (∃ f, a14.view.loc (c : Thread nD τ) ↦[a14.view.set]{fullShare} a14.view.writes (Elt F) f L14) ∗ (∃ f, a15.view.loc (c : Thread nD τ) ↦[a15.view.set]{fullShare} a15.view.writes (Elt F) f L15)
            ∗ (∃ f, a16.view.loc (c : Thread nD τ) ↦[a16.view.set]{fullShare} a16.view.writes (Elt F) f L16) ∗ (∃ f, a17.view.loc (c : Thread nD τ) ↦[a17.view.set]{fullShare} a17.view.writes (Elt F) f L17)
            ∗ (∃ f, a18.view.loc (c : Thread nD τ) ↦[a18.view.set]{fullShare} a18.view.writes (Elt F) f L18) ∗ (∃ f, a19.view.loc (c : Thread nD τ) ↦[a19.view.set]{fullShare} a19.view.writes (Elt F) f L19)
            ∗ (∃ f, a20.view.loc (c : Thread nD τ) ↦[a20.view.set]{fullShare} a20.view.writes (Elt F) f L20) ∗ (∃ f, a21.view.loc (c : Thread nD τ) ↦[a21.view.set]{fullShare} a21.view.writes (Elt F) f L21)
            ∗ (∃ f, a22.view.loc (c : Thread nD τ) ↦[a22.view.set]{fullShare} a22.view.writes (Elt F) f L22) ∗ (∃ f, a23.view.loc (c : Thread nD τ) ↦[a23.view.set]{fullShare} a23.view.writes (Elt F) f L23)) -∗ K ⟨⟩))
        ⊢ wp frame (wpE (defs₀ (F := F)) Variants.none c none) E (cc0_ffn_half_step i
          a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K } := by
  refine ⟨?_, ?_, ?_, ?_, ?_, ?_, ?_, ?_, ?_, ?_, ?_, fun E K => ?run⟩
  case run =>
    simp only [cc0_ffn_half_step_eq_skeleton]; unfold cc0_ffn_half_step_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩,
      ⟨%f5, %hf5, H5⟩, ⟨%f6, %hf6, H6⟩, ⟨%f7, %hf7, H7⟩, ⟨%f8, %hf8, H8⟩, ⟨%f9, %hf9, H9⟩,
      ⟨%f10, %hf10, H10⟩, ⟨%f11, %hf11, H11⟩, ⟨%f12, %hf12, H12⟩, ⟨%d13, %f13, -, H13⟩, ⟨%d14, %f14, -, H14⟩,
      ⟨%d15, %f15, -, H15⟩, ⟨%d16, %f16, -, H16⟩, ⟨%d17, %f17, -, H17⟩, ⟨%d18, %f18, -, H18⟩, ⟨%d19, %f19, -, H19⟩,
      ⟨%d20, %f20, -, H20⟩, ⟨%d21, %f21, -, H21⟩, ⟨%d22, %f22, -, H22⟩, ⟨%d23, %f23, -, H23⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    sl_exec (disch := first | sl_exact hc)
    sl_step
    iapply Hk
    isplitl [H0]; · (iexists _; isplitr; · (ipureintro; exact h0.read_unread _)); iexact H0
    isplitl [H1]; · (iexists _; isplitr; · (ipureintro; exact h1.read_unread _)); iexact H1
    isplitl [H2]; · (iexists _; isplitr; · (ipureintro; exact h2.read_unread _)); iexact H2
    isplitl [H3]; · (iexists _; isplitr; · (ipureintro; exact h3.read_unread _)); iexact H3
    isplitl [H4]; · (iexists _; isplitr; · (ipureintro; exact h4.read_unread _)); iexact H4
    isplitl [H5]; · (iexists _; isplitr; · (ipureintro; exact h5.read_unread _)); iexact H5
    isplitl [H6]; · (iexists _; isplitr; · (ipureintro; exact h6.read_unread _)); iexact H6
    isplitl [H7]; · (iexists _; isplitr; · (ipureintro; exact h7.read_unread _)); iexact H7
    isplitl [H8]; · (iexists _; isplitr; · (ipureintro; exact h8.read_unread _)); iexact H8
    isplitl [H9]; · (iexists _; isplitr; · (ipureintro; exact h9.read_unread _)); iexact H9
    isplitl [H10]; · (iexists _; isplitr; · (ipureintro; exact h10.read_unread _)); iexact H10
    isplitl [H11]; · (iexists _; isplitr; · (ipureintro; exact h11.read_unread _)); iexact H11
    isplitl [H12]; · (iexists _; isplitr; · (ipureintro; exact h12.read_unread _)); iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _; iexact H23

end Cert.KernelIdeal.Ffn

end
-- ==== Proof.Ffn.RunB.lean ====
/- The body of the feed-forward call at its later grid points. -/
module

public import proofs.«01_k».proof.Proof.Ffn.RunA

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at every later point, where the small array's window and its work buffer are left alone: the pieces
    its stores leave in the other outputs and in the large work buffer, with the triple of the whole body. -/
def runB (c : Dev nD) (i : grid0.Coords)
    (a0 : Memref sig .tc .vmem S1024x1024 .f32) (h0 : a0.IsWhole) (a1 : Memref sig .tc .vmem S16x1024 .f32) (h1 : a1.IsWhole)
    (a2 : Memref sig .tc .vmem S1x1024 .f32) (h2 : a2.IsWhole) (a3 : Memref sig .tc .vmem S1x1024 .f32) (h3 : a3.IsWhole)
    (a4 : Memref sig .tc .vmem S1024x5632 .bf16) (h4 : a4.IsWhole) (a5 : Memref sig .tc .vmem S2816x1024 .bf16) (h5 : a5.IsWhole)
    (a6 : Memref sig .tc .vmem S96x1024 .f32) (h6 : a6.IsWhole) (a7 : Memref sig .tc .vmem S224x1024 .f32) (h7 : a7.IsWhole)
    (a8 : Memref sig .tc .vmem S32x1024 .f32) (h8 : a8.IsWhole) (a9 : Memref sig .tc .vmem S32x1024 .f32) (h9 : a9.IsWhole)
    (a10 : Memref sig .tc .vmem S64x1024 .f32) (h10 : a10.IsWhole) (a11 : Memref sig .tc .vmem S64x5632 .f32) (h11 : a11.IsWhole)
    (a12 : Memref sig .tc .vmem S176x1024 .f32) (h12 : a12.IsWhole) (a13 : Memref sig .tc .vmem S1024x1024 .f32) (h13 : a13.IsWhole)
    (a14 : Memref sig .tc .vmem S16x1024 .f32) (h14 : a14.IsWhole) (a15 : Memref sig .tc .vmem S96x1024 .bf16) (h15 : a15.IsWhole)
    (a16 : Memref sig .tc .vmem S224x1024 .bf16) (h16 : a16.IsWhole) (a17 : Memref sig .tc .vmem S32x1024 .bf16) (h17 : a17.IsWhole)
    (a18 : Memref sig .tc .vmem S32x1024 .bf16) (h18 : a18.IsWhole) (a19 : Memref sig .tc .vmem S64x1024 .bf16) (h19 : a19.IsWhole)
    (a20 : Memref sig .tc .vmem S64x5632 .bf16) (h20 : a20.IsWhole) (a21 : Memref sig .tc .vmem S176x1024 .bf16) (h21 : a21.IsWhole)
    (a22 : Memref sig .tc .vmem S1024x2816 .bf16) (h22 : a22.IsWhole) (a23 : Memref sig .tc .vmem S16x2816 .bf16) (h23 : a23.IsWhole)
    (hc : ¬ cond0 i)
    (x0 : Vec F S1024x1024 .f32) (x1 : Vec F S16x1024 .f32) (x2 : Vec F S1x1024 .f32) (x3 : Vec F S1x1024 .f32) (x4 : Vec F S1024x5632 .bf16)
    (x5 : Vec F S2816x1024 .bf16) (x6 : Vec F S96x1024 .f32) (x7 : Vec F S224x1024 .f32) (x8 : Vec F S32x1024 .f32) (x9 : Vec F S32x1024 .f32)
    (x10 : Vec F S64x1024 .f32) (x11 : Vec F S64x5632 .f32) (x12 : Vec F S176x1024 .f32) (x14 : Vec F S16x1024 .f32) :
    Σ' (L13 : List (View.Piece (Elt F) S1024x1024 .f32)),
    Σ' (L15 : List (View.Piece (Elt F) S96x1024 .bf16)),
    Σ' (L16 : List (View.Piece (Elt F) S224x1024 .bf16)),
    Σ' (L17 : List (View.Piece (Elt F) S32x1024 .bf16)),
    Σ' (L18 : List (View.Piece (Elt F) S32x1024 .bf16)),
    Σ' (L19 : List (View.Piece (Elt F) S64x1024 .bf16)),
    Σ' (L20 : List (View.Piece (Elt F) S64x5632 .bf16)),
    Σ' (L21 : List (View.Piece (Elt F) S176x1024 .bf16)),
    { L22 : List (View.Piece (Elt F) S1024x2816 .bf16) //
      ∀ (E : Set ℕ) (K : PUnit → sProp 𝕄),
        iprop(owns (c : Thread nD τ) a0 fullShare x0 ∗ owns (c : Thread nD τ) a1 fullShare x1
          ∗ owns (c : Thread nD τ) a2 fullShare x2 ∗ owns (c : Thread nD τ) a3 fullShare x3
          ∗ owns (c : Thread nD τ) a4 fullShare x4 ∗ owns (c : Thread nD τ) a5 fullShare x5
          ∗ owns (c : Thread nD τ) a6 fullShare x6 ∗ owns (c : Thread nD τ) a7 fullShare x7
          ∗ owns (c : Thread nD τ) a8 fullShare x8 ∗ owns (c : Thread nD τ) a9 fullShare x9
          ∗ owns (c : Thread nD τ) a10 fullShare x10 ∗ owns (c : Thread nD τ) a11 fullShare x11
          ∗ owns (c : Thread nD τ) a12 fullShare x12 ∗ (∃ d, owns (c : Thread nD τ) a13 fullShare d)
          ∗ owns (c : Thread nD τ) a14 fullShare x14 ∗ (∃ d, owns (c : Thread nD τ) a15 fullShare d)
          ∗ (∃ d, owns (c : Thread nD τ) a16 fullShare d) ∗ (∃ d, owns (c : Thread nD τ) a17 fullShare d)
          ∗ (∃ d, owns (c : Thread nD τ) a18 fullShare d) ∗ (∃ d, owns (c : Thread nD τ) a19 fullShare d)
          ∗ (∃ d, owns (c : Thread nD τ) a20 fullShare d) ∗ (∃ d, owns (c : Thread nD τ) a21 fullShare d)
          ∗ (∃ d, owns (c : Thread nD τ) a22 fullShare d) ∗ (∃ d, owns (c : Thread nD τ) a23 fullShare d)
          ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare x6 ∗ owns (c : Thread nD τ) a7 fullShare x7
            ∗ owns (c : Thread nD τ) a8 fullShare x8 ∗ owns (c : Thread nD τ) a9 fullShare x9
            ∗ owns (c : Thread nD τ) a10 fullShare x10 ∗ owns (c : Thread nD τ) a11 fullShare x11
            ∗ owns (c : Thread nD τ) a12 fullShare x12 ∗ (∃ f, a13.view.loc (c : Thread nD τ) ↦[a13.view.set]{fullShare} a13.view.writes (Elt F) f L13)
            ∗ owns (c : Thread nD τ) a14 fullShare x14 ∗ (∃ f, a15.view.loc (c : Thread nD τ) ↦[a15.view.set]{fullShare} a15.view.writes (Elt F) f L15)
            ∗ (∃ f, a16.view.loc (c : Thread nD τ) ↦[a16.view.set]{fullShare} a16.view.writes (Elt F) f L16) ∗ (∃ f, a17.view.loc (c : Thread nD τ) ↦[a17.view.set]{fullShare} a17.view.writes (Elt F) f L17)
            ∗ (∃ f, a18.view.loc (c : Thread nD τ) ↦[a18.view.set]{fullShare} a18.view.writes (Elt F) f L18) ∗ (∃ f, a19.view.loc (c : Thread nD τ) ↦[a19.view.set]{fullShare} a19.view.writes (Elt F) f L19)
            ∗ (∃ f, a20.view.loc (c : Thread nD τ) ↦[a20.view.set]{fullShare} a20.view.writes (Elt F) f L20) ∗ (∃ f, a21.view.loc (c : Thread nD τ) ↦[a21.view.set]{fullShare} a21.view.writes (Elt F) f L21)
            ∗ (∃ f, a22.view.loc (c : Thread nD τ) ↦[a22.view.set]{fullShare} a22.view.writes (Elt F) f L22) ∗ (∃ d, owns (c : Thread nD τ) a23 fullShare d)) -∗ K ⟨⟩))
        ⊢ wp frame (wpE (defs₀ (F := F)) Variants.none c none) E (cc0_ffn_half_step i
          a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23) K } := by
  refine ⟨?_, ?_, ?_, ?_, ?_, ?_, ?_, ?_, ?_, fun E K => ?run⟩
  case run =>
    simp only [cc0_ffn_half_step_eq_skeleton]; unfold cc0_ffn_half_step_skel
    simp only [k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩,
      ⟨%f5, %hf5, H5⟩, ⟨%f6, %hf6, H6⟩, ⟨%f7, %hf7, H7⟩, ⟨%f8, %hf8, H8⟩, ⟨%f9, %hf9, H9⟩,
      ⟨%f10, %hf10, H10⟩, ⟨%f11, %hf11, H11⟩, ⟨%f12, %hf12, H12⟩, ⟨%d13, %f13, -, H13⟩, ⟨%f14, %hf14, H14⟩,
      ⟨%d15, %f15, -, H15⟩, ⟨%d16, %f16, -, H16⟩, ⟨%d17, %f17, -, H17⟩, ⟨%d18, %f18, -, H18⟩, ⟨%d19, %f19, -, H19⟩,
      ⟨%d20, %f20, -, H20⟩, ⟨%d21, %f21, -, H21⟩, ⟨%d22, %f22, -, H22⟩, ⟨%d23, %f23, -, H23⟩, Hk⟩
    obtain rfl := h0.eq_unread hf0
    obtain rfl := h1.eq_unread hf1
    obtain rfl := h2.eq_unread hf2
    obtain rfl := h3.eq_unread hf3
    obtain rfl := h4.eq_unread hf4
    obtain rfl := h5.eq_unread hf5
    obtain rfl := h6.eq_unread hf6
    obtain rfl := h7.eq_unread hf7
    obtain rfl := h8.eq_unread hf8
    obtain rfl := h9.eq_unread hf9
    obtain rfl := h10.eq_unread hf10
    obtain rfl := h11.eq_unread hf11
    obtain rfl := h12.eq_unread hf12
    obtain rfl := h14.eq_unread hf14
    sl_exec (disch := first | sl_exact hc)
    sl_step
    iapply Hk
    isplitl [H0]; · (iexists _; isplitr; · (ipureintro; exact h0.read_unread _)); iexact H0
    isplitl [H1]; · (iexists _; isplitr; · (ipureintro; exact h1.read_unread _)); iexact H1
    isplitl [H2]; · (iexists _; isplitr; · (ipureintro; exact h2.read_unread _)); iexact H2
    isplitl [H3]; · (iexists _; isplitr; · (ipureintro; exact h3.read_unread _)); iexact H3
    isplitl [H4]; · (iexists _; isplitr; · (ipureintro; exact h4.read_unread _)); iexact H4
    isplitl [H5]; · (iexists _; isplitr; · (ipureintro; exact h5.read_unread _)); iexact H5
    isplitl [H6]; · (iexists _; isplitr; · (ipureintro; exact h6.read_unread _)); iexact H6
    isplitl [H7]; · (iexists _; isplitr; · (ipureintro; exact h7.read_unread _)); iexact H7
    isplitl [H8]; · (iexists _; isplitr; · (ipureintro; exact h8.read_unread _)); iexact H8
    isplitl [H9]; · (iexists _; isplitr; · (ipureintro; exact h9.read_unread _)); iexact H9
    isplitl [H10]; · (iexists _; isplitr; · (ipureintro; exact h10.read_unread _)); iexact H10
    isplitl [H11]; · (iexists _; isplitr; · (ipureintro; exact h11.read_unread _)); iexact H11
    isplitl [H12]; · (iexists _; isplitr; · (ipureintro; exact h12.read_unread _)); iexact H12
    isplitl [H13]; · iexists _; iexact H13
    isplitl [H14]; · (iexists _; isplitr; · (ipureintro; exact h14.read_unread _)); iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    iexists _, _; isplitr; swap; · iexact H23
    ipureintro; rfl

end Cert.KernelIdeal.Ffn

end
-- ==== Proof.Ffn.Frame.lean ====
/- The feed-forward call: what its buffers hold point by point, and the run of the whole program. -/
module

public import proofs.«01_k».proof.Proof.Ffn.RunB
public import proofs.«01_k».proof.Proof.Gen.KernelIdeal.Points
public import Idealize.ShloMosaic.Lib.Pipeline.Value
public import Idealize.ShloMosaic.Lib.WholeRead
public import Idealize.ShloMosaic.Lib.Claim

@[expose] public section

set_option maxRecDepth 16384

noncomputable section

namespace Cert.KernelIdeal.Ffn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the pipeline hands the body -/

abbrev st0 (t : Fin cfg0.N) : Memref sig .tc .vmem S1024x1024 .f32 := win0_0.stage (cfg0.slots t 0)
abbrev hst0 (t : Fin cfg0.N) : (st0 t).IsWhole := hstage0_0 ((cfg0.slots t 0).cast nbuf0_0)
abbrev st1 (t : Fin cfg0.N) : Memref sig .tc .vmem S16x1024 .f32 := win0_1.stage (cfg0.slots t 1)
abbrev hst1 (t : Fin cfg0.N) : (st1 t).IsWhole := hstage0_1 ((cfg0.slots t 1).cast nbuf0_1)
abbrev st2 (t : Fin cfg0.N) : Memref sig .tc .vmem S1x1024 .f32 := win0_2.stage (cfg0.slots t 2)
abbrev hst2 (t : Fin cfg0.N) : (st2 t).IsWhole := hstage0_2 ((cfg0.slots t 2).cast nbuf0_2)
abbrev st3 (t : Fin cfg0.N) : Memref sig .tc .vmem S1x1024 .f32 := win0_3.stage (cfg0.slots t 3)
abbrev hst3 (t : Fin cfg0.N) : (st3 t).IsWhole := hstage0_3 ((cfg0.slots t 3).cast nbuf0_3)
abbrev st4 (t : Fin cfg0.N) : Memref sig .tc .vmem S1024x5632 .bf16 := win0_4.stage (cfg0.slots t 4)
abbrev hst4 (t : Fin cfg0.N) : (st4 t).IsWhole := hstage0_4 ((cfg0.slots t 4).cast nbuf0_4)
abbrev st5 (t : Fin cfg0.N) : Memref sig .tc .vmem S2816x1024 .bf16 := win0_5.stage (cfg0.slots t 5)
abbrev hst5 (t : Fin cfg0.N) : (st5 t).IsWhole := hstage0_5 ((cfg0.slots t 5).cast nbuf0_5)
abbrev st6 (t : Fin cfg0.N) : Memref sig .tc .vmem S96x1024 .f32 := win0_6.stage (cfg0.slots t 6)
abbrev hst6 (t : Fin cfg0.N) : (st6 t).IsWhole := hstage0_6 ((cfg0.slots t 6).cast nbuf0_6)
abbrev st7 (t : Fin cfg0.N) : Memref sig .tc .vmem S224x1024 .f32 := win0_7.stage (cfg0.slots t 7)
abbrev hst7 (t : Fin cfg0.N) : (st7 t).IsWhole := hstage0_7 ((cfg0.slots t 7).cast nbuf0_7)
abbrev st8 (t : Fin cfg0.N) : Memref sig .tc .vmem S32x1024 .f32 := win0_8.stage (cfg0.slots t 8)
abbrev hst8 (t : Fin cfg0.N) : (st8 t).IsWhole := hstage0_8 ((cfg0.slots t 8).cast nbuf0_8)
abbrev st9 (t : Fin cfg0.N) : Memref sig .tc .vmem S32x1024 .f32 := win0_9.stage (cfg0.slots t 9)
abbrev hst9 (t : Fin cfg0.N) : (st9 t).IsWhole := hstage0_9 ((cfg0.slots t 9).cast nbuf0_9)
abbrev st10 (t : Fin cfg0.N) : Memref sig .tc .vmem S64x1024 .f32 := win0_10.stage (cfg0.slots t 10)
abbrev hst10 (t : Fin cfg0.N) : (st10 t).IsWhole := hstage0_10 ((cfg0.slots t 10).cast nbuf0_10)
abbrev st11 (t : Fin cfg0.N) : Memref sig .tc .vmem S64x5632 .f32 := win0_11.stage (cfg0.slots t 11)
abbrev hst11 (t : Fin cfg0.N) : (st11 t).IsWhole := hstage0_11 ((cfg0.slots t 11).cast nbuf0_11)
abbrev st12 (t : Fin cfg0.N) : Memref sig .tc .vmem S176x1024 .f32 := win0_12.stage (cfg0.slots t 12)
abbrev hst12 (t : Fin cfg0.N) : (st12 t).IsWhole := hstage0_12 ((cfg0.slots t 12).cast nbuf0_12)
abbrev st13 (t : Fin cfg0.N) : Memref sig .tc .vmem S1024x1024 .f32 := win0_13.stage (cfg0.slots t 13)
abbrev hst13 (t : Fin cfg0.N) : (st13 t).IsWhole := hstage0_13 ((cfg0.slots t 13).cast nbuf0_13)
abbrev st14 (t : Fin cfg0.N) : Memref sig .tc .vmem S16x1024 .f32 := win0_14.stage (cfg0.slots t 14)
abbrev hst14 (t : Fin cfg0.N) : (st14 t).IsWhole := hstage0_14 ((cfg0.slots t 14).cast nbuf0_14)
abbrev st15 (t : Fin cfg0.N) : Memref sig .tc .vmem S96x1024 .bf16 := win0_15.stage (cfg0.slots t 15)
abbrev hst15 (t : Fin cfg0.N) : (st15 t).IsWhole := hstage0_15 ((cfg0.slots t 15).cast nbuf0_15)
abbrev st16 (t : Fin cfg0.N) : Memref sig .tc .vmem S224x1024 .bf16 := win0_16.stage (cfg0.slots t 16)
abbrev hst16 (t : Fin cfg0.N) : (st16 t).IsWhole := hstage0_16 ((cfg0.slots t 16).cast nbuf0_16)
abbrev st17 (t : Fin cfg0.N) : Memref sig .tc .vmem S32x1024 .bf16 := win0_17.stage (cfg0.slots t 17)
abbrev hst17 (t : Fin cfg0.N) : (st17 t).IsWhole := hstage0_17 ((cfg0.slots t 17).cast nbuf0_17)
abbrev st18 (t : Fin cfg0.N) : Memref sig .tc .vmem S32x1024 .bf16 := win0_18.stage (cfg0.slots t 18)
abbrev hst18 (t : Fin cfg0.N) : (st18 t).IsWhole := hstage0_18 ((cfg0.slots t 18).cast nbuf0_18)
abbrev st19 (t : Fin cfg0.N) : Memref sig .tc .vmem S64x1024 .bf16 := win0_19.stage (cfg0.slots t 19)
abbrev hst19 (t : Fin cfg0.N) : (st19 t).IsWhole := hstage0_19 ((cfg0.slots t 19).cast nbuf0_19)
abbrev st20 (t : Fin cfg0.N) : Memref sig .tc .vmem S64x5632 .bf16 := win0_20.stage (cfg0.slots t 20)
abbrev hst20 (t : Fin cfg0.N) : (st20 t).IsWhole := hstage0_20 ((cfg0.slots t 20).cast nbuf0_20)
abbrev st21 (t : Fin cfg0.N) : Memref sig .tc .vmem S176x1024 .bf16 := win0_21.stage (cfg0.slots t 21)
abbrev hst21 (t : Fin cfg0.N) : (st21 t).IsWhole := hstage0_21 ((cfg0.slots t 21).cast nbuf0_21)
/-- The two work buffers. -/
abbrev work0 : Memref sig .tc .vmem S1024x2816 .bf16 := Memref.whole cc0_scratch0
abbrev work1 : Memref sig .tc .vmem S16x2816 .bf16 := Memref.whole cc0_scratch1

/-- The invariant between points: both work buffers at some contents, and the generator register. -/
theorem inv_eq (c : Dev nD) :
    (Pipeline.ΦA spec0 c : sProp 𝕄)
      = iprop(iprop((∃ d, owns (c : Thread nD τ) work0 fullShare d) ∗ (∃ d, owns (c : Thread nD τ) work1 fullShare d)) ∗ (∃ r, prngReg c r)) := by
  unfold Pipeline.ΦA; rw [scopedRest0_eq]; simp only [work0, work1, owns_whole]; try rfl

/-! ## What the body leaves in each output's buffer -/

theorem zeros2 : (![0, 0] : Fin 2 → Nat) = fun _ => 0 := by decide

section Whole
variable {sg : RefSig} {κ : Kind} {sp : Space} {S : Shape} {e : EltTy} {Val : EltTy → Type} [∀ e, Nonempty (Val e)]

/-- A buffer written once through its whole extent reads that one value. -/
theorem read_one (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w :=
  (View.read_writes_eq_canon v f _ (fun y => ⟨_, List.mem_singleton_self _, View.mem_set_unit_zero h inb y⟩)).trans
    (View.canon_unit_zero h inb w)

/-- A whole buffer read through its whole extent gives its contents. -/
theorem load_whole {mr : Memref sg κ sp S e} (hm : mr.IsWhole) (X : S.Idx → Val e) {off : Fin S.rank → Nat}
    (h : off = fun _ => 0) (inb : ∀ a, off a + S.size a ≤ S.size a) :
    View.readAt Val mr.view (Rect.unit off S.size inb).toLoadRect (hm.unread X) = X :=
  funext fun x => (hm.readAt_unread X _ x).trans (congrFun (View.ld_unit_zero h inb X) x)

end Whole

/-- The first point's run, at that point's buffers and input blocks. -/
abbrev firstRun (c : Dev nD) (t : Fin cfg0.N) (h : cond0 (grid0.coords t)) :=
  runA c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) (st18 t) (hst18 t) (st19 t) (hst19 t) (st20 t) (hst20 t) (st21 t) (hst21 t) work0 (Memref.isWhole_whole _) work1 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

/-- A later point's run, at that point's buffers and input blocks. -/
abbrev laterRun (c : Dev nD) (t : Fin cfg0.N) (h : ¬ cond0 (grid0.coords t)) (x14 : Vec F S16x1024 .f32) :=
  runB c (grid0.coords t) (st0 t) (hst0 t) (st1 t) (hst1 t) (st2 t) (hst2 t) (st3 t) (hst3 t) (st4 t) (hst4 t) (st5 t) (hst5 t) (st6 t) (hst6 t) (st7 t) (hst7 t) (st8 t) (hst8 t) (st9 t) (hst9 t) (st10 t) (hst10 t) (st11 t) (hst11 t) (st12 t) (hst12 t) (st13 t) (hst13 t) (st14 t) (hst14 t) (st15 t) (hst15 t) (st16 t) (hst16 t) (st17 t) (hst17 t) (st18 t) (hst18 t) (st19 t) (hst19 t) (st20 t) (hst20 t) (st21 t) (hst21 t) work0 (Memref.isWhole_whole _) work1 (Memref.isWhole_whole _) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) x14

/-- The grid's first point. -/
abbrev start : Fin cfg0.N := ⟨0, by rw [show cfg0.N = 16 from N_0]; decide⟩

theorem start_cond : cond0 (grid0.coords start) := (cond0_iff start).2 rfl

/-- The small array's rows, as the first point leaves them. -/
def smallRows (c : Dev nD) : Vec F S16x1024 .f32 := View.canon (firstRun m c start start_cond).2.1

/-- The large array's rows, as point `t` leaves them. -/
def bigRows (c : Dev nD) (t : Fin cfg0.N) : Vec F S1024x1024 .f32 :=
  if h : cond0 (grid0.coords t) then View.canon (firstRun m c t h).1 else View.canon (laterRun m c t h (smallRows m c)).1

/-! ## The pipeline's proof data -/

/-- The arrays as the call finds them; after point `t` each input's buffer at its block, the outputs' at the values
    above and each cast block at the cast of its source block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => bigRows m c t
    | ⟨14, _⟩ => smallRows m c
    | ⟨15, _⟩ => k0_pay20 (iblk m c 6 t)
    | ⟨16, _⟩ => k0_pay21 (iblk m c 7 t)
    | ⟨17, _⟩ => k0_pay22 (iblk m c 8 t)
    | ⟨18, _⟩ => k0_pay23 (iblk m c 9 t)
    | ⟨19, _⟩ => k0_pay24 (iblk m c 10 t)
    | ⟨20, _⟩ => k0_pay25 (iblk m c 11 t)
    | ⟨21, _⟩ => k0_pay26 (iblk m c 12 t)
    | ⟨_ + 22, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = bigRows m c t := by dsimp only [dats]
theorem after14 (c : Dev nD) (t : Fin cfg0.N) : (dats m 0 c).after 14 t = smallRows m c := by dsimp only [dats]
theorem after15 (c : Dev nD) (t : Fin cfg0.N) : (dats m 0 c).after 15 t = k0_pay20 (iblk m c 6 t) := by dsimp only [dats]
theorem after16 (c : Dev nD) (t : Fin cfg0.N) : (dats m 0 c).after 16 t = k0_pay21 (iblk m c 7 t) := by dsimp only [dats]
theorem after17 (c : Dev nD) (t : Fin cfg0.N) : (dats m 0 c).after 17 t = k0_pay22 (iblk m c 8 t) := by dsimp only [dats]
theorem after18 (c : Dev nD) (t : Fin cfg0.N) : (dats m 0 c).after 18 t = k0_pay23 (iblk m c 9 t) := by dsimp only [dats]
theorem after19 (c : Dev nD) (t : Fin cfg0.N) : (dats m 0 c).after 19 t = k0_pay24 (iblk m c 10 t) := by dsimp only [dats]
theorem after20 (c : Dev nD) (t : Fin cfg0.N) : (dats m 0 c).after 20 t = k0_pay25 (iblk m c 11 t) := by dsimp only [dats]
theorem after21 (c : Dev nD) (t : Fin cfg0.N) : (dats m 0 c).after 21 t = k0_pay26 (iblk m c 12 t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d

/-! ## The small array's window: stored at the first point, kept, written back at the last -/

theorem idle14 : ∀ t : Fin cfg0.N, cfg0.idle 14 (grid0.coords t) = true ↔ t.val ≠ 0 :=
  (by decide +kernel : ∀ t : Fin grid0.N, idle0 14 (grid0.coords t) = true ↔ t.val ≠ 0)

/-- From the second point on its buffer holds the first point's rows. -/
theorem before14 (c : Dev nD) (d) : ∀ (n : ℕ) (t : Fin cfg0.N), t.val = n + 1 → (dats m 0 c).before 14 t d = smallRows m c := by
  intro n
  induction n with
  | zero =>
    intro t ht
    have hN : t.val < 16 := Nat.lt_of_lt_of_eq t.isLt N_0
    rw [Dat.before_of_pos _ _ t (by omega) (Pipeline.Window.fetch_out _ rfl t), if_neg (by rw [flush0_14]; simp only; omega)]
    unfold Dat.left
    rw [show cfg0.idle 14 (cfg0.grid.coords ⟨t.val - 1, Nat.lt_of_le_of_lt (Nat.sub_le _ _) t.isLt⟩) = false from
      Bool.eq_false_iff.2 (fun h => (idle14 _).1 h (by simp only; omega))]
    exact after14 m c _
  | succ n ih =>
    intro t ht
    have hN : t.val < 16 := Nat.lt_of_lt_of_eq t.isLt N_0
    rw [Dat.before_of_pos _ _ t (by omega) (Pipeline.Window.fetch_out _ rfl t), if_neg (by rw [flush0_14]; simp only; omega)]
    unfold Dat.left
    rw [show cfg0.idle 14 (cfg0.grid.coords ⟨t.val - 1, Nat.lt_of_le_of_lt (Nat.sub_le _ _) t.isLt⟩) = true from
      (idle14 _).2 (by simp only; omega)]
    exact ih _ (by simp only; omega)

/-- What the body owes of that window's buffer at point `t`. -/
def owes14 (c : Dev nD) (t : Fin cfg0.N) : sProp 𝕄 :=
  match cfg0.idle 14 (grid0.coords t) with
  | true =>
    match (cfg0.win 14).flush t with
    | false => iprop(∃ d, owns (c : Thread nD τ) (st14 t) fullShare ((dats m 0 c).before 14 t d))
    | true => owns (c : Thread nD τ) (st14 t) fullShare ((dats m 0 c).after 14 t)
  | false => owns (c : Thread nD τ) (st14 t) fullShare ((dats m 0 c).after 14 t)

theorem owes14_first (c : Dev nD) (t : Fin cfg0.N) (ht : t.val = 0) :
    owes14 m c t = owns (c : Thread nD τ) (st14 t) fullShare (smallRows m c) := by
  unfold owes14
  rw [show cfg0.idle 14 (grid0.coords t) = false from Bool.eq_false_iff.2 (fun h => (idle14 _).1 h ht), after14]

theorem owes14_later (c : Dev nD) (t : Fin cfg0.N) (ht : t.val ≠ 0) :
    owns (c : Thread nD τ) (st14 t) fullShare (smallRows m c) ⊢ (owes14 m c t : sProp 𝕄) := by
  have hb : ∀ d, (dats m 0 c).before 14 t d = smallRows m c := fun d => before14 m c d (t.val - 1) t (by omega)
  unfold owes14
  rw [(idle14 t).2 ht, after14]
  simp only [hb]
  cases (cfg0.win 14).flush t with
  | false => iintro H; iexists (smallRows m c); iexact H
  | true => iintro H; iexact H

/-! ## The body's obligation -/

/-- What the body is handed at point `t`, the inputs' buffers at their blocks, -/
def handed (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare ((dats m 0 c).before 15 t d))
    ∗ (∃ d, owns (c : Thread nD τ) (st16 t) fullShare ((dats m 0 c).before 16 t d))
    ∗ (∃ d, owns (c : Thread nD τ) (st17 t) fullShare ((dats m 0 c).before 17 t d))
    ∗ (∃ d, owns (c : Thread nD τ) (st18 t) fullShare ((dats m 0 c).before 18 t d))
    ∗ (∃ d, owns (c : Thread nD τ) (st19 t) fullShare ((dats m 0 c).before 19 t d))
    ∗ (∃ d, owns (c : Thread nD τ) (st20 t) fullShare ((dats m 0 c).before 20 t d))
    ∗ (∃ d, owns (c : Thread nD τ) (st21 t) fullShare ((dats m 0 c).before 21 t d)))

/-- and what it hands back. -/
def returned (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t)
    ∗ owes14 m c t
    ∗ owns (c : Thread nD τ) (st15 t) fullShare ((dats m 0 c).after 15 t)
    ∗ owns (c : Thread nD τ) (st16 t) fullShare ((dats m 0 c).after 16 t)
    ∗ owns (c : Thread nD τ) (st17 t) fullShare ((dats m 0 c).after 17 t)
    ∗ owns (c : Thread nD τ) (st18 t) fullShare ((dats m 0 c).after 18 t)
    ∗ owns (c : Thread nD τ) (st19 t) fullShare ((dats m 0 c).after 19 t)
    ∗ owns (c : Thread nD τ) (st20 t) fullShare ((dats m 0 c).after 20 t)
    ∗ owns (c : Thread nD τ) (st21 t) fullShare ((dats m 0 c).after 21 t))

set_option maxHeartbeats 2400000 in
/-- The body at the first point. -/
theorem sound_first (c : Dev nD) (t : Fin cfg0.N) (h : cond0 (grid0.coords t)) :
    handed m c t ⊢ wp frame (wpE (defs₀ (F := F)) Variants.none c none) Set.univ (bodyAt0 t) (fun _ => returned m c t) := by
  have ht : t.val = 0 := (cond0_iff t).1 h
  have hbig : bigRows m c t = View.canon (firstRun m c t h).1 := by unfold bigRows; rw [dif_pos h]
  have hsmall : smallRows m c = View.canon (firstRun m c t h).2.1 := by
    obtain rfl : t = start := Fin.ext ht
    rfl
  unfold handed returned bodyAt0
  simp only [before0, before1, before2, before3, before4, before5, before6, before7, before8, before9, before10, before11, before12]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after15, after16, after17, after18, after19, after20, after21,
    hbig, owes14_first m c t ht, hsmall]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((firstRun m c t h).2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%eS0, HS0⟩, ⟨%eS1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_eq_canon _ _ _ (fun y => ⟨_, List.mem_singleton_self _, View.mem_set_unit_zero zeros2 inb_S1024x1024_S1024x1024_0_0 y⟩)
  isplitl [H14]
  · unfold owns; iexists _; isplitr
    swap; · iexact H14
    ipureintro; exact View.read_writes_eq_canon _ _ _ (fun y => ⟨_, List.mem_singleton_self _, View.mem_set_unit_zero zeros2 inb_S16x1024_S16x1024_0_0 y⟩)
  isplitl [H15]
  · unfold owns; iexists _; isplitr
    swap; · iexact H15
    ipureintro; exact (read_one _ _ zeros2 _ _).trans (congrArg k0_pay20 (load_whole (hst6 t) _ zeros2 _))
  isplitl [H16]
  · unfold owns; iexists _; isplitr
    swap; · iexact H16
    ipureintro; exact (read_one _ _ zeros2 _ _).trans (congrArg k0_pay21 (load_whole (hst7 t) _ zeros2 _))
  isplitl [H17]
  · unfold owns; iexists _; isplitr
    swap; · iexact H17
    ipureintro; exact (read_one _ _ zeros2 _ _).trans (congrArg k0_pay22 (load_whole (hst8 t) _ zeros2 _))
  isplitl [H18]
  · unfold owns; iexists _; isplitr
    swap; · iexact H18
    ipureintro; exact (read_one _ _ zeros2 _ _).trans (congrArg k0_pay23 (load_whole (hst9 t) _ zeros2 _))
  isplitl [H19]
  · unfold owns; iexists _; isplitr
    swap; · iexact H19
    ipureintro; exact (read_one _ _ zeros2 _ _).trans (congrArg k0_pay24 (load_whole (hst10 t) _ zeros2 _))
  isplitl [H20]
  · unfold owns; iexists _; isplitr
    swap; · iexact H20
    ipureintro; exact (read_one _ _ zeros2 _ _).trans (congrArg k0_pay25 (load_whole (hst11 t) _ zeros2 _))
  unfold owns; iexists _; isplitr
  swap; · iexact H21
  ipureintro; exact (read_one _ _ zeros2 _ _).trans (congrArg k0_pay26 (load_whole (hst12 t) _ zeros2 _))

set_option maxHeartbeats 2400000 in
/-- The body at a later point. -/
theorem sound_later (c : Dev nD) (t : Fin cfg0.N) (h : ¬ cond0 (grid0.coords t)) :
    handed m c t ⊢ wp frame (wpE (defs₀ (F := F)) Variants.none c none) Set.univ (bodyAt0 t) (fun _ => returned m c t) := by
  have ht : t.val ≠ 0 := fun e => h ((cond0_iff t).2 e)
  have hbig : bigRows m c t = View.canon (laterRun m c t h (smallRows m c)).1 := by unfold bigRows; rw [dif_neg h]
  have hb : ∀ d, (dats m 0 c).before 14 t d = smallRows m c := fun d => before14 m c d (t.val - 1) t (by omega)
  unfold handed returned bodyAt0
  simp only [before0, before1, before2, before3, before4, before5, before6, before7, before8, before9, before10, before11, before12, hb]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after15, after16, after17, after18, after19, after20, after21,
    hbig]
  rw [show (dats m 0 c).Φ t.castSucc = Pipeline.ΦA spec0 c from rfl, inv_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply ((laterRun m c t h (smallRows m c)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [HS0]; · iexact HS0
  isplitl [HS1]; · iexact HS1
  iintro ⟨H0, H1, H2, H3, H4, H5, H6, H7, H8, H9, H10, H11, H12, ⟨%e13, H13⟩, H14, ⟨%e15, H15⟩, ⟨%e16, H16⟩, ⟨%e17, H17⟩, ⟨%e18, H18⟩, ⟨%e19, H19⟩, ⟨%e20, H20⟩, ⟨%e21, H21⟩, ⟨%eS0, HS0⟩, HS1⟩
  isplitl [HS0 HS1 Hg]
  · isplitl [HS0 HS1]
    · isplitl [HS0]
      · iexists _; unfold owns; iexists _; isplitr
        swap; · iexact HS0
        ipureintro; rfl
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_eq_canon _ _ _ (fun y => ⟨_, List.mem_singleton_self _, View.mem_set_unit_zero zeros2 inb_S1024x1024_S1024x1024_0_0 y⟩)
  isplitl [H14]; · iapply (owes14_later m c t ht); iexact H14
  isplitl [H15]
  · unfold owns; iexists _; isplitr
    swap; · iexact H15
    ipureintro; exact (read_one _ _ zeros2 _ _).trans (congrArg k0_pay20 (load_whole (hst6 t) _ zeros2 _))
  isplitl [H16]
  · unfold owns; iexists _; isplitr
    swap; · iexact H16
    ipureintro; exact (read_one _ _ zeros2 _ _).trans (congrArg k0_pay21 (load_whole (hst7 t) _ zeros2 _))
  isplitl [H17]
  · unfold owns; iexists _; isplitr
    swap; · iexact H17
    ipureintro; exact (read_one _ _ zeros2 _ _).trans (congrArg k0_pay22 (load_whole (hst8 t) _ zeros2 _))
  isplitl [H18]
  · unfold owns; iexists _; isplitr
    swap; · iexact H18
    ipureintro; exact (read_one _ _ zeros2 _ _).trans (congrArg k0_pay23 (load_whole (hst9 t) _ zeros2 _))
  isplitl [H19]
  · unfold owns; iexists _; isplitr
    swap; · iexact H19
    ipureintro; exact (read_one _ _ zeros2 _ _).trans (congrArg k0_pay24 (load_whole (hst10 t) _ zeros2 _))
  isplitl [H20]
  · unfold owns; iexists _; isplitr
    swap; · iexact H20
    ipureintro; exact (read_one _ _ zeros2 _ _).trans (congrArg k0_pay25 (load_whole (hst11 t) _ zeros2 _))
  unfold owns; iexists _; isplitr
  swap; · iexact H21
  ipureintro; exact (read_one _ _ zeros2 _ _).trans (congrArg k0_pay26 (load_whole (hst12 t) _ zeros2 _))

theorem body_row (t : Fin cfg0.N) :
    defs₀ (F := F) .tc cfg0.body (cfg0.bodyArgs t (cfg0.slots t)) = bodyAt0 t := by
  unfold defs₀; rw [Defs.onTc_tc]

theorem sound (c : Dev nD) (t : Fin cfg0.N) :
    handed m c t ⊢ wp frame (wpE (defs₀ (F := F)) Variants.none c none) Set.univ (bodyAt0 t) (fun _ => returned m c t) := by
  by_cases h : cond0 (grid0.coords t)
  · exact sound_first m c t h
  · exact sound_later m c t h

theorem obligation (c : Dev nD) : BodyObligation (dats (F := F) m 0 c) (defs₀ (F := F)) Variants.none () Set.univ := fun t => by
  rw [bigSep_W0, bigSep_W0, body_row]
  exact triple_restated (sound m c t) rfl .rfl fun _ => .rfl

/-! ## The run and the frame -/

set_option backward.isDefEq.respectTransparency.types false in
/-- The whole program's run, with every counter back at zero. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiet m ρ)

/-- Every argument array ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_post m ρ)) ((θ_run defs _ _).mono (fun _ h => h.2) (run_quiet m ρ))

end Cert.KernelIdeal.Ffn

end
-- ==== Proof.Ffn.Words.lean ====
/- The frame of the printed first call, taken from the run of its ideal reading: both have the same text. -/
module

public import proofs.«01_k».proof.Defs
public import proofs.«01_k».proof.Proof.Gen.Kernel
public import proofs.«01_k».proof.Proof.Ffn.Frame
public import Idealize.ShloMosaic.Lib.Tactic

@[expose] public section

noncomputable section

namespace Cert.KernelIdeal.Ffn

open Cert.KernelIdeal Cert.KernelIdeal.Gen
open Idealize.ShloMosaic Idealize.ShloMosaic.TcCoe Idealize.ShloMosaic.Tactic Idealize.SL.Sem

/-- The frame of the ideal reading's text at machine words. -/
def WordFrame : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0)

theorem wordFrame : WordFrame := fun m ρ _ => frame (F := Bits) m ρ

theorem same_text : WordFrame = Cert.quiescent_Kernel (hKernel := Cert.Kernel.Gen.facts) := by
  sl_kernel_rfl

/-- The printed first call runs, leaves its arguments, and ends with its counters at zero. -/
theorem frame_words : Cert.quiescent_Kernel (hKernel := Cert.Kernel.Gen.facts) := same_text.mp wordFrame

end Cert.KernelIdeal.Ffn

end
-- ==== Proof.Value.HalfStep.lean ====
/- One row of the layer's half step as plain sums: the normalized row, the gated products, and the row that results. -/
module

public import Idealize.ShloMosaic.PureOps.Ideal.Laws

@[expose] public section

noncomputable section

namespace Cert.Layer

open Idealize.ShloMosaic
open scoped BigOperators

/-- A row over the root of its mean square (the small number added under the root), times the gains. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- A row times one column of the first weights. -/
def proj (u : Fin 1024 → EReal) (w : Fin 1024 → Fin 5632 → EReal) (k : Fin 5632) : EReal := ∑ i, u i * w i k

/-- One gated entry: the first half's product times its logistic, times the second half's product. -/
def gate (u : Fin 1024 → EReal) (w : Fin 1024 → Fin 5632 → EReal) (k : Fin 2816) : EReal :=
  proj u w ⟨k.val, by omega⟩ * Ideal.logistic (proj u w ⟨k.val, by omega⟩) * proj u w ⟨2816 + k.val, by omega⟩

/-- The gated row through the second weights. -/
def mlp (u : Fin 1024 → EReal) (w : Fin 1024 → Fin 5632 → EReal) (w' : Fin 2816 → Fin 1024 → EReal) (j : Fin 1024) : EReal :=
  ∑ k, gate u w k * w' k j

/-- A row plus one half of the normalized result of the gated products. -/
def half (h gpre gpost : Fin 1024 → EReal) (w : Fin 1024 → Fin 5632 → EReal) (w' : Fin 2816 → Fin 1024 → EReal)
    (j : Fin 1024) : EReal :=
  h j + Ideal.ofBits .f32 0x3F000000#32 * rms (mlp (rms h gpre) w w') gpost j

/-- The row that the second half step starts from: the branches' gated sum through the last weights, normalized and
    added to the row. -/
def mixed (attn : Fin 512 → EReal) (sga gcv : Fin 1024 → EReal) (wa : Fin 512 → Fin 1024 → EReal)
    (wo : Fin 1024 → Fin 1024 → EReal) (j : Fin 1024) : EReal :=
  ∑ i, (sga i * (∑ k, attn k * wa k i) + gcv i) * wo i j

end Cert.Layer

end
-- ==== Proof.Value.Chunk.lean ====
/- The gated entries as a body stores them: in blocks of 256 columns, each from two blocks of the first weights' columns. -/
module

public import proofs.«01_k».proof.Proof.Value.HalfStep
public import Idealize.ShloMosaic.Lib.Pointwise
public import Idealize.ShloMosaic.Lib.WholeRead
public import Idealize.ShloMosaic.Lib.Pipeline.Value

@[expose] public section

noncomputable section

namespace Cert.Layer

open Idealize.ShloMosaic
open scoped BigOperators

/-- One gated entry from the two columns it is computed with. -/
def chunk (u a b : Fin 1024 → EReal) : EReal := (∑ i, u i * a i) * Ideal.logistic (∑ i, u i * a i) * ∑ i, u i * b i

/-- The gated entries of `R` rows as one array. -/
def gates {R : ℕ} (u : Fin R → Fin 1024 → EReal) (w : Fin 1024 → Fin 5632 → EReal) (y : (⟨2, ![R, 2816]⟩ : Shape).Idx) : EReal :=
  gate (u (y 0)) w (y 1)

/-- A load of 256 columns of the first weights from column `o` on. -/
theorem load_cols {sig : RefSig} {κ : Kind} {sp : Space} {e : EltTy} {mr : Memref sig κ sp (⟨2, ![1024, 5632]⟩ : Shape) e}
    (h : mr.IsWhole) (X : (⟨2, ![1024, 5632]⟩ : Shape).Idx → Elt Ideal e) (o : ℕ) (ho : o + 256 ≤ 5632)
    (inb : ∀ a, (![0, o] : Fin 2 → ℕ) a + (⟨2, ![1024, 256]⟩ : Shape).size a ≤ (⟨2, ![1024, 5632]⟩ : Shape).size a) (i : Fin 1024) (k : Fin 256) :
    View.readAt (Elt Ideal) mr.view (Rect.unit (s := (⟨2, ![1024, 5632]⟩ : Shape)) ![0, o] (⟨2, ![1024, 256]⟩ : Shape).size inb).toLoadRect (h.unread X) (ix2 i k)
      = X (ix2 i ⟨o + k.val, by omega⟩) := by
  rw [h.readAt_unread]
  congr 1
  funext a
  apply Fin.ext
  match a with
  | ⟨0, _⟩ => show 0 + 1 * i.val = i.val; omega
  | ⟨1, _⟩ => show o + 1 * k.val = o + k.val; omega

/-- A stored block of 256 columns holds the gated entries of its columns. -/
theorem stored {R : ℕ} (u : Fin R → Fin 1024 → EReal) {sig : RefSig} {κ : Kind} {sp : Space}
    {mr : Memref sig κ sp (⟨2, ![1024, 5632]⟩ : Shape) .bf16} (h : mr.IsWhole) (X : (⟨2, ![1024, 5632]⟩ : Shape).Idx → EReal)
    (o o' : ℕ) (ho : o + 256 ≤ 2816) (ho' : o' = 2816 + o)
    (inbA : ∀ a, (![0, o] : Fin 2 → ℕ) a + (⟨2, ![1024, 256]⟩ : Shape).size a ≤ (⟨2, ![1024, 5632]⟩ : Shape).size a)
    (inbB : ∀ a, (![0, o'] : Fin 2 → ℕ) a + (⟨2, ![1024, 256]⟩ : Shape).size a ≤ (⟨2, ![1024, 5632]⟩ : Shape).size a)
    (P : (⟨2, ![R, 256]⟩ : Shape).Idx → EReal)
    (hP : ∀ r k, P (ix2 r k) = chunk (u r)
      (fun i => View.readAt (Elt Ideal) mr.view (Rect.unit (s := (⟨2, ![1024, 5632]⟩ : Shape)) ![0, o] (⟨2, ![1024, 256]⟩ : Shape).size inbA).toLoadRect (h.unread X) (ix2 i k))
      (fun i => View.readAt (Elt Ideal) mr.view (Rect.unit (s := (⟨2, ![1024, 5632]⟩ : Shape)) ![0, o'] (⟨2, ![1024, 256]⟩ : Shape).size inbB).toLoadRect (h.unread X) (ix2 i k)))
    (inb : ∀ a, (![0, o] : Fin 2 → ℕ) a + (⟨2, ![R, 256]⟩ : Shape).size a ≤ (⟨2, ![R, 2816]⟩ : Shape).size a)
    (x : (⟨2, ![R, 256]⟩ : Shape).Idx) :
    P x = gates u (fun a b => X (ix2 a b)) ((Rect.unit (s := (⟨2, ![R, 2816]⟩ : Shape)) ![0, o] (⟨2, ![R, 256]⟩ : Shape).size inb).emb x) := by
  obtain ⟨r, k, rfl⟩ : ∃ (r : Fin R) (k : Fin 256), x = ix2 r k := ⟨x 0, x 1, eq_ix2 x⟩
  subst ho'
  rw [hP]
  have h0 : (Rect.unit (s := (⟨2, ![R, 2816]⟩ : Shape)) ![0, o] (⟨2, ![R, 256]⟩ : Shape).size inb).emb (ix2 r k)
      = ix2 r ⟨o + k.val, by omega⟩ := by
    funext a
    apply Fin.ext
    match a with
    | ⟨0, _⟩ => show 0 + 1 * r.val = r.val; omega
    | ⟨1, _⟩ => show o + 1 * k.val = o + k.val; omega
  rw [h0]
  have hA := fun i => load_cols h X o (by omega) inbA i k
  have hB := fun i => load_cols h X (2816 + o) (by omega) inbB i k
  rw [funext hA, funext hB]
  show chunk (u r) _ _ = gate (u r) _ _
  unfold chunk gate proj
  have e : (⟨2816 + o + k.val, by omega⟩ : Fin 5632) = ⟨2816 + (o + k.val), by omega⟩ := Fin.ext (by simp only; omega)
  simp only [e]
  rfl

end Cert.Layer

end
-- ==== Proof.Value.Rows.lean ====
/- The body's results as plain rows: each row it stores is the half step of the row it read. -/
module

public import proofs.«01_k».proof.Proof.Value.Chunk
public import proofs.«01_k».proof.Proof.Ffn.Frame

@[expose] public section

set_option maxRecDepth 16384

noncomputable section

namespace Cert.KernelIdeal.Ffn

open Cert.KernelIdeal Cert.KernelIdeal.Gen Idealize.ShloMosaic Idealize.ShloMosaic.TcCoe Idealize.ShloMosaic.Tactic
open Cert.Layer

/-! ## The stored blocks of gated entries -/

theorem gated31 (u : FVec Ideal S1024x1024 .bf16) (a b : Vec Ideal S1024x256 .bf16) (r : Fin 1024) (k : Fin 256) :
    k0_pay31 u a b (ix2 r k) = chunk (fun i => u (ix2 r i)) (fun i => a (ix2 i k)) (fun i => b (ix2 i k)) := by
  pointwise [k0_pay31, chunk]

theorem gated32 (u : FVec Ideal S1024x1024 .bf16) (a b : Vec Ideal S1024x256 .bf16) (r : Fin 1024) (k : Fin 256) :
    k0_pay32 u a b (ix2 r k) = chunk (fun i => u (ix2 r i)) (fun i => a (ix2 i k)) (fun i => b (ix2 i k)) := by
  pointwise [k0_pay32, chunk]

theorem gated35 (u : FVec Ideal S1024x1024 .bf16) (a b : Vec Ideal S1024x256 .bf16) (r : Fin 1024) (k : Fin 256) :
    k0_pay35 u a b (ix2 r k) = chunk (fun i => u (ix2 r i)) (fun i => a (ix2 i k)) (fun i => b (ix2 i k)) := by
  pointwise [k0_pay35, chunk]

theorem gated36 (u : FVec Ideal S1024x1024 .bf16) (a b : Vec Ideal S1024x256 .bf16) (r : Fin 1024) (k : Fin 256) :
    k0_pay36 u a b (ix2 r k) = chunk (fun i => u (ix2 r i)) (fun i => a (ix2 i k)) (fun i => b (ix2 i k)) := by
  pointwise [k0_pay36, chunk]

theorem gated40 (u : FVec Ideal S1024x1024 .bf16) (a b : Vec Ideal S1024x256 .bf16) (r : Fin 1024) (k : Fin 256) :
    k0_pay40 u a b (ix2 r k) = chunk (fun i => u (ix2 r i)) (fun i => a (ix2 i k)) (fun i => b (ix2 i k)) := by
  pointwise [k0_pay40, chunk]

theorem gated41 (u : FVec Ideal S1024x1024 .bf16) (a b : Vec Ideal S1024x256 .bf16) (r : Fin 1024) (k : Fin 256) :
    k0_pay41 u a b (ix2 r k) = chunk (fun i => u (ix2 r i)) (fun i => a (ix2 i k)) (fun i => b (ix2 i k)) := by
  pointwise [k0_pay41, chunk]

theorem gated44 (u : FVec Ideal S1024x1024 .bf16) (a b : Vec Ideal S1024x256 .bf16) (r : Fin 1024) (k : Fin 256) :
    k0_pay44 u a b (ix2 r k) = chunk (fun i => u (ix2 r i)) (fun i => a (ix2 i k)) (fun i => b (ix2 i k)) := by
  pointwise [k0_pay44, chunk]

theorem gated33 (u : FVec Ideal S1024x1024 .bf16) (a b : Vec Ideal S1024x256 .bf16) (r : Fin 1024) (k : Fin 256) :
    k0_pay34 (k0_pay33 u a b) (ix2 r k) = chunk (fun i => u (ix2 r i)) (fun i => a (ix2 i k)) (fun i => b (ix2 i k)) := by
  pointwise [k0_pay34, k0_pay33, chunk]

theorem gated39 (u : FVec Ideal S1024x1024 .bf16) (a b : Vec Ideal S1024x256 .bf16) (r : Fin 1024) (k : Fin 256) :
    k0_pay39 u (k0_pay37 u a) (k0_pay38 b) (ix2 r k) = chunk (fun i => u (ix2 r i)) (fun i => a (ix2 i k)) (fun i => b (ix2 i k)) := by
  pointwise [k0_pay37, k0_pay38, k0_pay39, chunk]

theorem gated43 (u : FVec Ideal S1024x1024 .bf16) (a b : Vec Ideal S1024x256 .bf16) (r : Fin 1024) (k : Fin 256) :
    k0_pay43 u (k0_pay42 a) b (ix2 r k) = chunk (fun i => u (ix2 r i)) (fun i => a (ix2 i k)) (fun i => b (ix2 i k)) := by
  pointwise [k0_pay42, k0_pay43, chunk]

theorem gated30 (x : Vec Ideal S1024x1024 .f32) (g : Vec Ideal S1x1024 .f32) (a b : Vec Ideal S1024x256 .bf16) (r : Fin 1024) (k : Fin 256) :
    k0_pay30 x g a b (ix2 r k) = chunk (fun i => k0_pay29 x g (ix2 r i)) (fun i => a (ix2 i k)) (fun i => b (ix2 i k)) := by
  pointwise [k0_pay30, chunk]

/-- The rows read are normalized with the first gains. -/
theorem normed (x : Vec Ideal S1024x1024 .f32) (g : Vec Ideal S1x1024 .f32) (r i : Fin 1024) :
    k0_pay29 x g (ix2 r i) = rms (fun k => x (ix2 r k)) (fun k => g (ix2 0 k)) i := by
  pointwise [k0_pay29, k0_pay27, rms]

/-- The last product, its normalization and the sum with the row. -/
theorem finished (x : Vec Ideal S1024x1024 .f32) (g : Vec Ideal S1x1024 .f32) (v : Vec Ideal S1024x2816 .bf16) (w : Vec Ideal S2816x1024 .bf16)
    (r j : Fin 1024) :
    k0_pay1 (k0_pay27 x) (k0_pay28 g) (k0_pay45 v w) (k0_pay46 v w) (ix2 r j)
      = x (ix2 r j) + Ideal.ofBits .f32 0x3F000000#32 * rms (fun k => ∑ i, v (ix2 r i) * w (ix2 i k)) (fun k => g (ix2 0 k)) j := by
  pointwise [k0_pay1, k0_pay27, k0_pay28, k0_pay45, k0_pay46, rms]

/-- The buffer of gated entries, read back whole. -/
theorem act_rows (c : Dev nD) (a0 : Memref sig .tc .vmem S1024x1024 .f32) (h0 : a0.IsWhole) (a2 : Memref sig .tc .vmem S1x1024 .f32) (h2 : a2.IsWhole)
    (a4 : Memref sig .tc .vmem S1024x5632 .bf16) (h4 : a4.IsWhole) (a22 : Memref sig .tc .vmem S1024x2816 .bf16)
    (x0 : Vec Ideal S1024x1024 .f32) (x2 : Vec Ideal S1x1024 .f32) (x4 : Vec Ideal S1024x5632 .bf16) (y : S1024x2816.Idx) :
    runB.sl.v193 (F := Ideal) c a0 h0 a2 h2 a4 h4 a22 x0 x2 x4 y
      = gates (fun r => rms (fun k => x0 (ix2 r k)) (fun k => x2 (ix2 0 k))) (fun a b => x4 (ix2 a b)) y := by
  have hu : (fun r => rms (fun k => x0 (ix2 r k)) (fun k => x2 (ix2 0 k)))
      = fun (r : Fin 1024) (i : Fin 1024) => runB.sl.r_3 (F := Ideal) c a0 h0 a2 h2 x0 x2 (ix2 r i) := by
    funext r i
    unfold runB.sl.r_3
    rw [load_whole h0 _ zeros2, load_whole h2 _ zeros2, normed]
  rw [hu]
  unfold runB.sl.v193
  rw [View.readCov_eq_canon']
  have hy : (Rect.unit (s := S1024x2816) ![0, 0] S1024x2816.size inb_S1024x2816_S1024x2816_0_0).toLoadRect.idx y = y := by
    funext a
    apply Fin.ext
    match a with
    | ⟨0, _⟩ => show 0 + 1 * (y 0).val = (y 0).val; omega
    | ⟨1, _⟩ => show 0 + 1 * (y 1).val = (y 1).val; omega
  show View.canon _ ((Rect.unit (s := S1024x2816) ![0, 0] S1024x2816.size inb_S1024x2816_S1024x2816_0_0).toLoadRect.idx y) = _
  rw [hy]
  refine View.canon_apply_of_pieces (Val := Elt Ideal) (S := S1024x2816) (e := .bf16) (gates _ _) _ ?_ y (View.cover_of_tiledL (s := S1024x2816) _ S1024x256.size (by sl_kernel_rfl) y)
  unfold runB.sl.H22_11
  refine List.forall_mem_cons.2 ⟨fun x => stored _ h4 x4 2560 5376 (by decide) (by decide) inb_S1024x5632_S1024x256_0_2560 inb_S1024x5632_S1024x256_0_5376 _ (fun r k => gated44 _ _ _ r k) inb_S1024x2816_S1024x256_0_2560 x, ?_⟩
  refine List.forall_mem_cons.2 ⟨fun x => stored _ h4 x4 2304 5120 (by decide) (by decide) inb_S1024x5632_S1024x256_0_2304 inb_S1024x5632_S1024x256_0_5120 _ (fun r k => gated43 _ _ _ r k) inb_S1024x2816_S1024x256_0_2304 x, ?_⟩
  refine List.forall_mem_cons.2 ⟨fun x => stored _ h4 x4 2048 4864 (by decide) (by decide) inb_S1024x5632_S1024x256_0_2048 inb_S1024x5632_S1024x256_0_4864 _ (fun r k => gated41 _ _ _ r k) inb_S1024x2816_S1024x256_0_2048 x, ?_⟩
  refine List.forall_mem_cons.2 ⟨fun x => stored _ h4 x4 1792 4608 (by decide) (by decide) inb_S1024x5632_S1024x256_0_1792 inb_S1024x5632_S1024x256_0_4608 _ (fun r k => gated40 _ _ _ r k) inb_S1024x2816_S1024x256_0_1792 x, ?_⟩
  refine List.forall_mem_cons.2 ⟨fun x => stored _ h4 x4 1536 4352 (by decide) (by decide) inb_S1024x5632_S1024x256_0_1536 inb_S1024x5632_S1024x256_0_4352 _ (fun r k => gated39 _ _ _ r k) inb_S1024x2816_S1024x256_0_1536 x, ?_⟩
  refine List.forall_mem_cons.2 ⟨fun x => stored _ h4 x4 1280 4096 (by decide) (by decide) inb_S1024x5632_S1024x256_0_1280 inb_S1024x5632_S1024x256_0_4096 _ (fun r k => gated36 _ _ _ r k) inb_S1024x2816_S1024x256_0_1280 x, ?_⟩
  refine List.forall_mem_cons.2 ⟨fun x => stored _ h4 x4 1024 3840 (by decide) (by decide) inb_S1024x5632_S1024x256_0_1024 inb_S1024x5632_S1024x256_0_3840 _ (fun r k => gated35 _ _ _ r k) inb_S1024x2816_S1024x256_0_1024 x, ?_⟩
  refine List.forall_mem_cons.2 ⟨fun x => stored _ h4 x4 768 3584 (by decide) (by decide) inb_S1024x5632_S1024x256_0_768 inb_S1024x5632_S1024x256_0_3584 _ (fun r k => gated33 _ _ _ r k) inb_S1024x2816_S1024x256_0_768 x, ?_⟩
  refine List.forall_mem_cons.2 ⟨fun x => stored _ h4 x4 512 3328 (by decide) (by decide) inb_S1024x5632_S1024x256_0_512 inb_S1024x5632_S1024x256_0_3328 _ (fun r k => gated32 _ _ _ r k) inb_S1024x2816_S1024x256_0_512 x, ?_⟩
  refine List.forall_mem_cons.2 ⟨fun x => stored _ h4 x4 256 3072 (by decide) (by decide) inb_S1024x5632_S1024x256_0_256 inb_S1024x5632_S1024x256_0_3072 _ (fun r k => gated31 _ _ _ r k) inb_S1024x2816_S1024x256_0_256 x, ?_⟩
  refine List.forall_mem_cons.2 ⟨fun x => stored _ h4 x4 0 2816 (by decide) (by decide) inb_S1024x5632_S1024x256_0_0 inb_S1024x5632_S1024x256_0_2816 _ (fun r k => gated30 _ _ _ _ r k) inb_S1024x2816_S1024x256_0_0 x, ?_⟩
  exact List.forall_mem_nil _

/-- The rows a later point leaves. -/
theorem later_rows (c : Dev nD) (t : Fin cfg0.N) (m : (ℓ : Loc nD τ sig) → Buf (Elt Ideal) ℓ) (h : ¬ cond0 (grid0.coords t)) (x14 : Vec Ideal S16x1024 .f32) (r j : Fin 1024) :
    View.canon (laterRun m c t h x14).1 (ix2 r j)
      = half (fun k => iblk m c 0 t (ix2 r k)) (fun k => iblk m c 2 t (ix2 0 k)) (fun k => iblk m c 3 t (ix2 0 k))
          (fun a b => iblk m c 4 t (ix2 a b)) (fun a b => iblk m c 5 t (ix2 a b)) j := by
  unfold laterRun runB
  dsimp only
  rw [View.canon_unit_zero zeros2]
  unfold runB.sl.r_1 runB.sl.r_2 runB.sl.r_8 runB.sl.r_9
  rw [load_whole _ _ zeros2, load_whole _ _ zeros2, load_whole _ _ zeros2, finished]
  unfold half mlp
  simp only [act_rows]
  rfl

/-! ## The same at the first point, and the small array's rows -/

theorem gated8 (u : FVec Ideal S16x1024 .bf16) (a b : Vec Ideal S1024x256 .bf16) (r : Fin 16) (k : Fin 256) :
    k0_pay8 u a b (ix2 r k) = chunk (fun i => u (ix2 r i)) (fun i => a (ix2 i k)) (fun i => b (ix2 i k)) := by
  pointwise [k0_pay8, chunk]

theorem gated9 (u : FVec Ideal S16x1024 .bf16) (a b : Vec Ideal S1024x256 .bf16) (r : Fin 16) (k : Fin 256) :
    k0_pay9 u a b (ix2 r k) = chunk (fun i => u (ix2 r i)) (fun i => a (ix2 i k)) (fun i => b (ix2 i k)) := by
  pointwise [k0_pay9, chunk]

theorem gated12 (u : FVec Ideal S16x1024 .bf16) (a b : Vec Ideal S1024x256 .bf16) (r : Fin 16) (k : Fin 256) :
    k0_pay12 u a b (ix2 r k) = chunk (fun i => u (ix2 r i)) (fun i => a (ix2 i k)) (fun i => b (ix2 i k)) := by
  pointwise [k0_pay12, chunk]

theorem gated13 (u : FVec Ideal S16x1024 .bf16) (a b : Vec Ideal S1024x256 .bf16) (r : Fin 16) (k : Fin 256) :
    k0_pay13 u a b (ix2 r k) = chunk (fun i => u (ix2 r i)) (fun i => a (ix2 i k)) (fun i => b (ix2 i k)) := by
  pointwise [k0_pay13, chunk]

theorem gated14 (u : FVec Ideal S16x1024 .bf16) (a b : Vec Ideal S1024x256 .bf16) (r : Fin 16) (k : Fin 256) :
    k0_pay14 u a b (ix2 r k) = chunk (fun i => u (ix2 r i)) (fun i => a (ix2 i k)) (fun i => b (ix2 i k)) := by
  pointwise [k0_pay14, chunk]

theorem gated15 (u : FVec Ideal S16x1024 .bf16) (a b : Vec Ideal S1024x256 .bf16) (r : Fin 16) (k : Fin 256) :
    k0_pay15 u a b (ix2 r k) = chunk (fun i => u (ix2 r i)) (fun i => a (ix2 i k)) (fun i => b (ix2 i k)) := by
  pointwise [k0_pay15, chunk]

theorem gated18 (u : FVec Ideal S16x1024 .bf16) (a b : Vec Ideal S1024x256 .bf16) (r : Fin 16) (k : Fin 256) :
    k0_pay18 u a b (ix2 r k) = chunk (fun i => u (ix2 r i)) (fun i => a (ix2 i k)) (fun i => b (ix2 i k)) := by
  pointwise [k0_pay18, chunk]

theorem gated17 (u : FVec Ideal S16x1024 .bf16) (a b : Vec Ideal S1024x256 .bf16) (r : Fin 16) (k : Fin 256) :
    k0_pay17 (k0_pay16 u a b) (ix2 r k) = chunk (fun i => u (ix2 r i)) (fun i => a (ix2 i k)) (fun i => b (ix2 i k)) := by
  pointwise [k0_pay17, k0_pay16, chunk]

theorem gated11 (u : FVec Ideal S16x1024 .bf16) (a b : Vec Ideal S1024x256 .bf16) (r : Fin 16) (k : Fin 256) :
    k0_pay11 u (k0_pay10 a) runA.sl.cst_136 b (ix2 r k) = chunk (fun i => u (ix2 r i)) (fun i => a (ix2 i k)) (fun i => b (ix2 i k)) := by
  pointwise [k0_pay10, k0_pay11, runA.sl.cst_136, chunk]

theorem gated4 (x : Vec Ideal S16x1024 .f32) (g : Vec Ideal S1x1024 .f32) (a b : Vec Ideal S1024x256 .bf16) (r : Fin 16) (k : Fin 256) :
    k0_pay4 x g a b (ix2 r k) = chunk (fun i => k0_pay3 x g (ix2 r i)) (fun i => a (ix2 i k)) (fun i => b (ix2 i k)) := by
  pointwise [k0_pay4, chunk]

theorem gated7 (x : Vec Ideal S16x1024 .f32) (g : Vec Ideal S1x1024 .f32) (a b : Vec Ideal S1024x256 .bf16) (r : Fin 16) (k : Fin 256) :
    k0_pay7 (k0_pay3 x g) (k0_pay5 x g a) (k0_pay6 b) runA.sl.cst_136 (ix2 r k)
      = chunk (fun i => k0_pay3 x g (ix2 r i)) (fun i => a (ix2 i k)) (fun i => b (ix2 i k)) := by
  pointwise [k0_pay7, k0_pay6, k0_pay5, runA.sl.cst_136, chunk]

/-- The small array's rows are normalized with the first gains. -/
theorem small_normed (x : Vec Ideal S16x1024 .f32) (g : Vec Ideal S1x1024 .f32) (r : Fin 16) (i : Fin 1024) :
    k0_pay3 x g (ix2 r i) = rms (fun k => x (ix2 r k)) (fun k => g (ix2 0 k)) i := by
  pointwise [k0_pay3, rms]

/-- The small array's last product, its normalization and the sum with the row. -/
theorem small_finished (x : Vec Ideal S16x1024 .f32) (g : Vec Ideal S1x1024 .f32) (v : Vec Ideal S16x2816 .bf16) (w : Vec Ideal S2816x1024 .bf16)
    (r : Fin 16) (j : Fin 1024) :
    k0_pay19 x (k0_pay2 g) v w (ix2 r j)
      = x (ix2 r j) + Ideal.ofBits .f32 0x3F000000#32 * rms (fun k => ∑ i, v (ix2 r i) * w (ix2 i k)) (fun k => g (ix2 0 k)) j := by
  pointwise [k0_pay19, k0_pay2, rms]

/-- The small array's buffer of gated entries, read back whole. -/
theorem small_act_rows (c : Dev nD) (a1 : Memref sig .tc .vmem S16x1024 .f32) (h1 : a1.IsWhole) (a2 : Memref sig .tc .vmem S1x1024 .f32) (h2 : a2.IsWhole)
    (a4 : Memref sig .tc .vmem S1024x5632 .bf16) (h4 : a4.IsWhole) (a23 : Memref sig .tc .vmem S16x2816 .bf16)
    (x1 : Vec Ideal S16x1024 .f32) (x2 : Vec Ideal S1x1024 .f32) (x4 : Vec Ideal S1024x5632 .bf16) (y : S16x2816.Idx) :
    runA.sl.v374 (F := Ideal) c a1 h1 a2 h2 a4 h4 a23 x1 x2 x4 y
      = gates (fun r => rms (fun k => x1 (ix2 r k)) (fun k => x2 (ix2 0 k))) (fun a b => x4 (ix2 a b)) y := by
  have hu : (fun r => rms (fun k => x1 (ix2 r k)) (fun k => x2 (ix2 0 k)))
      = fun (r : Fin 16) (i : Fin 1024) => runA.sl.r_3 (F := Ideal) c a1 h1 a2 h2 x1 x2 (ix2 r i) := by
    funext r i
    unfold runA.sl.r_3
    rw [load_whole h1 _ zeros2, load_whole h2 _ zeros2, small_normed]
  rw [hu]
  unfold runA.sl.v374
  rw [View.readCov_eq_canon']
  have hy : (Rect.unit (s := S16x2816) ![0, 0] S16x2816.size inb_S16x2816_S16x2816_0_0).toLoadRect.idx y = y := by
    funext a
    apply Fin.ext
    match a with
    | ⟨0, _⟩ => show 0 + 1 * (y 0).val = (y 0).val; omega
    | ⟨1, _⟩ => show 0 + 1 * (y 1).val = (y 1).val; omega
  show View.canon _ ((Rect.unit (s := S16x2816) ![0, 0] S16x2816.size inb_S16x2816_S16x2816_0_0).toLoadRect.idx y) = _
  rw [hy]
  refine View.canon_apply_of_pieces (Val := Elt Ideal) (S := S16x2816) (e := .bf16) (gates _ _) _ ?_ y (View.cover_of_tiledL (s := S16x2816) _ S16x256.size (by sl_kernel_rfl) y)
  unfold runA.sl.H23_11
  refine List.forall_mem_cons.2 ⟨fun x => stored _ h4 x4 2560 5376 (by decide) (by decide) inb_S1024x5632_S1024x256_0_2560 inb_S1024x5632_S1024x256_0_5376 _ (fun r k => gated18 _ _ _ r k) inb_S16x2816_S16x256_0_2560 x, ?_⟩
  refine List.forall_mem_cons.2 ⟨fun x => stored _ h4 x4 2304 5120 (by decide) (by decide) inb_S1024x5632_S1024x256_0_2304 inb_S1024x5632_S1024x256_0_5120 _ (fun r k => gated17 _ _ _ r k) inb_S16x2816_S16x256_0_2304 x, ?_⟩
  refine List.forall_mem_cons.2 ⟨fun x => stored _ h4 x4 2048 4864 (by decide) (by decide) inb_S1024x5632_S1024x256_0_2048 inb_S1024x5632_S1024x256_0_4864 _ (fun r k => gated15 _ _ _ r k) inb_S16x2816_S16x256_0_2048 x, ?_⟩
  refine List.forall_mem_cons.2 ⟨fun x => stored _ h4 x4 1792 4608 (by decide) (by decide) inb_S1024x5632_S1024x256_0_1792 inb_S1024x5632_S1024x256_0_4608 _ (fun r k => gated14 _ _ _ r k) inb_S16x2816_S16x256_0_1792 x, ?_⟩
  refine List.forall_mem_cons.2 ⟨fun x => stored _ h4 x4 1536 4352 (by decide) (by decide) inb_S1024x5632_S1024x256_0_1536 inb_S1024x5632_S1024x256_0_4352 _ (fun r k => gated13 _ _ _ r k) inb_S16x2816_S16x256_0_1536 x, ?_⟩
  refine List.forall_mem_cons.2 ⟨fun x => stored _ h4 x4 1280 4096 (by decide) (by decide) inb_S1024x5632_S1024x256_0_1280 inb_S1024x5632_S1024x256_0_4096 _ (fun r k => gated12 _ _ _ r k) inb_S16x2816_S16x256_0_1280 x, ?_⟩
  refine List.forall_mem_cons.2 ⟨fun x => stored _ h4 x4 1024 3840 (by decide) (by decide) inb_S1024x5632_S1024x256_0_1024 inb_S1024x5632_S1024x256_0_3840 _ (fun r k => gated11 _ _ _ r k) inb_S16x2816_S16x256_0_1024 x, ?_⟩
  refine List.forall_mem_cons.2 ⟨fun x => stored _ h4 x4 768 3584 (by decide) (by decide) inb_S1024x5632_S1024x256_0_768 inb_S1024x5632_S1024x256_0_3584 _ (fun r k => gated9 _ _ _ r k) inb_S16x2816_S16x256_0_768 x, ?_⟩
  refine List.forall_mem_cons.2 ⟨fun x => stored _ h4 x4 512 3328 (by decide) (by decide) inb_S1024x5632_S1024x256_0_512 inb_S1024x5632_S1024x256_0_3328 _ (fun r k => gated8 _ _ _ r k) inb_S16x2816_S16x256_0_512 x, ?_⟩
  refine List.forall_mem_cons.2 ⟨fun x => stored _ h4 x4 256 3072 (by decide) (by decide) inb_S1024x5632_S1024x256_0_256 inb_S1024x5632_S1024x256_0_3072 _ (fun r k => gated7 _ _ _ _ r k) inb_S16x2816_S16x256_0_256 x, ?_⟩
  refine List.forall_mem_cons.2 ⟨fun x => stored _ h4 x4 0 2816 (by decide) (by decide) inb_S1024x5632_S1024x256_0_0 inb_S1024x5632_S1024x256_0_2816 _ (fun r k => gated4 _ _ _ _ r k) inb_S16x2816_S16x256_0_0 x, ?_⟩
  exact List.forall_mem_nil _

/-- The rows the first point leaves. -/
theorem first_rows (c : Dev nD) (t : Fin cfg0.N) (m : (ℓ : Loc nD τ sig) → Buf (Elt Ideal) ℓ) (h : cond0 (grid0.coords t)) (r j : Fin 1024) :
    View.canon (firstRun m c t h).1 (ix2 r j)
      = half (fun k => iblk m c 0 t (ix2 r k)) (fun k => iblk m c 2 t (ix2 0 k)) (fun k => iblk m c 3 t (ix2 0 k))
          (fun a b => iblk m c 4 t (ix2 a b)) (fun a b => iblk m c 5 t (ix2 a b)) j := by
  have hv : ∀ a0 h0 a2 h2 a4 h4 a22 x0 x2 x4, runA.sl.v193 (F := Ideal) c a0 h0 a2 h2 a4 h4 a22 x0 x2 x4 = runB.sl.v193 (F := Ideal) c a0 h0 a2 h2 a4 h4 a22 x0 x2 x4 :=
    fun _ _ _ _ _ _ _ _ _ _ => rfl
  unfold firstRun runA
  dsimp only
  rw [View.canon_unit_zero zeros2]
  unfold runA.sl.r_10 runA.sl.r_11 runA.sl.r_17 runA.sl.r_18
  rw [load_whole _ _ zeros2, load_whole _ _ zeros2, load_whole _ _ zeros2, hv, finished]
  unfold half mlp
  simp only [act_rows]
  rfl

/-- The small array's rows. -/
theorem small_rows (c : Dev nD) (m : (ℓ : Loc nD τ sig) → Buf (Elt Ideal) ℓ) (r : Fin 16) (j : Fin 1024) :
    smallRows m c (ix2 r j)
      = half (fun k => iblk m c 1 start (ix2 r k)) (fun k => iblk m c 2 start (ix2 0 k)) (fun k => iblk m c 3 start (ix2 0 k))
          (fun a b => iblk m c 4 start (ix2 a b)) (fun a b => iblk m c 5 start (ix2 a b)) j := by
  unfold smallRows firstRun runA
  dsimp only
  rw [View.canon_unit_zero zeros2]
  unfold runA.sl.r_9 runA.sl.r_1 runA.sl.r_2
  rw [load_whole _ _ zeros2, load_whole _ _ zeros2, load_whole _ _ zeros2, small_finished]
  unfold half mlp
  simp only [small_act_rows]
  rfl

/-- The rows every point leaves. -/
theorem big_rows (c : Dev nD) (t : Fin cfg0.N) (m : (ℓ : Loc nD τ sig) → Buf (Elt Ideal) ℓ) (r j : Fin 1024) :
    bigRows m c t (ix2 r j)
      = half (fun k => iblk m c 0 t (ix2 r k)) (fun k => iblk m c 2 t (ix2 0 k)) (fun k => iblk m c 3 t (ix2 0 k))
          (fun a b => iblk m c 4 t (ix2 a b)) (fun a b => iblk m c 5 t (ix2 a b)) j := by
  unfold bigRows
  split
  · exact first_rows c t m _ r j
  · exact later_rows c t m _ _ r j

end Cert.KernelIdeal.Ffn

end
-- ==== Proof.Value.Reference.lean ====
/- What the reference returns, read at an index: each row of its results is the plain half step of the row. -/
module

public import proofs.«01_k».proof.Proof.Value.HalfStep
public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe
open Cert.Layer

/-- The normalized rows of a 16 array. -/
def norm16 (x : FVec Ideal S16x1024 .f32) (g : FVec Ideal S1024 .f32) : FVec Ideal S16x1024 .f32 :=
  mulf (mulf x (broadcastInDim S16x1024 ![0, 1] bcast_S16x1_S16x1024_0_1 (Host.rsqrt (addf (Host.divf (broadcastInDim S16x1 ![0] bcast_S16_S16x1_0 (Host.reduceAdd (mulf x x) (constant S_ .f32 0x00000000#32) reducesTo_S16x1024_S16_d1 h_S_)) (broadcastInDim S16x1 ![] bcast_S_S16x1 (constant S_ .f32 0x44800000#32))) (broadcastInDim S16x1 ![] bcast_S_S16x1 (constant S_ .f32 0x358637BD#32)))))) (broadcastInDim S16x1024 ![0, 1] bcast_S1x1024_S16x1024_0_1 (broadcastInDim S1x1024 ![1] bcast_S1024_S1x1024_1 g))

/-- The gated products of a 16 array's rows. -/
def gate16 (u : FVec Ideal S16x1024 .f32) (w : FVec Ideal S1024x5632 .f32) : FVec Ideal S16x2816 .f32 :=
  mulf (mulf (extractStridedSlice S16x2816 ![0, 0] (Host.dotGeneral dot_S16x1024_S1024x5632_S16x5632_1_0_0_1_n_n none u w) slices_S16x5632_S16x2816_0_0) (Host.divf (broadcastInDim S16x2816 ![] bcast_S_S16x2816 (constant S_ .f32 0x3F800000#32)) (addf (broadcastInDim S16x2816 ![] bcast_S_S16x2816 (constant S_ .f32 0x3F800000#32)) (Host.exp (Host.negf (extractStridedSlice S16x2816 ![0, 0] (Host.dotGeneral dot_S16x1024_S1024x5632_S16x5632_1_0_0_1_n_n none u w) slices_S16x5632_S16x2816_0_0)))))) (extractStridedSlice S16x2816 ![0, 2816] (Host.dotGeneral dot_S16x1024_S1024x5632_S16x5632_1_0_0_1_n_n none u w) slices_S16x5632_S16x2816_0_2816)

/-- The half step of a 16 array. -/
def half16 (h : FVec Ideal S16x1024 .f32) (gpre gpost : FVec Ideal S1024 .f32) (w : FVec Ideal S1024x5632 .f32) (w' : FVec Ideal S2816x1024 .f32) : FVec Ideal S16x1024 .f32 :=
  addf h (mulf (broadcastInDim S16x1024 ![] bcast_S_S16x1024 (constant S_ .f32 0x3F000000#32)) (norm16 (Host.dotGeneral dot_S16x2816_S2816x1024_S16x1024_1_0_0_1_n_n none (gate16 (norm16 h gpre) w) w') gpost))

theorem norm16_apply (x : FVec Ideal S16x1024 .f32) (g : FVec Ideal S1024 .f32) (r : Fin 16) (j : Fin 1024) :
    norm16 x g (ix2 r j) = rms (fun k => x (ix2 r k)) (fun k => g (ix1 k)) j := by
  pointwise [norm16, rms]

theorem gate16_apply (u : FVec Ideal S16x1024 .f32) (w : FVec Ideal S1024x5632 .f32) (r : Fin 16) (j : Fin 2816) :
    gate16 u w (ix2 r j) = gate (fun k => u (ix2 r k)) (fun a b => w (ix2 a b)) j := by
  pointwise [gate16, gate, proj, Ideal.logistic]

theorem half16_apply (h : FVec Ideal S16x1024 .f32) (gpre gpost : FVec Ideal S1024 .f32) (w : FVec Ideal S1024x5632 .f32)
    (w' : FVec Ideal S2816x1024 .f32) (r : Fin 16) (j : Fin 1024) :
    half16 h gpre gpost w w' (ix2 r j)
      = half (fun k => h (ix2 r k)) (fun k => gpre (ix1 k)) (fun k => gpost (ix1 k)) (fun a b => w (ix2 a b)) (fun a b => w' (ix2 a b)) j := by
  have hm : ∀ k, Host.dotGeneral dot_S16x2816_S2816x1024_S16x1024_1_0_0_1_n_n none (gate16 (norm16 h gpre) w) w' (ix2 r k)
      = mlp (rms (fun k => h (ix2 r k)) (fun k => gpre (ix1 k))) (fun a b => w (ix2 a b)) (fun a b => w' (ix2 a b)) k := by
    intro k
    pointwise [mlp]
    simp only [gate16_apply, norm16_apply]
  have h2 : half16 h gpre gpost w w' (ix2 r j)
      = h (ix2 r j) + Ideal.ofBits .f32 0x3F000000#32 * norm16 (Host.dotGeneral dot_S16x2816_S2816x1024_S16x1024_1_0_0_1_n_n none (gate16 (norm16 h gpre) w) w') gpost (ix2 r j) := by
    unfold half16; pointwise
  rw [h2, norm16_apply, half, funext hm]

/-- The normalized rows of a 2x8192 array. -/
def norm2x8192 (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The gated products of a 2x8192 array's rows. -/
def gate2x8192 (u : FVec Ideal S2x8192x1024 .f32) (w : FVec Ideal S1024x5632 .f32) : FVec Ideal S2x8192x2816 .f32 :=
  mulf (mulf (extractStridedSlice S2x8192x2816 ![0, 0, 0] (Host.dotGeneral dot_S2x8192x1024_S1024x5632_S2x8192x5632_2_0_01_1_n_n none u w) slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] (Host.dotGeneral dot_S2x8192x1024_S1024x5632_S2x8192x5632_2_0_01_1_n_n none u w) slices_S2x8192x5632_S2x8192x2816_0_0_0)))))) (extractStridedSlice S2x8192x2816 ![0, 0, 2816] (Host.dotGeneral dot_S2x8192x1024_S1024x5632_S2x8192x5632_2_0_01_1_n_n none u w) slices_S2x8192x5632_S2x8192x2816_0_0_2816)

/-- The half step of a 2x8192 array. -/
def half2x8192 (h : FVec Ideal S2x8192x1024 .f32) (gpre gpost : FVec Ideal S1024 .f32) (w : FVec Ideal S1024x5632 .f32) (w' : FVec Ideal S2816x1024 .f32) : FVec Ideal S2x8192x1024 .f32 :=
  addf h (mulf (broadcastInDim S2x8192x1024 ![] bcast_S_S2x8192x1024 (constant S_ .f32 0x3F000000#32)) (norm2x8192 (Host.dotGeneral dot_S2x8192x2816_S2816x1024_S2x8192x1024_2_0_01_1_n_n none (gate2x8192 (norm2x8192 h gpre) w) w') gpost))

theorem norm2x8192_apply (x : FVec Ideal S2x8192x1024 .f32) (g : FVec Ideal S1024 .f32) (b : Fin 2) (r : Fin 8192) (j : Fin 1024) :
    norm2x8192 x g (ix3 b r j) = rms (fun k => x (ix3 b r k)) (fun k => g (ix1 k)) j := by
  pointwise [norm2x8192, rms]

theorem gate2x8192_apply (u : FVec Ideal S2x8192x1024 .f32) (w : FVec Ideal S1024x5632 .f32) (b : Fin 2) (r : Fin 8192) (j : Fin 2816) :
    gate2x8192 u w (ix3 b r j) = gate (fun k => u (ix3 b r k)) (fun a b => w (ix2 a b)) j := by
  pointwise [gate2x8192, gate, proj, Ideal.logistic]

theorem half2x8192_apply (h : FVec Ideal S2x8192x1024 .f32) (gpre gpost : FVec Ideal S1024 .f32) (w : FVec Ideal S1024x5632 .f32)
    (w' : FVec Ideal S2816x1024 .f32) (b : Fin 2) (r : Fin 8192) (j : Fin 1024) :
    half2x8192 h gpre gpost w w' (ix3 b r j)
      = half (fun k => h (ix3 b r k)) (fun k => gpre (ix1 k)) (fun k => gpost (ix1 k)) (fun a b => w (ix2 a b)) (fun a b => w' (ix2 a b)) j := by
  have hm : ∀ k, Host.dotGeneral dot_S2x8192x2816_S2816x1024_S2x8192x1024_2_0_01_1_n_n none (gate2x8192 (norm2x8192 h gpre) w) w' (ix3 b r k)
      = mlp (rms (fun k => h (ix3 b r k)) (fun k => gpre (ix1 k))) (fun a b => w (ix2 a b)) (fun a b => w' (ix2 a b)) k := by
    intro k
    pointwise [mlp]
    simp only [gate2x8192_apply, norm2x8192_apply]
  have h2 : half2x8192 h gpre gpost w w' (ix3 b r j)
      = h (ix3 b r j) + Ideal.ofBits .f32 0x3F000000#32 * norm2x8192 (Host.dotGeneral dot_S2x8192x2816_S2816x1024_S2x8192x1024_2_0_01_1_n_n none (gate2x8192 (norm2x8192 h gpre) w) w') gpost (ix3 b r j) := by
    unfold half2x8192; pointwise
  rw [h2, norm2x8192_apply, half, funext hm]

/-- The reference's small result, of the arrays it is made from. -/
def small (x : FVec Ideal S16x1024 .f32) (g g' : FVec Ideal S1x1024 .f32) (w : FVec Ideal S1x1024x5632 .f32) (w' : FVec Ideal S1x2816x1024 .f32) :
    FVec Ideal S16x1024 .f32 :=
  half16 x (shapeCast _ g shapeCasts_S1x1024_S1024) (shapeCast _ g' shapeCasts_S1x1024_S1024)
    (shapeCast _ w shapeCasts_S1x1024x5632_S1024x5632) (shapeCast _ w' shapeCasts_S1x2816x1024_S2816x1024)

/-- The reference's large result, its rows in one list. -/
def large (x : FVec Ideal S2x8192x1024 .f32) (g g' : FVec Ideal S1x1024 .f32) (w : FVec Ideal S1x1024x5632 .f32) (w' : FVec Ideal S1x2816x1024 .f32) :
    FVec Ideal S16384x1024 .f32 :=
  shapeCast _ (half2x8192 x (shapeCast _ g shapeCasts_S1x1024_S1024) (shapeCast _ g' shapeCasts_S1x1024_S1024)
    (shapeCast _ w shapeCasts_S1x1024x5632_S1024x5632) (shapeCast _ w' shapeCasts_S1x2816x1024_S2816x1024)) shapeCasts_S2x8192x1024_S16384x1024

/-- A reshaped gain and reshaped weights, read. -/
theorem gain_apply (g : FVec Ideal S1x1024 .f32) (k : Fin 1024) : shapeCast S1024 g shapeCasts_S1x1024_S1024 (ix1 k) = g (ix2 0 k) := by
  pointwise
theorem wide_apply (w : FVec Ideal S1x1024x5632 .f32) (a : Fin 1024) (k : Fin 5632) :
    shapeCast S1024x5632 w shapeCasts_S1x1024x5632_S1024x5632 (ix2 a k) = w (ix3 0 a k) := by
  pointwise
theorem tall_apply (w : FVec Ideal S1x2816x1024 .f32) (a : Fin 2816) (k : Fin 1024) :
    shapeCast S2816x1024 w shapeCasts_S1x2816x1024_S2816x1024 (ix2 a k) = w (ix3 0 a k) := by
  pointwise
theorem listed_apply (x : FVec Ideal S2x8192x1024 .f32) (q : Fin 16384) (j : Fin 1024) (b : Fin 2) (s : Fin 8192) (h : 8192 * b.val + s.val = q.val) :
    shapeCast S16384x1024 x shapeCasts_S2x8192x1024_S16384x1024 (ix2 q j) = x (ix3 b s j) := by
  pointwise
  have hq : (⟨q.val / 8192, by omega⟩ : Fin 2) = b := Fin.ext (by show q.val / 8192 = b.val; omega)
  have hs : (⟨q.val % 8192, by omega⟩ : Fin 8192) = s := Fin.ext (by show q.val % 8192 = s.val; omega)
  rw [← hq, ← hs]

theorem small_apply (x : FVec Ideal S16x1024 .f32) (g g' : FVec Ideal S1x1024 .f32) (w : FVec Ideal S1x1024x5632 .f32) (w' : FVec Ideal S1x2816x1024 .f32)
    (r : Fin 16) (j : Fin 1024) :
    small x g g' w w' (ix2 r j)
      = half (fun k => x (ix2 r k)) (fun k => g (ix2 0 k)) (fun k => g' (ix2 0 k)) (fun a k => w (ix3 0 a k)) (fun a k => w' (ix3 0 a k)) j := by
  unfold small
  rw [half16_apply]
  simp only [gain_apply, wide_apply, tall_apply]

theorem large_apply (x : FVec Ideal S2x8192x1024 .f32) (g g' : FVec Ideal S1x1024 .f32) (w : FVec Ideal S1x1024x5632 .f32) (w' : FVec Ideal S1x2816x1024 .f32)
    (q : Fin 16384) (j : Fin 1024) (b : Fin 2) (s : Fin 8192) (h : 8192 * b.val + s.val = q.val) :
    large x g g' w w' (ix2 q j)
      = half (fun k => x (ix3 b s k)) (fun k => g (ix2 0 k)) (fun k => g' (ix2 0 k)) (fun a k => w (ix3 0 a k)) (fun a k => w' (ix3 0 a k)) j := by
  unfold large
  rw [listed_apply _ q j b s h, half2x8192_apply]
  simp only [gain_apply, wide_apply, tall_apply]

/-- Columns of a weight array, transposed. -/
def front (x : FVec Ideal S1x1024x5128 .f32) : FVec Ideal S1536x1024 .bf16 :=
  truncf .bf16 (transpose S1536x1024 [1, 0] (shapeCast _ (extractStridedSlice S1x1024x1536 ![0, 0, 0] x slices_S1x1024x5128_S1x1024x1536_0_0_0) shapeCasts_S1x1024x1536_S1024x1536) transposes_S1024x1536_S1536x1024_1_0) bitsLt_bf16_f32
def back (x : FVec Ideal S1x1024x5128 .f32) : FVec Ideal S3584x1024 .bf16 :=
  truncf .bf16 (transpose S3584x1024 [1, 0] (shapeCast _ (extractStridedSlice S1x1024x3584 ![0, 0, 1544] x slices_S1x1024x5128_S1x1024x3584_0_0_1544) shapeCasts_S1x1024x3584_S1024x3584) transposes_S1024x3584_S3584x1024_1_0) bitsLt_bf16_f32
/-- A weight array without its leading axis. -/
def bare512 (x : FVec Ideal S1x512x1024 .f32) : FVec Ideal S512x1024 .bf16 := truncf .bf16 (shapeCast _ x shapeCasts_S1x512x1024_S512x1024) bitsLt_bf16_f32
def bare1024 (x : FVec Ideal S1x1024x1024 .f32) : FVec Ideal S1024x1024 .bf16 := truncf .bf16 (shapeCast _ x shapeCasts_S1x1024x1024_S1024x1024) bitsLt_bf16_f32
def bareWide (x : FVec Ideal S1x1024x5632 .f32) : FVec Ideal S1024x5632 .bf16 := truncf .bf16 (shapeCast _ x shapeCasts_S1x1024x5632_S1024x5632) bitsLt_bf16_f32
def bareTall (x : FVec Ideal S1x2816x1024 .f32) : FVec Ideal S2816x1024 .bf16 := truncf .bf16 (shapeCast _ x shapeCasts_S1x2816x1024_S2816x1024) bitsLt_bf16_f32

theorem front_apply (x : FVec Ideal S1x1024x5128 .f32) (q : Fin 1536) (k : Fin 1024) (s : Fin 5128) (h : s.val = q.val) :
    front x (ix2 q k) = x (ix3 0 k s) := by
  have hq : q.val < 5128 := Nat.lt_of_lt_of_le q.isLt (by decide)
  rw [show s = ⟨q.val, hq⟩ from Fin.ext h]
  pointwise [front]
theorem back_apply (x : FVec Ideal S1x1024x5128 .f32) (q : Fin 3584) (k : Fin 1024) (s : Fin 5128) (h : s.val = 1544 + q.val) :
    back x (ix2 q k) = x (ix3 0 k s) := by
  have hq : 1544 + q.val < 5128 := Nat.lt_of_lt_of_le (Nat.add_lt_add_left q.isLt 1544) (by decide)
  rw [show s = ⟨1544 + q.val, hq⟩ from Fin.ext h]
  pointwise [back]
theorem bare512_apply (x : FVec Ideal S1x512x1024 .f32) (q : Fin 512) (k : Fin 1024) : bare512 x (ix2 q k) = x (ix3 0 q k) := by
  pointwise [bare512]
theorem bare1024_apply (x : FVec Ideal S1x1024x1024 .f32) (q : Fin 1024) (k : Fin 1024) : bare1024 x (ix2 q k) = x (ix3 0 q k) := by
  pointwise [bare1024]
theorem bareWide_apply (x : FVec Ideal S1x1024x5632 .f32) (q : Fin 1024) (k : Fin 5632) : bareWide x (ix2 q k) = x (ix3 0 q k) := by
  pointwise [bareWide]
theorem bareTall_apply (x : FVec Ideal S1x2816x1024 .f32) (q : Fin 2816) (k : Fin 1024) : bareTall x (ix2 q k) = x (ix3 0 q k) := by
  pointwise [bareTall]

variable (m : (ℓ : Loc nD τ sig) → Buf (Elt Ideal) ℓ) (c : Dev nD)

/-- The small result is the half step of the second argument. -/
theorem res_out1_eq : res_out1 (F := Ideal) m c
    = small (m ((c.tc : Thread nD τ).loc main_arg1)) (m ((c.tc : Thread nD τ).loc main_arg6)) (m ((c.tc : Thread nD τ).loc main_arg7))
        (m ((c.tc : Thread nD τ).loc main_arg8)) (m ((c.tc : Thread nD τ).loc main_arg9)) := rfl

/-- The large result is the half step of the first argument, its rows in one list. -/
theorem res_out0_eq : res_out0 (F := Ideal) m c
    = large (m ((c.tc : Thread nD τ).loc main_arg0)) (m ((c.tc : Thread nD τ).loc main_arg6)) (m ((c.tc : Thread nD τ).loc main_arg7))
        (m ((c.tc : Thread nD τ).loc main_arg8)) (m ((c.tc : Thread nD τ).loc main_arg9)) := rfl

end Cert.ReferenceIdeal.Value

end
-- ==== Proof.Value.Arrays.lean ====
/- The feed-forward call: what its blocks read of the arrays, and the arrays its blocks fill. -/
module

public import proofs.«01_k».proof.Proof.Value.Rows
public import proofs.«01_k».proof.Proof.Value.Reference
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Cert.Layer
open Cert.ReferenceIdeal.Value (small large front back bare512 bare1024 bareWide bareTall)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The places of the blocks -/

theorem place0 : ∀ t : Fin cfg0.N, win0_0.index t = ![t.val, 0] :=
  (by decide +kernel : ∀ t : Fin grid0.N, win0_0.index t = ![t.val, 0])
theorem place1 : ∀ t : Fin cfg0.N, win0_1.index t = ![0, 0] :=
  (by decide +kernel : ∀ t : Fin grid0.N, win0_1.index t = ![0, 0])
theorem place2 : ∀ t : Fin cfg0.N, win0_2.index t = ![0, 0] :=
  (by decide +kernel : ∀ t : Fin grid0.N, win0_2.index t = ![0, 0])
theorem place3 : ∀ t : Fin cfg0.N, win0_3.index t = ![0, 0] :=
  (by decide +kernel : ∀ t : Fin grid0.N, win0_3.index t = ![0, 0])
theorem place4 : ∀ t : Fin cfg0.N, win0_4.index t = ![0, 0] :=
  (by decide +kernel : ∀ t : Fin grid0.N, win0_4.index t = ![0, 0])
theorem place5 : ∀ t : Fin cfg0.N, win0_5.index t = ![0, 0] :=
  (by decide +kernel : ∀ t : Fin grid0.N, win0_5.index t = ![0, 0])
theorem place6 : ∀ t : Fin cfg0.N, win0_6.index t = ![96 * t.val, 0] :=
  (by decide +kernel : ∀ t : Fin grid0.N, win0_6.index t = ![96 * t.val, 0])
theorem place7 : ∀ t : Fin cfg0.N, win0_7.index t = ![1544 + 224 * t.val, 0] :=
  (by decide +kernel : ∀ t : Fin grid0.N, win0_7.index t = ![1544 + 224 * t.val, 0])
theorem place8 : ∀ t : Fin cfg0.N, win0_8.index t = ![32 * t.val, 0] :=
  (by decide +kernel : ∀ t : Fin grid0.N, win0_8.index t = ![32 * t.val, 0])
theorem place9 : ∀ t : Fin cfg0.N, win0_9.index t = ![32 * t.val, 0] :=
  (by decide +kernel : ∀ t : Fin grid0.N, win0_9.index t = ![32 * t.val, 0])
theorem place10 : ∀ t : Fin cfg0.N, win0_10.index t = ![64 * t.val, 0] :=
  (by decide +kernel : ∀ t : Fin grid0.N, win0_10.index t = ![64 * t.val, 0])
theorem place11 : ∀ t : Fin cfg0.N, win0_11.index t = ![64 * t.val, 0] :=
  (by decide +kernel : ∀ t : Fin grid0.N, win0_11.index t = ![64 * t.val, 0])
theorem place12 : ∀ t : Fin cfg0.N, win0_12.index t = ![176 * t.val, 0] :=
  (by decide +kernel : ∀ t : Fin grid0.N, win0_12.index t = ![176 * t.val, 0])
theorem place13 : ∀ t : Fin cfg0.N, win0_13.index t = ![t.val, 0] :=
  (by decide +kernel : ∀ t : Fin grid0.N, win0_13.index t = ![t.val, 0])
theorem place14 : ∀ t : Fin cfg0.N, win0_14.index t = ![0, 0] :=
  (by decide +kernel : ∀ t : Fin grid0.N, win0_14.index t = ![0, 0])
theorem place15 : ∀ t : Fin cfg0.N, win0_15.index t = ![t.val, 0] :=
  (by decide +kernel : ∀ t : Fin grid0.N, win0_15.index t = ![t.val, 0])
theorem place16 : ∀ t : Fin cfg0.N, win0_16.index t = ![t.val, 0] :=
  (by decide +kernel : ∀ t : Fin grid0.N, win0_16.index t = ![t.val, 0])
theorem place17 : ∀ t : Fin cfg0.N, win0_17.index t = ![t.val, 0] :=
  (by decide +kernel : ∀ t : Fin grid0.N, win0_17.index t = ![t.val, 0])
theorem place18 : ∀ t : Fin cfg0.N, win0_18.index t = ![t.val, 0] :=
  (by decide +kernel : ∀ t : Fin grid0.N, win0_18.index t = ![t.val, 0])
theorem place19 : ∀ t : Fin cfg0.N, win0_19.index t = ![t.val, 0] :=
  (by decide +kernel : ∀ t : Fin grid0.N, win0_19.index t = ![t.val, 0])
theorem place20 : ∀ t : Fin cfg0.N, win0_20.index t = ![t.val, 0] :=
  (by decide +kernel : ∀ t : Fin grid0.N, win0_20.index t = ![t.val, 0])
theorem place21 : ∀ t : Fin cfg0.N, win0_21.index t = ![t.val, 0] :=
  (by decide +kernel : ∀ t : Fin grid0.N, win0_21.index t = ![t.val, 0])

/-! ## What the blocks read -/

theorem block0 (c : Dev nD) (t : Fin cfg0.N) (r : Fin 1024) (k : Fin 1024) (b : Fin 2) (s : Fin 8192)
    (h : 8192 * b.val + s.val = 1024 * t.val + r.val) :
    iblk m c 0 t (ix2 r k) = m ((c : Thread nD τ).loc main_arg0) (ix3 b s k) := by
  unfold iblk
  show V m c main_v11 _ = _
  entry_read
  pointwise
  blk_ext [place0 t]

theorem block1 (c : Dev nD) (t : Fin cfg0.N) (r : Fin 16) (k : Fin 1024) :
    iblk m c 1 t (ix2 r k) = m ((c : Thread nD τ).loc main_arg1) (ix2 r k) := by
  unfold iblk
  show V m c main_arg1 _ = _
  entry_read
  blk_ext [place1 t]

theorem block2 (c : Dev nD) (t : Fin cfg0.N) (k : Fin 1024) :
    iblk m c 2 t (ix2 0 k) = m ((c : Thread nD τ).loc main_arg6) (ix2 0 k) := by
  unfold iblk
  show V m c main_v13 _ = _
  entry_read
  pointwise
  blk_ext [place2 t]

theorem block3 (c : Dev nD) (t : Fin cfg0.N) (k : Fin 1024) :
    iblk m c 3 t (ix2 0 k) = m ((c : Thread nD τ).loc main_arg7) (ix2 0 k) := by
  unfold iblk
  show V m c main_v15 _ = _
  entry_read
  pointwise
  blk_ext [place3 t]

theorem block4 (c : Dev nD) (t : Fin cfg0.N) (a : Fin 1024) (k : Fin 5632) :
    iblk m c 4 t (ix2 a k) = m ((c : Thread nD τ).loc main_arg8) (ix3 0 a k) := by
  unfold iblk
  show V m c main_v3 _ = _
  entry_read
  pointwise
  blk_ext [place4 t]

theorem block5 (c : Dev nD) (t : Fin cfg0.N) (a : Fin 2816) (k : Fin 1024) :
    iblk m c 5 t (ix2 a k) = m ((c : Thread nD τ).loc main_arg9) (ix3 0 a k) := by
  unfold iblk
  show V m c main_v5 _ = _
  entry_read
  pointwise
  blk_ext [place5 t]

theorem block6 (c : Dev nD) (t : Fin cfg0.N) (r : Fin 96) (k : Fin 1024) (s : Fin 5128) (h : s.val = 96 * t.val + r.val) :
    iblk m c 6 t (ix2 r k) = m ((c : Thread nD τ).loc main_arg2) (ix3 0 k s) := by
  have e0 : win0_6.index t 0 = 96 * t.val := by rw [place6]; rfl
  have e1 : win0_6.index t 1 = 0 := by rw [place6]; rfl
  unfold iblk
  show V m c main_v1 _ = _
  entry_read
  pointwise
  blk_ext
  · show win0_6.index t 1 + 1 * k.val = _
    omega
  · show win0_6.index t 0 + 1 * r.val = _
    omega

theorem block7 (c : Dev nD) (t : Fin cfg0.N) (r : Fin 224) (k : Fin 1024) (s : Fin 5128) (h : s.val = 1544 + 224 * t.val + r.val) :
    iblk m c 7 t (ix2 r k) = m ((c : Thread nD τ).loc main_arg2) (ix3 0 k s) := by
  have e0 : win0_7.index t 0 = 1544 + 224 * t.val := by rw [place7]; rfl
  have e1 : win0_7.index t 1 = 0 := by rw [place7]; rfl
  unfold iblk
  show V m c main_v1 _ = _
  entry_read
  pointwise
  blk_ext
  · show win0_7.index t 1 + 1 * k.val = _
    omega
  · show win0_7.index t 0 + 1 * r.val = _
    omega

theorem block8 (c : Dev nD) (t : Fin cfg0.N) (r : Fin 32) (k : Fin 1024) (s : Fin 512) (h : s.val = 32 * t.val + r.val) :
    iblk m c 8 t (ix2 r k) = m ((c : Thread nD τ).loc main_arg4) (ix3 0 s k) := by
  have e0 : win0_8.index t 0 = 32 * t.val := by rw [place8]; rfl
  have e1 : win0_8.index t 1 = 0 := by rw [place8]; rfl
  unfold iblk
  show V m c main_v6 _ = _
  entry_read
  pointwise
  blk_ext
  · show win0_8.index t 0 + 1 * r.val = _
    omega
  · show win0_8.index t 1 + 1 * k.val = _
    omega

theorem block9 (c : Dev nD) (t : Fin cfg0.N) (r : Fin 32) (k : Fin 1024) (s : Fin 512) (h : s.val = 32 * t.val + r.val) :
    iblk m c 9 t (ix2 r k) = m ((c : Thread nD τ).loc main_arg3) (ix3 0 s k) := by
  have e0 : win0_9.index t 0 = 32 * t.val := by rw [place9]; rfl
  have e1 : win0_9.index t 1 = 0 := by rw [place9]; rfl
  unfold iblk
  show V m c main_v7 _ = _
  entry_read
  pointwise
  blk_ext
  · show win0_9.index t 0 + 1 * r.val = _
    omega
  · show win0_9.index t 1 + 1 * k.val = _
    omega

theorem block10 (c : Dev nD) (t : Fin cfg0.N) (r : Fin 64) (k : Fin 1024) (s : Fin 1024) (h : s.val = 64 * t.val + r.val) :
    iblk m c 10 t (ix2 r k) = m ((c : Thread nD τ).loc main_arg5) (ix3 0 s k) := by
  have e0 : win0_10.index t 0 = 64 * t.val := by rw [place10]; rfl
  have e1 : win0_10.index t 1 = 0 := by rw [place10]; rfl
  unfold iblk
  show V m c main_v8 _ = _
  entry_read
  pointwise
  blk_ext
  · show win0_10.index t 0 + 1 * r.val = _
    omega
  · show win0_10.index t 1 + 1 * k.val = _
    omega

theorem block11 (c : Dev nD) (t : Fin cfg0.N) (r : Fin 64) (k : Fin 5632) (s : Fin 1024) (h : s.val = 64 * t.val + r.val) :
    iblk m c 11 t (ix2 r k) = m ((c : Thread nD τ).loc main_arg10) (ix3 0 s k) := by
  have e0 : win0_11.index t 0 = 64 * t.val := by rw [place11]; rfl
  have e1 : win0_11.index t 1 = 0 := by rw [place11]; rfl
  unfold iblk
  show V m c main_v9 _ = _
  entry_read
  pointwise
  blk_ext
  · show win0_11.index t 0 + 1 * r.val = _
    omega
  · show win0_11.index t 1 + 1 * k.val = _
    omega

theorem block12 (c : Dev nD) (t : Fin cfg0.N) (r : Fin 176) (k : Fin 1024) (s : Fin 2816) (h : s.val = 176 * t.val + r.val) :
    iblk m c 12 t (ix2 r k) = m ((c : Thread nD τ).loc main_arg11) (ix3 0 s k) := by
  have e0 : win0_12.index t 0 = 176 * t.val := by rw [place12]; rfl
  have e1 : win0_12.index t 1 = 0 := by rw [place12]; rfl
  unfold iblk
  show V m c main_v10 _ = _
  entry_read
  pointwise
  blk_ext
  · show win0_12.index t 0 + 1 * r.val = _
    omega
  · show win0_12.index t 1 + 1 * k.val = _
    omega

/-! ## The arrays the blocks fill -/

/-- What the points leave in the large result. -/
theorem filled13 (c : Dev nD) : (dats m 0 c).arrAt 13 cfg0.N = large (m ((c : Thread nD τ).loc main_arg0)) (m ((c : Thread nD τ).loc main_arg6)) (m ((c : Thread nD τ).loc main_arg7)) (m ((c : Thread nD τ).loc main_arg8)) (m ((c : Thread nD τ).loc main_arg9)) := by
  refine (dats m 0 c).arrAt_eq_of_covers 13 _ (by decide +kernel) fun t hf y => ?_
  blk_simp
  rw [after13]
  obtain ⟨r, j, rfl⟩ : ∃ (r j : Fin 1024), y = ix2 r j := ⟨y 0, y 1, by funext a; match a with | ⟨0, _⟩ => rfl | ⟨1, _⟩ => rfl⟩
  have ht : t.val < 16 := t.isLt
  have hr : r.val < 1024 := r.isLt
  have e : ((cfg0.win 13).blk t).view.emb (ix2 r j) = ix2 (n0 := 16384) (n1 := 1024) ⟨1024 * t.val + r.val, by omega⟩ j := by
    blk_ext [place13 t]
  have hq : 8192 * ((1024 * t.val + r.val) / 8192) + (1024 * t.val + r.val) % 8192 = 1024 * t.val + r.val := by omega
  rw [e, Cert.ReferenceIdeal.Value.large_apply _ _ _ _ _ _ j ⟨(1024 * t.val + r.val) / 8192, by omega⟩ ⟨(1024 * t.val + r.val) % 8192, by omega⟩ hq]
  refine (big_rows c t m r j).trans ?_
  have h0 := fun k => block0 m c t r k ⟨(1024 * t.val + r.val) / 8192, by omega⟩ ⟨(1024 * t.val + r.val) % 8192, by omega⟩ hq
  simp only [h0, block2, block3, block4, block5]

/-- What the last point leaves in the small result. -/
theorem filled14 (c : Dev nD) : (dats m 0 c).arrAt 14 cfg0.N = small (m ((c : Thread nD τ).loc main_arg1)) (m ((c : Thread nD τ).loc main_arg6)) (m ((c : Thread nD τ).loc main_arg7)) (m ((c : Thread nD τ).loc main_arg8)) (m ((c : Thread nD τ).loc main_arg9)) := by
  refine (dats m 0 c).arrAt_eq_of_covers 14 _ (by decide +kernel) fun t hf y => ?_
  blk_simp
  rw [after14]
  obtain ⟨r, j, rfl⟩ : ∃ (r : Fin 16) (j : Fin 1024), y = ix2 r j := ⟨y 0, y 1, by funext a; match a with | ⟨0, _⟩ => rfl | ⟨1, _⟩ => rfl⟩
  have e : ((cfg0.win 14).blk t).view.emb (ix2 r j) = ix2 (n0 := 16) (n1 := 1024) r j := by
    blk_ext [place14 t]
  rw [e, Cert.ReferenceIdeal.Value.small_apply]
  refine (small_rows c m r j).trans ?_
  simp only [block1, block2, block3, block4, block5]

theorem filled15 (c : Dev nD) : (dats m 0 c).arrAt 15 cfg0.N = front (m ((c : Thread nD τ).loc main_arg2)) := by
  refine (dats m 0 c).arrAt_eq_of_covers 15 _ (by decide +kernel) fun t hf y => ?_
  blk_simp
  rw [after15]
  obtain ⟨r, j, rfl⟩ : ∃ (r : Fin 96) (j : Fin 1024), y = ix2 r j := ⟨y 0, y 1, by funext a; match a with | ⟨0, _⟩ => rfl | ⟨1, _⟩ => rfl⟩
  have ht : t.val < 16 := t.isLt
  have hr : r.val < 96 := r.isLt
  have e : ((cfg0.win 15).blk t).view.emb (ix2 r j) = ix2 (n0 := 1536) (n1 := 1024) ⟨96 * t.val + r.val, by omega⟩ j := by
    blk_ext [place15 t]
  rw [e, Cert.ReferenceIdeal.Value.front_apply _ _ j ⟨(96 * t.val + r.val), by omega⟩ rfl]
  refine Eq.trans ?_ (block6 m c t r j ⟨(96 * t.val + r.val), by omega⟩ (by show (96 * t.val + r.val) = 96 * t.val + r.val; omega))
  generalize iblk m c 6 t = X
  show k0_pay20 X (ix2 r j) = X (ix2 r j)
  pointwise [k0_pay20]

theorem filled16 (c : Dev nD) : (dats m 0 c).arrAt 16 cfg0.N = back (m ((c : Thread nD τ).loc main_arg2)) := by
  refine (dats m 0 c).arrAt_eq_of_covers 16 _ (by decide +kernel) fun t hf y => ?_
  blk_simp
  rw [after16]
  obtain ⟨r, j, rfl⟩ : ∃ (r : Fin 224) (j : Fin 1024), y = ix2 r j := ⟨y 0, y 1, by funext a; match a with | ⟨0, _⟩ => rfl | ⟨1, _⟩ => rfl⟩
  have ht : t.val < 16 := t.isLt
  have hr : r.val < 224 := r.isLt
  have e : ((cfg0.win 16).blk t).view.emb (ix2 r j) = ix2 (n0 := 3584) (n1 := 1024) ⟨224 * t.val + r.val, by omega⟩ j := by
    blk_ext [place16 t]
  rw [e, Cert.ReferenceIdeal.Value.back_apply _ _ j ⟨1544 + (224 * t.val + r.val), by omega⟩ rfl]
  refine Eq.trans ?_ (block7 m c t r j ⟨1544 + (224 * t.val + r.val), by omega⟩ (by show 1544 + (224 * t.val + r.val) = 1544 + 224 * t.val + r.val; omega))
  generalize iblk m c 7 t = X
  show k0_pay21 X (ix2 r j) = X (ix2 r j)
  pointwise [k0_pay21]

theorem filled17 (c : Dev nD) : (dats m 0 c).arrAt 17 cfg0.N = bare512 (m ((c : Thread nD τ).loc main_arg4)) := by
  refine (dats m 0 c).arrAt_eq_of_covers 17 _ (by decide +kernel) fun t hf y => ?_
  blk_simp
  rw [after17]
  obtain ⟨r, j, rfl⟩ : ∃ (r : Fin 32) (j : Fin 1024), y = ix2 r j := ⟨y 0, y 1, by funext a; match a with | ⟨0, _⟩ => rfl | ⟨1, _⟩ => rfl⟩
  have ht : t.val < 16 := t.isLt
  have hr : r.val < 32 := r.isLt
  have e : ((cfg0.win 17).blk t).view.emb (ix2 r j) = ix2 (n0 := 512) (n1 := 1024) ⟨32 * t.val + r.val, by omega⟩ j := by
    blk_ext [place17 t]
  rw [e, Cert.ReferenceIdeal.Value.bare512_apply]
  refine Eq.trans ?_ (block8 m c t r j ⟨32 * t.val + r.val, by omega⟩ rfl)
  generalize iblk m c 8 t = X
  show k0_pay22 X (ix2 r j) = X (ix2 r j)
  pointwise [k0_pay22]

theorem filled18 (c : Dev nD) : (dats m 0 c).arrAt 18 cfg0.N = bare512 (m ((c : Thread nD τ).loc main_arg3)) := by
  refine (dats m 0 c).arrAt_eq_of_covers 18 _ (by decide +kernel) fun t hf y => ?_
  blk_simp
  rw [after18]
  obtain ⟨r, j, rfl⟩ : ∃ (r : Fin 32) (j : Fin 1024), y = ix2 r j := ⟨y 0, y 1, by funext a; match a with | ⟨0, _⟩ => rfl | ⟨1, _⟩ => rfl⟩
  have ht : t.val < 16 := t.isLt
  have hr : r.val < 32 := r.isLt
  have e : ((cfg0.win 18).blk t).view.emb (ix2 r j) = ix2 (n0 := 512) (n1 := 1024) ⟨32 * t.val + r.val, by omega⟩ j := by
    blk_ext [place18 t]
  rw [e, Cert.ReferenceIdeal.Value.bare512_apply]
  refine Eq.trans ?_ (block9 m c t r j ⟨32 * t.val + r.val, by omega⟩ rfl)
  generalize iblk m c 9 t = X
  show k0_pay23 X (ix2 r j) = X (ix2 r j)
  pointwise [k0_pay23]

theorem filled19 (c : Dev nD) : (dats m 0 c).arrAt 19 cfg0.N = bare1024 (m ((c : Thread nD τ).loc main_arg5)) := by
  refine (dats m 0 c).arrAt_eq_of_covers 19 _ (by decide +kernel) fun t hf y => ?_
  blk_simp
  rw [after19]
  obtain ⟨r, j, rfl⟩ : ∃ (r : Fin 64) (j : Fin 1024), y = ix2 r j := ⟨y 0, y 1, by funext a; match a with | ⟨0, _⟩ => rfl | ⟨1, _⟩ => rfl⟩
  have ht : t.val < 16 := t.isLt
  have hr : r.val < 64 := r.isLt
  have e : ((cfg0.win 19).blk t).view.emb (ix2 r j) = ix2 (n0 := 1024) (n1 := 1024) ⟨64 * t.val + r.val, by omega⟩ j := by
    blk_ext [place19 t]
  rw [e, Cert.ReferenceIdeal.Value.bare1024_apply]
  refine Eq.trans ?_ (block10 m c t r j ⟨64 * t.val + r.val, by omega⟩ rfl)
  generalize iblk m c 10 t = X
  show k0_pay24 X (ix2 r j) = X (ix2 r j)
  pointwise [k0_pay24]

theorem filled20 (c : Dev nD) : (dats m 0 c).arrAt 20 cfg0.N = bareWide (m ((c : Thread nD τ).loc main_arg10)) := by
  refine (dats m 0 c).arrAt_eq_of_covers 20 _ (by decide +kernel) fun t hf y => ?_
  blk_simp
  rw [after20]
  obtain ⟨r, j, rfl⟩ : ∃ (r : Fin 64) (j : Fin 5632), y = ix2 r j := ⟨y 0, y 1, by funext a; match a with | ⟨0, _⟩ => rfl | ⟨1, _⟩ => rfl⟩
  have ht : t.val < 16 := t.isLt
  have hr : r.val < 64 := r.isLt
  have e : ((cfg0.win 20).blk t).view.emb (ix2 r j) = ix2 (n0 := 1024) (n1 := 5632) ⟨64 * t.val + r.val, by omega⟩ j := by
    blk_ext [place20 t]
  rw [e, Cert.ReferenceIdeal.Value.bareWide_apply]
  refine Eq.trans ?_ (block11 m c t r j ⟨64 * t.val + r.val, by omega⟩ rfl)
  generalize iblk m c 11 t = X
  show k0_pay25 X (ix2 r j) = X (ix2 r j)
  pointwise [k0_pay25]

theorem filled21 (c : Dev nD) : (dats m 0 c).arrAt 21 cfg0.N = bareTall (m ((c : Thread nD τ).loc main_arg11)) := by
  refine (dats m 0 c).arrAt_eq_of_covers 21 _ (by decide +kernel) fun t hf y => ?_
  blk_simp
  rw [after21]
  obtain ⟨r, j, rfl⟩ : ∃ (r : Fin 176) (j : Fin 1024), y = ix2 r j := ⟨y 0, y 1, by funext a; match a with | ⟨0, _⟩ => rfl | ⟨1, _⟩ => rfl⟩
  have ht : t.val < 16 := t.isLt
  have hr : r.val < 176 := r.isLt
  have e : ((cfg0.win 21).blk t).view.emb (ix2 r j) = ix2 (n0 := 2816) (n1 := 1024) ⟨176 * t.val + r.val, by omega⟩ j := by
    blk_ext [place21 t]
  rw [e, Cert.ReferenceIdeal.Value.bareTall_apply]
  refine Eq.trans ?_ (block12 m c t r j ⟨176 * t.val + r.val, by omega⟩ rfl)
  generalize iblk m c 12 t = X
  show k0_pay26 X (ix2 r j) = X (ix2 r j)
  pointwise [k0_pay26]

end Cert.KernelIdeal.Ffn
end
-- ==== Proof.Value.Whole.lean ====
/- The claims about the feed-forward call: its run beside the reference's. -/
module

public import proofs.«01_k».proof.Defs
public import proofs.«01_k».proof.Proof.Value.Arrays
public import Idealize.ShloMosaic.Lib.Quiescent

@[expose] public section

set_option maxRecDepth 16384

noncomputable section

namespace Cert.Whole

open Idealize.ShloMosaic Idealize.ShloMosaic.TcCoe Idealize.SL.Sem
open Cert.ReferenceIdeal.Value (small large front back bare512 bare1024 bareWide bareTall)

section
open Cert.KernelIdeal Cert.KernelIdeal.Gen Cert.KernelIdeal.Ffn

/-- The kernel's run, its nine results named. -/
theorem ran (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16_0) = large (m ((c.tc : Thread nD τ).loc main_arg0)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v16_1) = small (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v16_2) = front (m ((c.tc : Thread nD τ).loc main_arg2))
      ∧ r.2.mem ((c.tc : Thread nD τ).loc main_v16_3) = back (m ((c.tc : Thread nD τ).loc main_arg2))
      ∧ r.2.mem ((c.tc : Thread nD τ).loc main_v16_4) = bare512 (m ((c.tc : Thread nD τ).loc main_arg4))
      ∧ r.2.mem ((c.tc : Thread nD τ).loc main_v16_5) = bare512 (m ((c.tc : Thread nD τ).loc main_arg3))
      ∧ r.2.mem ((c.tc : Thread nD τ).loc main_v16_6) = bare1024 (m ((c.tc : Thread nD τ).loc main_arg5))
      ∧ r.2.mem ((c.tc : Thread nD τ).loc main_v16_7) = bareWide (m ((c.tc : Thread nD τ).loc main_arg10))
      ∧ r.2.mem ((c.tc : Thread nD τ).loc main_v16_8) = bareTall (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h.1 c).1 13).trans (filled13 m c), ((h.1 c).1 14).trans (filled14 m c), ((h.1 c).1 15).trans (filled15 m c), ((h.1 c).1 16).trans (filled16 m c), ((h.1 c).1 17).trans (filled17 m c), ((h.1 c).1 18).trans (filled18 m c), ((h.1 c).1 19).trans (filled19 m c), ((h.1 c).1 20).trans (filled20 m c), ((h.1 c).1 21).trans (filled21 m c), h.2 c⟩)
    (θ_run_and (run_post m ρ) (frame_of m ρ (dats m) (A_eq m) (run_post m ρ)))

end

/-- Kernel and reference, from the same arguments, end with the same nine results. -/
theorem algebraic : Cert.algebraic_KernelIdeal_ReferenceIdeal (hKernelIdeal := Cert.KernelIdeal.Gen.facts) (hReferenceIdeal := Cert.ReferenceIdeal.Gen.facts) :=
  fun m ρ m' ρ' _ hag =>
    ⟨fun c => large (m ((c.tc : Thread Cert.KernelIdeal.nD Cert.KernelIdeal.τ).loc Cert.KernelIdeal.main_arg0)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
     fun c => small (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
     fun c => front (m ((c.tc : Thread Cert.KernelIdeal.nD Cert.KernelIdeal.τ).loc Cert.KernelIdeal.main_arg2)),
     fun c => back (m ((c.tc : Thread Cert.KernelIdeal.nD Cert.KernelIdeal.τ).loc Cert.KernelIdeal.main_arg2)),
     fun c => bare512 (m ((c.tc : Thread Cert.KernelIdeal.nD Cert.KernelIdeal.τ).loc Cert.KernelIdeal.main_arg4)),
     fun c => bare512 (m ((c.tc : Thread Cert.KernelIdeal.nD Cert.KernelIdeal.τ).loc Cert.KernelIdeal.main_arg3)),
     fun c => bare1024 (m ((c.tc : Thread Cert.KernelIdeal.nD Cert.KernelIdeal.τ).loc Cert.KernelIdeal.main_arg5)),
     fun c => bareWide (m ((c.tc : Thread Cert.KernelIdeal.nD Cert.KernelIdeal.τ).loc Cert.KernelIdeal.main_arg10)),
     fun c => bareTall (m ((c.tc : Thread Cert.KernelIdeal.nD Cert.KernelIdeal.τ).loc Cert.KernelIdeal.main_arg11)),
     ran m ρ, (θ_run _ _ _).mono (fun _ h c => by
      obtain ⟨a0, a1, a2, a3, a4, a5, a6, a7, a8, a9, a10, a11⟩ := hag c
      obtain ⟨h0, h1, h2, h3, h4, h5, h6, h7, h8, kept⟩ := h c
      refine ⟨h0.trans ?_, h1.trans ?_, h2.trans ?_, h3.trans ?_, h4.trans ?_, h5.trans ?_, h6.trans ?_, h7.trans ?_, h8.trans ?_, kept⟩
      · refine (Cert.ReferenceIdeal.Value.res_out0_eq m' c).trans ?_
        rw [a0, a6, a7, a8, a9]
      · refine (Cert.ReferenceIdeal.Value.res_out1_eq m' c).trans ?_
        rw [a1, a6, a7, a8, a9]
      · rw [a2]; rfl
      · rw [a2]; rfl
      · rw [a4]; rfl
      · rw [a3]; rfl
      · rw [a5]; rfl
      · rw [a10]; rfl
      · rw [a11]; rfl) (Cert.ReferenceIdeal.Value.run m' ρ')⟩

/-- The reference leaves its arguments, and has no counters. -/
theorem reference_frame : Cert.quiescent_ReferenceIdeal (hReferenceIdeal := Cert.ReferenceIdeal.Gen.facts) :=
  fun m ρ _ => (θ_run _ _ _).mono (fun r h => ⟨fun c => (h c).2.2.2.2.2.2.2.2.2, sem_eq_zero_of_no_sems (by decide) r.2⟩)
    (Cert.ReferenceIdeal.Value.run m ρ)

end Cert.Whole

end
-- ==== Proof.Value.Rows2.lean ====
/- The second kernel's body as plain rows: each row it stores is the half step of the mixed row. -/
module

public import proofs.«01_k».proof.Proof.Value.Chunk
public import proofs.«01_k».proof.Proof.Ffn.Frame
public import proofs.«01_k».proof.Proof.Gen.Kernel2Ideal.Value

@[expose] public section

set_option maxRecDepth 16384

noncomputable section

namespace Cert.Kernel2Ideal.Mix

open Cert.Kernel2Ideal Cert.Kernel2Ideal.Gen Idealize.ShloMosaic Idealize.ShloMosaic.TcCoe Idealize.ShloMosaic.Tactic
open Cert.Layer
open Cert.KernelIdeal.Ffn (zeros2 load_whole)

/-! ## The stored blocks of gated entries -/

theorem gated10 (u : FVec Ideal S512x1024 .bf16) (a b : Vec Ideal S1024x256 .bf16) (r : Fin 512) (k : Fin 256) :
    k0_pay10 u a b (ix2 r k) = chunk (fun i => u (ix2 r i)) (fun i => a (ix2 i k)) (fun i => b (ix2 i k)) := by
  pointwise [k0_pay10, chunk]

theorem gated11 (u : FVec Ideal S512x1024 .bf16) (a b : Vec Ideal S1024x256 .bf16) (r : Fin 512) (k : Fin 256) :
    k0_pay11 u a b (ix2 r k) = chunk (fun i => u (ix2 r i)) (fun i => a (ix2 i k)) (fun i => b (ix2 i k)) := by
  pointwise [k0_pay11, chunk]

theorem gated14 (u : FVec Ideal S512x1024 .bf16) (a b : Vec Ideal S1024x256 .bf16) (r : Fin 512) (k : Fin 256) :
    k0_pay14 u a b (ix2 r k) = chunk (fun i => u (ix2 r i)) (fun i => a (ix2 i k)) (fun i => b (ix2 i k)) := by
  pointwise [k0_pay14, chunk]

theorem gated15 (u : FVec Ideal S512x1024 .bf16) (a b : Vec Ideal S1024x256 .bf16) (r : Fin 512) (k : Fin 256) :
    k0_pay15 u a b (ix2 r k) = chunk (fun i => u (ix2 r i)) (fun i => a (ix2 i k)) (fun i => b (ix2 i k)) := by
  pointwise [k0_pay15, chunk]

theorem gated19 (u : FVec Ideal S512x1024 .bf16) (a b : Vec Ideal S1024x256 .bf16) (r : Fin 512) (k : Fin 256) :
    k0_pay19 u a b (ix2 r k) = chunk (fun i => u (ix2 r i)) (fun i => a (ix2 i k)) (fun i => b (ix2 i k)) := by
  pointwise [k0_pay19, chunk]

theorem gated20 (u : FVec Ideal S512x1024 .bf16) (a b : Vec Ideal S1024x256 .bf16) (r : Fin 512) (k : Fin 256) :
    k0_pay20 u a b (ix2 r k) = chunk (fun i => u (ix2 r i)) (fun i => a (ix2 i k)) (fun i => b (ix2 i k)) := by
  pointwise [k0_pay20, chunk]

theorem gated12 (u : FVec Ideal S512x1024 .bf16) (a b : Vec Ideal S1024x256 .bf16) (r : Fin 512) (k : Fin 256) :
    k0_pay13 (k0_pay12 u a b) (ix2 r k) = chunk (fun i => u (ix2 r i)) (fun i => a (ix2 i k)) (fun i => b (ix2 i k)) := by
  pointwise [k0_pay13, k0_pay12, chunk]

theorem gated16 (u : FVec Ideal S512x1024 .bf16) (a b : Vec Ideal S1024x256 .bf16) (r : Fin 512) (k : Fin 256) :
    k0_pay18 (k0_pay16 u a) (k0_pay17 u b) (ix2 r k) = chunk (fun i => u (ix2 r i)) (fun i => a (ix2 i k)) (fun i => b (ix2 i k)) := by
  pointwise [k0_pay16, k0_pay17, k0_pay18, chunk]

theorem gated21 (u : FVec Ideal S512x1024 .bf16) (a b : Vec Ideal S1024x256 .bf16) (r : Fin 512) (k : Fin 256) :
    k0_pay1 u (k0_pay21 u a) b (ix2 r k) = chunk (fun i => u (ix2 r i)) (fun i => a (ix2 i k)) (fun i => b (ix2 i k)) := by
  pointwise [k0_pay21, k0_pay1, chunk]

theorem gated8 (x : FVec Ideal S512x1024 .f32) (g : FVec Ideal S1x1024 .f32) (y : FVec Ideal S512x1024 .f32) (a b : Vec Ideal S1024x256 .bf16) (r : Fin 512) (k : Fin 256) :
    k0_pay8 x g y a b (ix2 r k) = chunk (fun i => k0_pay7 x g y (ix2 r i)) (fun i => a (ix2 i k)) (fun i => b (ix2 i k)) := by
  pointwise [k0_pay8, chunk]

theorem gated9 (x : FVec Ideal S512x1024 .f32) (g : FVec Ideal S1x1024 .f32) (y : FVec Ideal S512x1024 .f32) (a b : Vec Ideal S1024x256 .bf16) (r : Fin 512) (k : Fin 256) :
    k0_pay9 x g y a b (ix2 r k) = chunk (fun i => k0_pay7 x g y (ix2 r i)) (fun i => a (ix2 i k)) (fun i => b (ix2 i k)) := by
  pointwise [k0_pay9, chunk]

/-- The product of the branches' gated sum with the last weights. -/
def product (a : Vec Ideal S512x512 .bf16) (wa s v : Vec Ideal S512x1024 .bf16) (wo : Vec Ideal S1024x1024 .bf16) : FVec Ideal S512x1024 .f32 :=
  matmul (φ₁ := .bf16) (φ₂ := .bf16) dot_S512x1024_S1024x1024_S512x1024_1_0_0_1_n_n none (truncf .bf16 (addf (mulf (extf .f32 s bitsLt_bf16_f32)
    (matmul (φ₁ := .bf16) (φ₂ := .bf16) dot_S512x512_S512x1024_S512x1024_1_0_0_1_n_n none a (shapeCast S512x1024 wa shapeCasts_S512x1024_S512x1024) (constant S512x1024 .f32 0x00000000#32)))
    (extf .f32 v bitsLt_bf16_f32)) bitsLt_bf16_f32) (shapeCast S1024x1024 wo shapeCasts_S1024x1024_S1024x1024) (constant S512x1024 .f32 0x00000000#32)

theorem product_apply (a : Vec Ideal S512x512 .bf16) (wa s v : Vec Ideal S512x1024 .bf16) (wo : Vec Ideal S1024x1024 .bf16) (r : Fin 512) (j : Fin 1024) :
    product a wa s v wo (ix2 r j)
      = mixed (fun k => a (ix2 r k)) (fun k => s (ix2 r k)) (fun k => v (ix2 r k)) (fun p q => wa (ix2 p q)) (fun p q => wo (ix2 p q)) j := by
  pointwise [product, mixed]

/-- A block of rows normalized with gains, as the body writes it, added to a second block. -/
def joined (h p : FVec Ideal S512x1024 .f32) (g : Vec Ideal S1x1024 .f32) : FVec Ideal S512x1024 .f32 :=
  addf h (mulf (mulf p (broadcastTo S512x1024 (rsqrt (addf (divf (shapeCast S512x1 (multiReduction .add [1] S512 (mulf p p) 0x00000000#32 reduces_S512x1024_S512 (.inl rfl) rfl) shapeCasts_S512_S512x1)
    (broadcast S512x1 (Scalar.ofBits .f32 0x44800000#32 : Ideal .f32))) (broadcast S512x1 (Scalar.ofBits .f32 0x358637BD#32 : Ideal .f32)))) broadcasts_S512x1_S512x1024))
    (broadcastTo S512x1024 (shapeCast S1x1024 g shapeCasts_S1x1024_S1x1024) broadcasts_S1x1024_S512x1024))

theorem joined_apply (h p : FVec Ideal S512x1024 .f32) (g : Vec Ideal S1x1024 .f32) (r : Fin 512) (j : Fin 1024) :
    joined h p g (ix2 r j) = h (ix2 r j) + rms (fun k => p (ix2 r k)) (fun k => g (ix2 0 k)) j := by
  pointwise [joined, rms]

/-- The row the half step starts from. -/
theorem begun (a : Vec Ideal S512x512 .bf16) (wa s v : Vec Ideal S512x1024 .bf16) (wo : Vec Ideal S1024x1024 .bf16) (h : Vec Ideal S512x1024 .f32) (g : Vec Ideal S1x1024 .f32) (r : Fin 512) (j : Fin 1024) :
    k0_pay3 a wa s v wo h g (ix2 r j)
      = h (ix2 r j) + rms (mixed (fun k => a (ix2 r k)) (fun k => s (ix2 r k)) (fun k => v (ix2 r k)) (fun p q => wa (ix2 p q)) (fun p q => wo (ix2 p q)))
          (fun k => g (ix2 0 k)) j := by
  have e : k0_pay3 a wa s v wo h g = joined h (product a wa s v wo) g := rfl
  rw [e, joined_apply]
  simp only [product_apply]

/-- That row normalized with the next gains. -/
theorem normed (x : FVec Ideal S512x1024 .f32) (g : Vec Ideal S1x1024 .f32) (r : Fin 512) (i : Fin 1024) :
    k0_pay7 x (k0_pay4 g) (mulf x x) (ix2 r i) = rms (fun k => x (ix2 r k)) (fun k => g (ix2 0 k)) i := by
  pointwise [k0_pay7, k0_pay4, rms]

/-- The last product, its normalization and the sum with the row. -/
theorem finished (x : FVec Ideal S512x1024 .f32) (g : Vec Ideal S1x1024 .f32) (v : Vec Ideal S512x2816 .bf16) (w : Vec Ideal S2816x1024 .bf16)
    (r : Fin 512) (j : Fin 1024) :
    k0_pay2 x (k0_pay5 g) v w (ix2 r j)
      = x (ix2 r j) + Ideal.ofBits .f32 0x3F000000#32 * rms (fun k => ∑ i, v (ix2 r i) * w (ix2 i k)) (fun k => g (ix2 0 k)) j := by
  pointwise [k0_pay2, k0_pay5, rms]

/-- The rows of the mixed sum at a grid point. -/
def start (c : Dev nD) (t : Fin cfg0.N) (m : (ℓ : Loc nD τ sig) → Buf (Elt Ideal) ℓ) (r : Fin 512) (k : Fin 1024) : EReal :=
  let h : Fin 1024 → EReal := fun k => iblk m c 0 t (ix2 r k)
  h k + rms (mixed (fun k => iblk m c 1 t (ix2 r k)) (fun k => iblk m c 2 t (ix2 r k)) (fun k => iblk m c 3 t (ix2 r k))
        (fun p q => iblk m c 4 t (ix2 p q)) (fun p q => iblk m c 5 t (ix2 p q))) (fun k => iblk m c 6 t (ix2 0 k)) k

/-- The buffer of gated entries, read back whole. -/
theorem act_rows (c : Dev nD) (t : Fin cfg0.N) (m : (ℓ : Loc nD τ sig) → Buf (Elt Ideal) ℓ) (y : S512x2816.Idx) :
    kernelRun0_A.sl.v190 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_9 t) (hs0_9 t) scM0_0 (iblk m c 0 t) (iblk m c 1 t) (iblk m c 2 t) (iblk m c 3 t) (iblk m c 4 t) (iblk m c 5 t) (iblk m c 6 t) (iblk m c 7 t) (iblk m c 9 t) y
      = gates (fun r => rms (start c t m r) (fun k => iblk m c 7 t (ix2 0 k))) (fun a b => iblk m c 9 t (ix2 a b)) y := by
  have hu : (fun r => rms (start c t m r) (fun k => iblk m c 7 t (ix2 0 k)))
      = fun (r : Fin 512) (i : Fin 1024) => kernelRun0_A.sl.r_4 (F := Ideal) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) (iblk m c 7 t) (ix2 r i) := by
    funext r i
    unfold kernelRun0_A.sl.r_4 kernelRun0_A.sl.r_3 kernelRun0_A.sl.r_1 kernelRun0_A.sl.r k0_pay6
    rw [load_whole _ _ zeros2, load_whole _ _ zeros2, load_whole _ _ zeros2, load_whole _ _ zeros2, load_whole _ _ zeros2, load_whole _ _ zeros2, load_whole _ _ zeros2, load_whole _ _ zeros2, normed]
    simp only [begun]
    rfl
  rw [hu]
  unfold kernelRun0_A.sl.v190
  rw [View.readCov_eq_canon']
  have hy : (Rect.unit (s := S512x2816) ![0, 0] S512x2816.size inb_S512x2816_S512x2816_0_0).toLoadRect.idx y = y := by
    funext a
    apply Fin.ext
    match a with
    | ⟨0, _⟩ => show 0 + 1 * (y 0).val = (y 0).val; omega
    | ⟨1, _⟩ => show 0 + 1 * (y 1).val = (y 1).val; omega
  show View.canon _ ((Rect.unit (s := S512x2816) ![0, 0] S512x2816.size inb_S512x2816_S512x2816_0_0).toLoadRect.idx y) = _
  rw [hy]
  refine View.canon_apply_of_pieces (Val := Elt Ideal) (S := S512x2816) (e := .bf16) (gates _ _) _ ?_ y (View.cover_of_tiledL (s := S512x2816) _ S512x256.size (by sl_kernel_rfl) y)
  unfold kernelRun0_A.sl.HS0_11
  refine List.forall_mem_cons.2 ⟨fun x => stored _ (hs0_9 t) (iblk m c 9 t) 2560 5376 (by decide) (by decide) inb_S1024x5632_S1024x256_0_2560 inb_S1024x5632_S1024x256_0_5376 _ (fun r k => gated21 _ _ _ r k) inb_S512x2816_S512x256_0_2560 x, ?_⟩
  refine List.forall_mem_cons.2 ⟨fun x => stored _ (hs0_9 t) (iblk m c 9 t) 2304 5120 (by decide) (by decide) inb_S1024x5632_S1024x256_0_2304 inb_S1024x5632_S1024x256_0_5120 _ (fun r k => gated20 _ _ _ r k) inb_S512x2816_S512x256_0_2304 x, ?_⟩
  refine List.forall_mem_cons.2 ⟨fun x => stored _ (hs0_9 t) (iblk m c 9 t) 2048 4864 (by decide) (by decide) inb_S1024x5632_S1024x256_0_2048 inb_S1024x5632_S1024x256_0_4864 _ (fun r k => gated19 _ _ _ r k) inb_S512x2816_S512x256_0_2048 x, ?_⟩
  refine List.forall_mem_cons.2 ⟨fun x => stored _ (hs0_9 t) (iblk m c 9 t) 1792 4608 (by decide) (by decide) inb_S1024x5632_S1024x256_0_1792 inb_S1024x5632_S1024x256_0_4608 _ (fun r k => gated16 _ _ _ r k) inb_S512x2816_S512x256_0_1792 x, ?_⟩
  refine List.forall_mem_cons.2 ⟨fun x => stored _ (hs0_9 t) (iblk m c 9 t) 1536 4352 (by decide) (by decide) inb_S1024x5632_S1024x256_0_1536 inb_S1024x5632_S1024x256_0_4352 _ (fun r k => gated15 _ _ _ r k) inb_S512x2816_S512x256_0_1536 x, ?_⟩
  refine List.forall_mem_cons.2 ⟨fun x => stored _ (hs0_9 t) (iblk m c 9 t) 1280 4096 (by decide) (by decide) inb_S1024x5632_S1024x256_0_1280 inb_S1024x5632_S1024x256_0_4096 _ (fun r k => gated14 _ _ _ r k) inb_S512x2816_S512x256_0_1280 x, ?_⟩
  refine List.forall_mem_cons.2 ⟨fun x => stored _ (hs0_9 t) (iblk m c 9 t) 1024 3840 (by decide) (by decide) inb_S1024x5632_S1024x256_0_1024 inb_S1024x5632_S1024x256_0_3840 _ (fun r k => gated12 _ _ _ r k) inb_S512x2816_S512x256_0_1024 x, ?_⟩
  refine List.forall_mem_cons.2 ⟨fun x => stored _ (hs0_9 t) (iblk m c 9 t) 768 3584 (by decide) (by decide) inb_S1024x5632_S1024x256_0_768 inb_S1024x5632_S1024x256_0_3584 _ (fun r k => gated11 _ _ _ r k) inb_S512x2816_S512x256_0_768 x, ?_⟩
  refine List.forall_mem_cons.2 ⟨fun x => stored _ (hs0_9 t) (iblk m c 9 t) 512 3328 (by decide) (by decide) inb_S1024x5632_S1024x256_0_512 inb_S1024x5632_S1024x256_0_3328 _ (fun r k => gated10 _ _ _ r k) inb_S512x2816_S512x256_0_512 x, ?_⟩
  refine List.forall_mem_cons.2 ⟨fun x => stored _ (hs0_9 t) (iblk m c 9 t) 256 3072 (by decide) (by decide) inb_S1024x5632_S1024x256_0_256 inb_S1024x5632_S1024x256_0_3072 _ (fun r k => gated9 _ _ _ _ _ r k) inb_S512x2816_S512x256_0_256 x, ?_⟩
  refine List.forall_mem_cons.2 ⟨fun x => stored _ (hs0_9 t) (iblk m c 9 t) 0 2816 (by decide) (by decide) inb_S1024x5632_S1024x256_0_0 inb_S1024x5632_S1024x256_0_2816 _ (fun r k => gated8 _ _ _ _ _ r k) inb_S512x2816_S512x256_0_0 x, ?_⟩
  exact List.forall_mem_nil _

/-- The rows a point leaves. -/
theorem rows (c : Dev nD) (t : Fin cfg0.N) (m : (ℓ : Loc nD τ sig) → Buf (Elt Ideal) ℓ) (r : Fin 512) (j : Fin 1024) :
    outsAt0 m c t (ix2 r j)
      = half (start c t m r) (fun k => iblk m c 7 t (ix2 0 k)) (fun k => iblk m c 8 t (ix2 0 k))
          (fun a b => iblk m c 9 t (ix2 a b)) (fun a b => iblk m c 10 t (ix2 a b)) j := by
  unfold outsAt0 out0_A_11
  rw [View.read_writes_junk_eq_canon]
  unfold kernelRun0_A
  dsimp only
  rw [View.canon_unit_zero zeros2]
  unfold kernelRun0_A.sl.r kernelRun0_A.sl.r_2
  rw [load_whole _ _ zeros2, load_whole _ _ zeros2, load_whole _ _ zeros2, load_whole _ _ zeros2, load_whole _ _ zeros2, load_whole _ _ zeros2, load_whole _ _ zeros2, load_whole _ _ zeros2, load_whole _ _ zeros2, finished]
  simp only [begun, act_rows]
  rfl

end Cert.Kernel2Ideal.Mix

end
-- ==== Proof.Value.Reference2.lean ====
/- What the second reference returns, read at an index: each row is the plain half step of the mixed row. -/
module

public import proofs.«01_k».proof.Proof.Value.HalfStep
public import proofs.«01_k».proof.Proof.Gen.Reference2Ideal.Run
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe
open Cert.Layer

/-- The normalized rows of a 16384 array. -/
def norm16384 (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The gated products of a 16384 array's rows. -/
def gate16384 (u : FVec Ideal S16384x1024 .f32) (w : FVec Ideal S1024x5632 .f32) : FVec Ideal S16384x2816 .f32 :=
  mulf (mulf (extractStridedSlice S16384x2816 ![0, 0] (Host.dotGeneral dot_S16384x1024_S1024x5632_S16384x5632_1_0_0_1_n_n none u w) slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] (Host.dotGeneral dot_S16384x1024_S1024x5632_S16384x5632_1_0_0_1_n_n none u w) slices_S16384x5632_S16384x2816_0_0)))))) (extractStridedSlice S16384x2816 ![0, 2816] (Host.dotGeneral dot_S16384x1024_S1024x5632_S16384x5632_1_0_0_1_n_n none u w) slices_S16384x5632_S16384x2816_0_2816)

/-- The half step of a 16384 array. -/
def half16384 (h : FVec Ideal S16384x1024 .f32) (gpre gpost : FVec Ideal S1024 .f32) (w : FVec Ideal S1024x5632 .f32) (w' : FVec Ideal S2816x1024 .f32) : FVec Ideal S16384x1024 .f32 :=
  addf h (mulf (broadcastInDim S16384x1024 ![] bcast_S_S16384x1024 (constant S_ .f32 0x3F000000#32)) (norm16384 (Host.dotGeneral dot_S16384x2816_S2816x1024_S16384x1024_1_0_0_1_n_n none (gate16384 (norm16384 h gpre) w) w') gpost))

theorem norm16384_apply (x : FVec Ideal S16384x1024 .f32) (g : FVec Ideal S1024 .f32) (r : Fin 16384) (j : Fin 1024) :
    norm16384 x g (ix2 r j) = rms (fun k => x (ix2 r k)) (fun k => g (ix1 k)) j := by
  pointwise [norm16384, rms]

theorem gate16384_apply (u : FVec Ideal S16384x1024 .f32) (w : FVec Ideal S1024x5632 .f32) (r : Fin 16384) (j : Fin 2816) :
    gate16384 u w (ix2 r j) = gate (fun k => u (ix2 r k)) (fun a b => w (ix2 a b)) j := by
  pointwise [gate16384, gate, proj, Ideal.logistic]

theorem half16384_apply (h : FVec Ideal S16384x1024 .f32) (gpre gpost : FVec Ideal S1024 .f32) (w : FVec Ideal S1024x5632 .f32)
    (w' : FVec Ideal S2816x1024 .f32) (r : Fin 16384) (j : Fin 1024) :
    half16384 h gpre gpost w w' (ix2 r j)
      = half (fun k => h (ix2 r k)) (fun k => gpre (ix1 k)) (fun k => gpost (ix1 k)) (fun a b => w (ix2 a b)) (fun a b => w' (ix2 a b)) j := by
  have hm : ∀ k, Host.dotGeneral dot_S16384x2816_S2816x1024_S16384x1024_1_0_0_1_n_n none (gate16384 (norm16384 h gpre) w) w' (ix2 r k)
      = mlp (rms (fun k => h (ix2 r k)) (fun k => gpre (ix1 k))) (fun a b => w (ix2 a b)) (fun a b => w' (ix2 a b)) k := by
    intro k
    pointwise [mlp]
    simp only [gate16384_apply, norm16384_apply]
  have h2 : half16384 h gpre gpost w w' (ix2 r j)
      = h (ix2 r j) + Ideal.ofBits .f32 0x3F000000#32 * norm16384 (Host.dotGeneral dot_S16384x2816_S2816x1024_S16384x1024_1_0_0_1_n_n none (gate16384 (norm16384 h gpre) w) w') gpost (ix2 r j) := by
    unfold half16384; pointwise
  rw [h2, norm16384_apply, half, funext hm]

/-- A reshaped gain and reshaped weights, read. -/
theorem gain_apply (g : FVec Ideal S1x1024 .f32) (k : Fin 1024) : shapeCast S1024 g shapeCasts_S1x1024_S1024 (ix1 k) = g (ix2 0 k) := by
  pointwise
theorem wide_apply (w : FVec Ideal S1x1024x5632 .f32) (a : Fin 1024) (k : Fin 5632) :
    shapeCast S1024x5632 w shapeCasts_S1x1024x5632_S1024x5632 (ix2 a k) = w (ix3 0 a k) := by
  pointwise
theorem tall_apply (w : FVec Ideal S1x2816x1024 .f32) (a : Fin 2816) (k : Fin 1024) :
    shapeCast S2816x1024 w shapeCasts_S1x2816x1024_S2816x1024 (ix2 a k) = w (ix3 0 a k) := by
  pointwise
theorem branch_apply (w : FVec Ideal S1x512x1024 .f32) (a : Fin 512) (k : Fin 1024) :
    shapeCast S512x1024 w shapeCasts_S1x512x1024_S512x1024 (ix2 a k) = w (ix3 0 a k) := by
  pointwise
theorem square_apply (w : FVec Ideal S1x1024x1024 .f32) (a k : Fin 1024) :
    shapeCast S1024x1024 w shapeCasts_S1x1024x1024_S1024x1024 (ix2 a k) = w (ix3 0 a k) := by
  pointwise

/-- The branches' gated sum through the last weights. -/
def mix (a : FVec Ideal S16384x512 .bf16) (s v : FVec Ideal S16384x1024 .bf16) (wa : FVec Ideal S512x1024 .f32) (wo : FVec Ideal S1024x1024 .f32) :
    FVec Ideal S16384x1024 .f32 :=
  Host.dotGeneral dot_S16384x1024_S1024x1024_S16384x1024_1_0_0_1_n_n none (addf (mulf (extf .f32 s bitsLt_bf16_f32) (Host.dotGeneral dot_S16384x512_S512x1024_S16384x1024_1_0_0_1_n_n none (extf .f32 a bitsLt_bf16_f32) wa)) (extf .f32 v bitsLt_bf16_f32)) wo

theorem mix_apply (a : FVec Ideal S16384x512 .bf16) (s v : FVec Ideal S16384x1024 .bf16) (wa : FVec Ideal S512x1024 .f32) (wo : FVec Ideal S1024x1024 .f32)
    (r : Fin 16384) (j : Fin 1024) :
    mix a s v wa wo (ix2 r j)
      = mixed (fun k => a (ix2 r k)) (fun k => s (ix2 r k)) (fun k => v (ix2 r k)) (fun p q => wa (ix2 p q)) (fun p q => wo (ix2 p q)) j := by
  pointwise [mix, mixed]

/-- The result of the arrays it is made from. -/
def layer (h : FVec Ideal S16384x1024 .f32) (a : FVec Ideal S16384x512 .bf16) (s v : FVec Ideal S16384x1024 .bf16) (wa : FVec Ideal S1x512x1024 .f32)
    (wo : FVec Ideal S1x1024x1024 .f32) (g g' g'' : FVec Ideal S1x1024 .f32) (w : FVec Ideal S1x1024x5632 .f32) (w' : FVec Ideal S1x2816x1024 .f32) :
    FVec Ideal S16384x1024 .f32 :=
  half16384 (addf h (norm16384 (mix a s v (shapeCast _ wa shapeCasts_S1x512x1024_S512x1024) (shapeCast _ wo shapeCasts_S1x1024x1024_S1024x1024))
      (shapeCast _ g shapeCasts_S1x1024_S1024)))
    (shapeCast _ g' shapeCasts_S1x1024_S1024) (shapeCast _ g'' shapeCasts_S1x1024_S1024)
    (shapeCast _ w shapeCasts_S1x1024x5632_S1024x5632) (shapeCast _ w' shapeCasts_S1x2816x1024_S2816x1024)

theorem added_apply (x y : FVec Ideal S16384x1024 .f32) (r : Fin 16384) (j : Fin 1024) : addf x y (ix2 r j) = x (ix2 r j) + y (ix2 r j) := by
  pointwise

theorem layer_apply (h : FVec Ideal S16384x1024 .f32) (a : FVec Ideal S16384x512 .bf16) (s v : FVec Ideal S16384x1024 .bf16) (wa : FVec Ideal S1x512x1024 .f32)
    (wo : FVec Ideal S1x1024x1024 .f32) (g g' g'' : FVec Ideal S1x1024 .f32) (w : FVec Ideal S1x1024x5632 .f32) (w' : FVec Ideal S1x2816x1024 .f32)
    (r : Fin 16384) (j : Fin 1024) :
    layer h a s v wa wo g g' g'' w w' (ix2 r j)
      = half (fun k => h (ix2 r k) + rms (mixed (fun k => a (ix2 r k)) (fun k => s (ix2 r k)) (fun k => v (ix2 r k)) (fun p q => wa (ix3 0 p q)) (fun p q => wo (ix3 0 p q)))
            (fun k => g (ix2 0 k)) k)
          (fun k => g' (ix2 0 k)) (fun k => g'' (ix2 0 k)) (fun a k => w (ix3 0 a k)) (fun a k => w' (ix3 0 a k)) j := by
  unfold layer
  rw [half16384_apply]
  simp only [added_apply, norm16384_apply, mix_apply, gain_apply, wide_apply, tall_apply, branch_apply, square_apply]

variable (m : (ℓ : Loc nD τ sig) → Buf (Elt Ideal) ℓ) (c : Dev nD)

/-- The result is that of the arguments. -/
theorem res_out0_eq : res_out0 (F := Ideal) m c
    = layer (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) := rfl

end Cert.Reference2Ideal.Value

end
-- ==== Proof.Value.Whole2.lean ====
/- The second call: what its blocks read of the arrays, the array its blocks fill, and the claims about it. -/
module

public import proofs.«01_k».proof.Defs
public import proofs.«01_k».proof.Proof.Value.Rows2
public import proofs.«01_k».proof.Proof.Value.Reference2
public import Idealize.ShloMosaic.Lib.Pipeline.ValueKit
public import Idealize.ShloMosaic.Lib.Pointwise
public import Idealize.ShloMosaic.Lib.Claim
public import Idealize.ShloMosaic.Lib.Quiescent

@[expose] public section

set_option maxRecDepth 16384

noncomputable section

namespace Cert.Kernel2Ideal.Mix

open Cert.Kernel2Ideal Cert.Kernel2Ideal.Gen Cert.Layer
open Cert.Reference2Ideal.Value (layer)
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-! ## The places of the blocks -/

theorem place0 : ∀ t : Fin cfg0.N, win0_0.index t = ![t.val, 0] :=
  (by decide +kernel : ∀ t : Fin grid0.N, win0_0.index t = ![t.val, 0])
theorem place1 : ∀ t : Fin cfg0.N, win0_1.index t = ![t.val, 0] :=
  (by decide +kernel : ∀ t : Fin grid0.N, win0_1.index t = ![t.val, 0])
theorem place2 : ∀ t : Fin cfg0.N, win0_2.index t = ![t.val, 0] :=
  (by decide +kernel : ∀ t : Fin grid0.N, win0_2.index t = ![t.val, 0])
theorem place3 : ∀ t : Fin cfg0.N, win0_3.index t = ![t.val, 0] :=
  (by decide +kernel : ∀ t : Fin grid0.N, win0_3.index t = ![t.val, 0])
theorem place4 : ∀ t : Fin cfg0.N, win0_4.index t = ![0, 0] :=
  (by decide +kernel : ∀ t : Fin grid0.N, win0_4.index t = ![0, 0])
theorem place5 : ∀ t : Fin cfg0.N, win0_5.index t = ![0, 0] :=
  (by decide +kernel : ∀ t : Fin grid0.N, win0_5.index t = ![0, 0])
theorem place6 : ∀ t : Fin cfg0.N, win0_6.index t = ![0, 0] :=
  (by decide +kernel : ∀ t : Fin grid0.N, win0_6.index t = ![0, 0])
theorem place7 : ∀ t : Fin cfg0.N, win0_7.index t = ![0, 0] :=
  (by decide +kernel : ∀ t : Fin grid0.N, win0_7.index t = ![0, 0])
theorem place8 : ∀ t : Fin cfg0.N, win0_8.index t = ![0, 0] :=
  (by decide +kernel : ∀ t : Fin grid0.N, win0_8.index t = ![0, 0])
theorem place9 : ∀ t : Fin cfg0.N, win0_9.index t = ![0, 0] :=
  (by decide +kernel : ∀ t : Fin grid0.N, win0_9.index t = ![0, 0])
theorem place10 : ∀ t : Fin cfg0.N, win0_10.index t = ![0, 0] :=
  (by decide +kernel : ∀ t : Fin grid0.N, win0_10.index t = ![0, 0])
theorem place11 : ∀ t : Fin cfg0.N, win0_11.index t = ![t.val, 0] :=
  (by decide +kernel : ∀ t : Fin grid0.N, win0_11.index t = ![t.val, 0])

/-! ## What the blocks read -/

theorem block0 (c : Dev nD) (t : Fin cfg0.N) (r : Fin 512) (k : Fin 1024) (q : Fin 16384) (h : q.val = 512 * t.val + r.val) :
    iblk m c 0 t (ix2 r k) = m ((c : Thread nD τ).loc main_arg0) (ix2 q k) := by
  have e0 : win0_0.index t 0 = t.val := by rw [place0]; rfl
  have e1 : win0_0.index t 1 = 0 := by rw [place0]; rfl
  unfold iblk
  show V m c main_arg0 _ = _
  entry_read
  blk_ext

theorem block1 (c : Dev nD) (t : Fin cfg0.N) (r : Fin 512) (k : Fin 512) (q : Fin 16384) (h : q.val = 512 * t.val + r.val) :
    iblk m c 1 t (ix2 r k) = m ((c : Thread nD τ).loc main_arg1) (ix2 q k) := by
  have e0 : win0_1.index t 0 = t.val := by rw [place1]; rfl
  have e1 : win0_1.index t 1 = 0 := by rw [place1]; rfl
  unfold iblk
  show V m c main_arg1 _ = _
  entry_read
  blk_ext

theorem block2 (c : Dev nD) (t : Fin cfg0.N) (r : Fin 512) (k : Fin 1024) (q : Fin 16384) (h : q.val = 512 * t.val + r.val) :
    iblk m c 2 t (ix2 r k) = m ((c : Thread nD τ).loc main_arg2) (ix2 q k) := by
  have e0 : win0_2.index t 0 = t.val := by rw [place2]; rfl
  have e1 : win0_2.index t 1 = 0 := by rw [place2]; rfl
  unfold iblk
  show V m c main_arg2 _ = _
  entry_read
  blk_ext

theorem block3 (c : Dev nD) (t : Fin cfg0.N) (r : Fin 512) (k : Fin 1024) (q : Fin 16384) (h : q.val = 512 * t.val + r.val) :
    iblk m c 3 t (ix2 r k) = m ((c : Thread nD τ).loc main_arg3) (ix2 q k) := by
  have e0 : win0_3.index t 0 = t.val := by rw [place3]; rfl
  have e1 : win0_3.index t 1 = 0 := by rw [place3]; rfl
  unfold iblk
  show V m c main_arg3 _ = _
  entry_read
  blk_ext

theorem block4 (c : Dev nD) (t : Fin cfg0.N) (a : Fin 512) (k : Fin 1024) :
    iblk m c 4 t (ix2 a k) = m ((c : Thread nD τ).loc main_arg4) (ix3 0 a k) := by
  unfold iblk
  show V m c main_v1 _ = _
  entry_read
  pointwise
  blk_ext [place4 t]

theorem block5 (c : Dev nD) (t : Fin cfg0.N) (a : Fin 1024) (k : Fin 1024) :
    iblk m c 5 t (ix2 a k) = m ((c : Thread nD τ).loc main_arg5) (ix3 0 a k) := by
  unfold iblk
  show V m c main_v3 _ = _
  entry_read
  pointwise
  blk_ext [place5 t]

theorem block9 (c : Dev nD) (t : Fin cfg0.N) (a : Fin 1024) (k : Fin 5632) :
    iblk m c 9 t (ix2 a k) = m ((c : Thread nD τ).loc main_arg9) (ix3 0 a k) := by
  unfold iblk
  show V m c main_v5 _ = _
  entry_read
  pointwise
  blk_ext [place9 t]

theorem block10 (c : Dev nD) (t : Fin cfg0.N) (a : Fin 2816) (k : Fin 1024) :
    iblk m c 10 t (ix2 a k) = m ((c : Thread nD τ).loc main_arg10) (ix3 0 a k) := by
  unfold iblk
  show V m c main_v7 _ = _
  entry_read
  pointwise
  blk_ext [place10 t]

theorem block6 (c : Dev nD) (t : Fin cfg0.N) (k : Fin 1024) :
    iblk m c 6 t (ix2 0 k) = m ((c : Thread nD τ).loc main_arg6) (ix2 0 k) := by
  unfold iblk
  show V m c main_v9 _ = _
  entry_read
  pointwise
  blk_ext [place6 t]

theorem block7 (c : Dev nD) (t : Fin cfg0.N) (k : Fin 1024) :
    iblk m c 7 t (ix2 0 k) = m ((c : Thread nD τ).loc main_arg7) (ix2 0 k) := by
  unfold iblk
  show V m c main_v11 _ = _
  entry_read
  pointwise
  blk_ext [place7 t]

theorem block8 (c : Dev nD) (t : Fin cfg0.N) (k : Fin 1024) :
    iblk m c 8 t (ix2 0 k) = m ((c : Thread nD τ).loc main_arg8) (ix2 0 k) := by
  unfold iblk
  show V m c main_v13 _ = _
  entry_read
  pointwise
  blk_ext [place8 t]

/-! ## The array the blocks fill -/

theorem filled (c : Dev nD) : (dats m 0 c).arrAt 11 cfg0.N = layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 11 _ (by decide +kernel) fun t hf y => ?_
  blk_simp
  rw [after0_11]
  obtain ⟨r, j, rfl⟩ : ∃ (r : Fin 512) (j : Fin 1024), y = ix2 r j := ⟨y 0, y 1, by funext a; match a with | ⟨0, _⟩ => rfl | ⟨1, _⟩ => rfl⟩
  have ht : t.val < 32 := t.isLt
  have hr : r.val < 512 := r.isLt
  have e : ((cfg0.win 11).blk t).view.emb (ix2 r j) = ix2 (n0 := 16384) (n1 := 1024) ⟨512 * t.val + r.val, by omega⟩ j := by
    blk_ext [place11 t]
  rw [e, Cert.Reference2Ideal.Value.layer_apply]
  refine (rows c t m r j).trans ?_
  have h0 := fun k => block0 m c t r k ⟨512 * t.val + r.val, by omega⟩ rfl
  have h1 := fun k => block1 m c t r k ⟨512 * t.val + r.val, by omega⟩ rfl
  have h2 := fun k => block2 m c t r k ⟨512 * t.val + r.val, by omega⟩ rfl
  have h3 := fun k => block3 m c t r k ⟨512 * t.val + r.val, by omega⟩ rfl
  have hs : start c t m r = fun k => _ := funext fun k => by
    unfold start
    simp only [h0, h1, h2, h3, block4, block5, block6]
    rfl
  rw [hs]
  simp only [block7, block8, block9, block10]

end Cert.Kernel2Ideal.Mix

namespace Cert.Whole2

open Idealize.ShloMosaic Idealize.ShloMosaic.TcCoe Idealize.SL.Sem

/-- Kernel and reference, from the same arguments, end with the same result. -/
theorem algebraic : Cert.algebraic_Kernel2Ideal_Reference2Ideal (hKernel2Ideal := Cert.Kernel2Ideal.Gen.facts) (hReference2Ideal := Cert.Reference2Ideal.Gen.facts) :=
  fun m ρ m' ρ' _ hag =>
    ⟨fun c => Cert.Reference2Ideal.Value.layer (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)),
     (θ_run _ _ _).mono (fun _ h c => ⟨(h c).1.trans (Cert.Kernel2Ideal.Mix.filled m c), (h c).2⟩) (Cert.Kernel2Ideal.Value.run_blocks m ρ),
     (θ_run _ _ _).mono (fun _ h c => by
      obtain ⟨a0, a1, a2, a3, a4, a5, a6, a7, a8, a9, a10⟩ := hag c
      refine ⟨(h c).1.trans ((Cert.Reference2Ideal.Value.res_out0_eq m' c).trans ?_), (h c).2⟩
      rw [a0, a1, a2, a3, a4, a5, a6, a7, a8, a9, a10]) (Cert.Reference2Ideal.Value.run m' ρ')⟩

/-- The reference leaves its arguments, and has no counters. -/
theorem reference_frame : Cert.quiescent_Reference2Ideal (hReference2Ideal := Cert.Reference2Ideal.Gen.facts) :=
  fun m ρ _ => (θ_run _ _ _).mono (fun r h => ⟨fun c => (h c).2, sem_eq_zero_of_no_sems (by decide) r.2⟩)
    (Cert.Reference2Ideal.Value.run m ρ)

end Cert.Whole2

end
-- ==== Proof.Mixin.Plain.lean ====
/- The mixer's inputs as plain sums: a row against a column of the joint weights, the products, the convolution over the rows before, and the gates. -/
module

public import proofs.«01_k».proof.Proof.Value.HalfStep

@[expose] public section

noncomputable section

namespace Cert.Layer

open Idealize.ShloMosaic
open scoped BigOperators

/-- A row of 1024 entries times a row of weights. -/
def dot (u w : Fin 1024 → EReal) : EReal := ∑ i, u i * w i

/-- The factor of the query lanes. -/
def scale : EReal := Ideal.ofBits .f32 0x3E38AA3B#32

variable (h : Fin 16384 → Fin 1024 → EReal) (g : Fin 1024 → EReal) (w : Fin 1024 → Fin 5128 → EReal)
  (cw : Fin 3 → Fin 512 → EReal) (p0 : Fin 8 → Fin 512 → EReal) (wc : Fin 512 → Fin 1024 → EReal)

/-- A normalized row times one column of the joint weights. -/
def col (i : Fin 16384) (n : Fin 5128) : EReal := dot (rms (h i) g) fun a => w a n

/-- The product that the convolution runs over. -/
def prod (i : Fin 16384) (k : Fin 512) : EReal :=
  col h g w i ⟨2056 + k.val, by omega⟩ * col h g w i ⟨2568 + k.val, by omega⟩

/-- The product `d` rows before, in the same sequence of 8192 rows, or one of the rows given at its start. -/
def before (d : ℕ) (hd : d ≤ 8) (i : Fin 16384) (k : Fin 512) : EReal :=
  if h' : d ≤ i.val % 8192 then prod h g w ⟨i.val - d, by omega⟩ k else p0 ⟨8 + i.val % 8192 - d, by omega⟩ k

/-- The convolution over a row and the two rows before it. -/
def conv (i : Fin 16384) (k : Fin 512) : EReal :=
  before h g w p0 2 (by omega) i k * cw 0 k + before h g w p0 1 (by omega) i k * cw 1 k + prod h g w i k * cw 2 k

/-- The gate of the attention. -/
def gateA (i : Fin 16384) (j : Fin 1024) : EReal := Ideal.logistic (col h g w i ⟨3080 + j.val, by omega⟩)

/-- The gated convolution. -/
def gatedConv (i : Fin 16384) (j : Fin 1024) : EReal :=
  Ideal.logistic (col h g w i ⟨4104 + j.val, by omega⟩)
    * ∑ k, col h g w i ⟨1544 + k.val, by omega⟩ * conv h g w cw p0 i k * wc k j

/-- The query, key and value entries. -/
def queryAt (i : Fin 16384) (j : Fin 512) : EReal := col h g w i ⟨j.val, by omega⟩ * scale
def keyAt (i : Fin 16384) (j : Fin 512) : EReal := col h g w i ⟨512 + j.val, by omega⟩
def valueAt (i : Fin 16384) (j : Fin 512) : EReal := col h g w i ⟨1024 + j.val, by omega⟩

end Cert.Layer

end
-- ==== Proof.Mixin.Pays.lean ====
/- The third call's body as plain sums: the entries of each block it stores. -/
module

public import proofs.«01_k».proof.Proof.Mixin.Plain
public import proofs.«01_k».proof.Proof.Gen.Kernel3Ideal.Skeleton
public import Idealize.ShloMosaic.Lib.Pointwise

@[expose] public section

set_option maxRecDepth 16384

noncomputable section

namespace Cert.Kernel3Ideal.Mixin

open Cert.Kernel3Ideal Cert.Kernel3Ideal.Gen Idealize.ShloMosaic Idealize.ShloMosaic.TcCoe Idealize.ShloMosaic.Tactic
open Cert.Layer
open scoped BigOperators

/-- The lanes' numbers. -/
abbrev lanes : IVec S512x128 32 := iota .tc S512x128 32 [1] iota_S512x128_d1_w32

theorem low : ∀ l : Fin 128, l.val < 64 → IntOp.cmpi .slt (BitVec.ofNat 32 l.val) 64#32 = 1#1 := by decide

theorem high : ∀ l : Fin 128, ¬l.val < 64 → IntOp.cmpi .slt (BitVec.ofNat 32 l.val) 64#32 = 0#1 := by decide

/-- The normalized rows. -/
theorem normal (x : Vec Ideal S512x1024 .f32) (g : Vec Ideal S1x1024 .f32) (r : Fin 512) (i : Fin 1024) :
    k0_pay4 x g (ix2 r i) = rms (fun k => x (ix2 r k)) (fun k => g (ix2 0 k)) i := by
  pointwise [k0_pay4, rms]

theorem query (u : FVec Ideal S512x1024 .bf16) (w : Vec Ideal S512x1024 .bf16) (r j : Fin 512) :
    k0_pay7 u w (ix2 r j) = dot (fun i => u (ix2 r i)) (fun i => w (ix2 j i)) * scale := by
  pointwise [k0_pay7, dot, scale]

theorem key (u : FVec Ideal S512x1024 .bf16) (w : Vec Ideal S512x1024 .bf16) (r j : Fin 512) :
    k0_pay36 u w (ix2 r j) = dot (fun i => u (ix2 r i)) (fun i => w (ix2 j i)) := by
  pointwise [k0_pay36, dot]

theorem value (u : FVec Ideal S512x1024 .bf16) (w : Vec Ideal S512x1024 .bf16) (r j : Fin 512) :
    k0_pay69 u w (ix2 r j) = dot (fun i => u (ix2 r i)) (fun i => w (ix2 j i)) := by
  pointwise [k0_pay69, dot]

theorem product (u : FVec Ideal S512x1024 .bf16) (a b : Vec Ideal S512x1024 .bf16) (r j : Fin 512) :
    k0_pay144 u a b (ix2 r j) = dot (fun i => u (ix2 r i)) (fun i => a (ix2 j i)) * dot (fun i => u (ix2 r i)) (fun i => b (ix2 j i)) := by
  pointwise [k0_pay144, dot]

theorem gated (u : FVec Ideal S512x1024 .bf16) (w : Vec Ideal S1024x1024 .bf16) (r : Fin 512) (j : Fin 1024) :
    k0_pay149 u w (ix2 r j) = Ideal.logistic (dot (fun i => u (ix2 r i)) (fun i => w (ix2 j i))) := by
  pointwise [k0_pay149, dot]

theorem gatedBy (u : FVec Ideal S512x1024 .bf16) (y : FVec Ideal S512x1024 .f32) (w : Vec Ideal S1024x1024 .bf16) (r : Fin 512) (j : Fin 1024) :
    k0_pay1 u y (k0_pay150 w) (constant S512x1024 .f32 0x00000000#32) (ix2 r j)
      = Ideal.logistic (dot (fun i => u (ix2 r i)) (fun i => w (ix2 j i))) * y (ix2 r j) := by
  pointwise [k0_pay1, k0_pay150, dot]

theorem branch (u : FVec Ideal S512x1024 .bf16) (p p2 p1 : FVec Ideal S512x512 .f32) (c0 c1 c2 : Vec Ideal S1x512 .f32)
    (b : Vec Ideal S512x1024 .bf16) (w : Vec Ideal S512x1024 .bf16) (r : Fin 512) (j : Fin 1024) :
    k0_pay148 u p (k0_pay146 p2 c0) p1 c1 c2 b w (ix2 r j)
      = ∑ k : Fin 512, dot (fun i => u (ix2 r i)) (fun i => b (ix2 k i))
          * (p2 (ix2 r k) * c0 (ix2 0 k) + p1 (ix2 r k) * c1 (ix2 0 k) + p (ix2 r k) * c2 (ix2 0 k)) * w (ix2 k j) := by
  pointwise [k0_pay148, k0_pay146, dot]

/-! ## The lanes each stored column block holds -/

theorem query10 (u : FVec Ideal S512x1024 .bf16) (w : Vec Ideal S512x1024 .bf16) (r : Fin 512) (l : Fin 128) (h : l.val < 64) :
    k0_pay10 u w (ix2 r l) = k0_pay7 u w (ix2 r ⟨0 + l.val, by omega⟩) := by
  have e := low l h
  pointwise [k0_pay10, k0_pay8, e]

theorem query11 (u : FVec Ideal S512x1024 .bf16) (w : Vec Ideal S512x1024 .bf16) (r : Fin 512) (l : Fin 128) (h : ¬l.val < 64) :
    k0_pay11 u w (ix2 r l) = k0_pay7 u w (ix2 r ⟨0 + l.val, by omega⟩) := by
  have e := high l h
  pointwise [k0_pay11, k0_pay8, e]

theorem query14 (u : FVec Ideal S512x1024 .bf16) (w : Vec Ideal S512x1024 .bf16) (r : Fin 512) (l : Fin 128) (h : l.val < 64) :
    k0_pay14 u w (ix2 r l) = k0_pay7 u w (ix2 r ⟨128 + l.val, by omega⟩) := by
  have e := low l h
  pointwise [k0_pay14, k0_pay12, e]

theorem query15 (u : FVec Ideal S512x1024 .bf16) (w : Vec Ideal S512x1024 .bf16) (r : Fin 512) (l : Fin 128) (h : ¬l.val < 64) :
    k0_pay15 u w (ix2 r l) = k0_pay7 u w (ix2 r ⟨128 + l.val, by omega⟩) := by
  have e := high l h
  pointwise [k0_pay15, k0_pay12, e]

theorem query18 (u : FVec Ideal S512x1024 .bf16) (w : Vec Ideal S512x1024 .bf16) (r : Fin 512) (l : Fin 128) (h : l.val < 64) :
    k0_pay18 u w (ix2 r l) = k0_pay7 u w (ix2 r ⟨256 + l.val, by omega⟩) := by
  have e := low l h
  pointwise [k0_pay18, k0_pay16, e]

theorem query19 (u : FVec Ideal S512x1024 .bf16) (w : Vec Ideal S512x1024 .bf16) (r : Fin 512) (l : Fin 128) (h : ¬l.val < 64) :
    k0_pay19 lanes (k0_pay16 u w) (k0_pay17 (F := Ideal)) (ix2 r l) = k0_pay7 u w (ix2 r ⟨256 + l.val, by omega⟩) := by
  have e := high l h
  pointwise [k0_pay19, k0_pay16, e]

theorem query22 (u : FVec Ideal S512x1024 .bf16) (w : Vec Ideal S512x1024 .bf16) (r : Fin 512) (l : Fin 128) (h : l.val < 64) :
    k0_pay22 (k0_pay7 u w) lanes (ix2 r l) = k0_pay7 u w (ix2 r ⟨384 + l.val, by omega⟩) := by
  have e := low l h
  pointwise [k0_pay22, k0_pay20, e]

theorem query23 (u : FVec Ideal S512x1024 .bf16) (w : Vec Ideal S512x1024 .bf16) (r : Fin 512) (l : Fin 128) (h : ¬l.val < 64) :
    k0_pay23 (k0_pay7 u w) lanes (ix2 r l) = k0_pay7 u w (ix2 r ⟨384 + l.val, by omega⟩) := by
  have e := high l h
  pointwise [k0_pay23, k0_pay20, e]

theorem key37 (u : FVec Ideal S512x1024 .bf16) (w : Vec Ideal S512x1024 .bf16) (r : Fin 512) (l : Fin 128) :
    k0_pay37 u w (ix2 r l) = k0_pay36 u w (ix2 r ⟨0 + l.val, by omega⟩) := by
  pointwise [k0_pay37]

theorem key38 (u : FVec Ideal S512x1024 .bf16) (w : Vec Ideal S512x1024 .bf16) (r : Fin 512) (l : Fin 128) :
    k0_pay38 u w (ix2 r l) = k0_pay36 u w (ix2 r ⟨128 + l.val, by omega⟩) := by
  pointwise [k0_pay38]

theorem key39 (u : FVec Ideal S512x1024 .bf16) (w : Vec Ideal S512x1024 .bf16) (r : Fin 512) (l : Fin 128) :
    k0_pay39 u w (ix2 r l) = k0_pay36 u w (ix2 r ⟨256 + l.val, by omega⟩) := by
  pointwise [k0_pay39]

theorem key40 (u : FVec Ideal S512x1024 .bf16) (w : Vec Ideal S512x1024 .bf16) (r : Fin 512) (l : Fin 128) :
    k0_pay40 u w (ix2 r l) = k0_pay36 u w (ix2 r ⟨384 + l.val, by omega⟩) := by
  pointwise [k0_pay40]

theorem value73 (u : FVec Ideal S512x1024 .bf16) (w : Vec Ideal S512x1024 .bf16) (r : Fin 512) (l : Fin 128) (h : l.val < 64) :
    k0_pay73 u lanes w (ix2 r l) = k0_pay69 u w (ix2 r ⟨0 + l.val, by omega⟩) := by
  have e := low l h
  pointwise [k0_pay73, k0_pay72, e]

theorem value74 (u : FVec Ideal S512x1024 .bf16) (w : Vec Ideal S512x1024 .bf16) (r : Fin 512) (l : Fin 128) (h : ¬l.val < 64) :
    k0_pay74 u lanes w (ix2 r l) = k0_pay69 u w (ix2 r ⟨0 + l.val, by omega⟩) := by
  have e := high l h
  pointwise [k0_pay74, k0_pay72, e]

theorem value76 (u : FVec Ideal S512x1024 .bf16) (w : Vec Ideal S512x1024 .bf16) (r : Fin 512) (l : Fin 128) (h : l.val < 64) :
    k0_pay76 u lanes w (ix2 r l) = k0_pay69 u w (ix2 r ⟨128 + l.val, by omega⟩) := by
  have e := low l h
  pointwise [k0_pay76, k0_pay75, e]

theorem value77 (u : FVec Ideal S512x1024 .bf16) (w : Vec Ideal S512x1024 .bf16) (r : Fin 512) (l : Fin 128) (h : ¬l.val < 64) :
    k0_pay77 lanes (k0_pay71 (F := Ideal) lanes) (k0_pay75 u w) (ix2 r l) = k0_pay69 u w (ix2 r ⟨128 + l.val, by omega⟩) := by
  have e := high l h
  pointwise [k0_pay77, k0_pay75, e]

theorem value79 (u : FVec Ideal S512x1024 .bf16) (w : Vec Ideal S512x1024 .bf16) (r : Fin 512) (l : Fin 128) (h : l.val < 64) :
    k0_pay79 lanes (k0_pay69 u w) (k0_pay70 (F := Ideal) lanes) (ix2 r l) = k0_pay69 u w (ix2 r ⟨256 + l.val, by omega⟩) := by
  have e := low l h
  pointwise [k0_pay79, k0_pay78, e]

theorem value80 (u : FVec Ideal S512x1024 .bf16) (w : Vec Ideal S512x1024 .bf16) (r : Fin 512) (l : Fin 128) (h : ¬l.val < 64) :
    k0_pay80 lanes (k0_pay69 u w) (k0_pay71 (F := Ideal) lanes) (ix2 r l) = k0_pay69 u w (ix2 r ⟨256 + l.val, by omega⟩) := by
  have e := high l h
  pointwise [k0_pay80, k0_pay78, e]

theorem value82 (u : FVec Ideal S512x1024 .bf16) (w : Vec Ideal S512x1024 .bf16) (r : Fin 512) (l : Fin 128) (h : l.val < 64) :
    k0_pay82 lanes (k0_pay69 u w) (k0_pay70 (F := Ideal) lanes) (ix2 r l) = k0_pay69 u w (ix2 r ⟨384 + l.val, by omega⟩) := by
  have e := low l h
  pointwise [k0_pay82, k0_pay81, e]

theorem value83 (u : FVec Ideal S512x1024 .bf16) (w : Vec Ideal S512x1024 .bf16) (r : Fin 512) (l : Fin 128) (h : ¬l.val < 64) :
    k0_pay83 lanes (k0_pay69 u w) (k0_pay71 (F := Ideal) lanes) (ix2 r l) = k0_pay69 u w (ix2 r ⟨384 + l.val, by omega⟩) := by
  have e := high l h
  pointwise [k0_pay83, k0_pay81, e]

end Cert.Kernel3Ideal.Mixin

end
-- ==== Proof.Mixin.Rows.lean ====
/- The third call's blocks at one grid point, as plain sums of its input blocks: the lanes a later call reads, and the rows carried over. -/
module

public import proofs.«01_k».proof.Proof.Ffn.Frame
public import proofs.«01_k».proof.Proof.Mixin.Pays
public import proofs.«01_k».proof.Proof.Gen.Kernel3Ideal.Frame
public import Idealize.ShloMosaic.Lib.WholeRead
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.Kernel3Ideal.Mixin

open Cert.Kernel3Ideal Cert.Kernel3Ideal.Gen Idealize.ShloMosaic Idealize.ShloMosaic.TcCoe Idealize.ShloMosaic.Tactic
open Cert.Layer Cert.KernelIdeal.Ffn
open scoped BigOperators

/-- A load of some rows from row `o` on. -/
theorem load_rows {N n K : ℕ} {sp : Space} {e : EltTy} {mr : Memref sig .tc sp (⟨2, ![N, K]⟩ : Shape) e}
    (h : mr.IsWhole) (X : (⟨2, ![N, K]⟩ : Shape).Idx → Elt Ideal e) (o : ℕ) (ho : o + n ≤ N)
    (inb : ∀ a, (![o, 0] : Fin 2 → ℕ) a + (⟨2, ![n, K]⟩ : Shape).size a ≤ (⟨2, ![N, K]⟩ : Shape).size a) (i : Fin n) (k : Fin K) :
    View.readAt (Elt Ideal) mr.view (Rect.unit (s := (⟨2, ![N, K]⟩ : Shape)) ![o, 0] (⟨2, ![n, K]⟩ : Shape).size inb).toLoadRect (h.unread X) (ix2 i k)
      = X (ix2 ⟨o + i.val, by omega⟩ k) := by
  rw [h.readAt_unread]
  congr 1
  funext a
  apply Fin.ext
  match a with
  | ⟨0, _⟩ => show o + 1 * i.val = o + i.val; omega
  | ⟨1, _⟩ => show 0 + 1 * k.val = k.val; omega

/-- The place a load of rows from row `o` on reads. -/
theorem rows_idx {N n K : ℕ} (o : ℕ) (ho : o + n ≤ N)
    (inb : ∀ a, (![o, 0] : Fin 2 → ℕ) a + (⟨2, ![n, K]⟩ : Shape).size a ≤ (⟨2, ![N, K]⟩ : Shape).size a) (i : Fin n) (k : Fin K) :
    (Rect.unit (s := (⟨2, ![N, K]⟩ : Shape)) ![o, 0] (⟨2, ![n, K]⟩ : Shape).size inb).toLoadRect.idx (ix2 i k) = ix2 ⟨o + i.val, by omega⟩ k := by
  funext a
  apply Fin.ext
  match a with
  | ⟨0, _⟩ => show o + 1 * i.val = o + i.val; omega
  | ⟨1, _⟩ => show 0 + 1 * k.val = k.val; omega

/-- A block of 128 columns and all rows, at the entry it holds. -/
theorem tile {W : ℕ} (r : Fin 512) (j : Fin W) (o : ℕ) (P : (⟨2, ![512, 128]⟩ : Shape).Idx → EReal) (v : EReal)
    (h : ∀ l : Fin 128, o + l.val = j.val → P (ix2 r l) = v) :
    View.TileAt (Val := Elt Ideal) (e := .bf16) (S := (⟨2, ![512, W]⟩ : Shape)) (ix2 r j) ![0, o] ![512, 128] P v := by
  intro x hx
  have h0 : (x 0 : ℕ) = r.val := by have := hx 0; have e : r.val = 0 + (x 0 : ℕ) := this; omega
  have h1 : o + (x 1 : ℕ) = j.val := (hx 1).symm
  rw [eq_ix2 x, show x 0 = r from Fin.ext h0]
  exact h (x 1) h1

/-- A block that does not meet the entry's column. -/
theorem skip {W : ℕ} (r : Fin 512) (j : Fin W) (o' o n : ℕ) (P : (⟨2, ![n, 128]⟩ : Shape).Idx → EReal) (v : EReal)
    (h : j.val < o ∨ o + 128 ≤ j.val) :
    View.TileAt (Val := Elt Ideal) (e := .bf16) (S := (⟨2, ![512, W]⟩ : Shape)) (ix2 r j) ![o', o] ![n, 128] P v := by
  intro x hx
  have h1 : o + (x 1 : ℕ) = j.val := (hx 1).symm
  have h2 : (x 1 : ℕ) < 128 := (x 1).isLt
  omega

/-- Rows stored last, read back. -/
theorem stored_rows {N n K : ℕ} (o : ℕ) (inb : ∀ a, (![o, 0] : Fin 2 → ℕ) a + (⟨2, ![n, K]⟩ : Shape).size a ≤ (⟨2, ![N, K]⟩ : Shape).size a)
    (w : (⟨2, ![n, K]⟩ : Shape).Idx → EReal) (L : List (View.Piece (Elt Ideal) (⟨2, ![N, K]⟩ : Shape) .f32)) (i : Fin N) (i' : Fin n) (k : Fin K) (h : i.val = o + i'.val) :
    View.canon ((⟨Rect.unit (s := (⟨2, ![N, K]⟩ : Shape)) ![o, 0] (⟨2, ![n, K]⟩ : Shape).size inb, w⟩ : View.Piece (Elt Ideal) (⟨2, ![N, K]⟩ : Shape) .f32) :: L) (ix2 i k) = w (ix2 i' k) := by
  have hy : (Rect.unit (s := (⟨2, ![N, K]⟩ : Shape)) ![o, 0] (⟨2, ![n, K]⟩ : Shape).size inb).emb (ix2 i' k) = ix2 i k := by
    funext a
    apply Fin.ext
    match a with
    | ⟨0, _⟩ => show o + 1 * i'.val = i.val; omega
    | ⟨1, _⟩ => show 0 + 1 * k.val = k.val; omega
  rw [← hy]
  exact View.canon_cons_emb _ _ _ _

/-- Rows the last store leaves alone. -/
theorem other_rows {N n K : ℕ} (o : ℕ) (inb : ∀ a, (![o, 0] : Fin 2 → ℕ) a + (⟨2, ![n, K]⟩ : Shape).size a ≤ (⟨2, ![N, K]⟩ : Shape).size a)
    (w : (⟨2, ![n, K]⟩ : Shape).Idx → EReal) (L : List (View.Piece (Elt Ideal) (⟨2, ![N, K]⟩ : Shape) .f32)) (i : Fin N) (k : Fin K) (h : i.val < o ∨ o + n ≤ i.val) :
    View.canon ((⟨Rect.unit (s := (⟨2, ![N, K]⟩ : Shape)) ![o, 0] (⟨2, ![n, K]⟩ : Shape).size inb, w⟩ : View.Piece (Elt Ideal) (⟨2, ![N, K]⟩ : Shape) .f32) :: L) (ix2 i k) = View.canon L (ix2 i k) := by
  refine View.canon_cons_of_not_mem _ _ fun hm => ?_
  have h0 := (Rect.mem_set_unit (s := (⟨2, ![N, K]⟩ : Shape)) (inb := inb) |>.mp hm) 0
  have h1 : o ≤ i.val ∧ i.val < o + n := h0
  omega

variable (m : (ℓ : Loc nD τ sig) → Buf (Elt Ideal) ℓ) (c : Dev nD)

/-- A row of the block, scaled to unit mean square and by the weights. -/
def unitRow (t : Fin cfg0.N) (r : Fin 512) : Fin 1024 → EReal :=
  rms (fun k => iblk m c 0 t (ix2 r k)) (fun k => iblk m c 1 t (ix2 0 k))

/-- A row against one row of the joint weights of queries, keys and values. -/
def head (t : Fin cfg0.N) (r : Fin 512) (n : Fin 1536) : EReal := dot (unitRow m c t r) fun i => iblk m c 2 t (ix2 n i)

/-- A row against one row of the mixing weights. -/
def mixed (t : Fin cfg0.N) (r : Fin 512) (n : Fin 3584) : EReal := dot (unitRow m c t r) fun i => iblk m c 3 t (ix2 n i)

/-- A row's product that the convolution runs over. -/
def prodRow (t : Fin cfg0.N) (r : Fin 512) (k : Fin 512) : EReal :=
  mixed m c t r ⟨512 + k.val, by omega⟩ * mixed m c t r ⟨1024 + k.val, by omega⟩

/-- The rows left by the point before. -/
def prev (t : Fin cfg0.N) : Vec Ideal S520x512 .f32 :=
  (outsAt0 m c (t.val - 1) (Nat.lt_of_le_of_lt (Nat.sub_le _ _) t.isLt)).2.2.2.2.2.2.2.1

/-- A query entry. -/
def qv (t : Fin cfg0.N) (r n : Fin 512) : EReal := head m c t r ⟨n.val, by omega⟩ * scale

/-- A key entry. -/
def kv (t : Fin cfg0.N) (r n : Fin 512) : EReal := head m c t r ⟨512 + n.val, by omega⟩

/-- A value entry. -/
def vv (t : Fin cfg0.N) (r n : Fin 512) : EReal := head m c t r ⟨1024 + n.val, by omega⟩

theorem rowA (t : Fin cfg0.N) (r : Fin 512) : (fun i => (kernelRun0_A.sl.r (F := Ideal) c (ms0_0 t) (hs0_0 t) (ms0_1 t) (hs0_1 t) (iblk m c 0 t) (iblk m c 1 t)) (ix2 r i)) = unitRow m c t r := by
  funext i
  unfold kernelRun0_A.sl.r
  rw [normal, load_whole _ _ zeros2, load_whole _ _ zeros2]
  rfl

theorem headA (t : Fin cfg0.N) (r : Fin 512) (o : ℕ) (ho : o + 512 ≤ 1536) (inb) (n : Fin 512) :
    dot (fun i => (kernelRun0_A.sl.r (F := Ideal) c (ms0_0 t) (hs0_0 t) (ms0_1 t) (hs0_1 t) (iblk m c 0 t) (iblk m c 1 t)) (ix2 r i)) (fun i => View.readAt (Elt Ideal) (ms0_2 t).view (Rect.unit (s := S1536x1024) ![o, 0] S512x1024.size inb).toLoadRect ((hs0_2 t).unread (iblk m c 2 t)) (ix2 n i))
      = head m c t r ⟨o + n.val, by omega⟩ := by
  rw [rowA]
  exact congrArg (dot _) (funext fun i => load_rows (hs0_2 t) _ o ho inb n i)

theorem mixedA (t : Fin cfg0.N) (r : Fin 512) (a o : ℕ) (ho : o + a ≤ 3584) (inb) (n : Fin a) :
    dot (fun i => (kernelRun0_A.sl.r (F := Ideal) c (ms0_0 t) (hs0_0 t) (ms0_1 t) (hs0_1 t) (iblk m c 0 t) (iblk m c 1 t)) (ix2 r i)) (fun i => View.readAt (Elt Ideal) (ms0_3 t).view (Rect.unit (s := S3584x1024) ![o, 0] (⟨2, ![a, 1024]⟩ : Shape).size inb).toLoadRect ((hs0_3 t).unread (iblk m c 3 t)) (ix2 n i))
      = mixed m c t r ⟨o + n.val, by omega⟩ := by
  rw [rowA]
  exact congrArg (dot _) (funext fun i => load_rows (hs0_3 t) _ o ho inb n i)

theorem qA (t : Fin cfg0.N) (r n : Fin 512) : (kernelRun0_A.sl.r_2 (F := Ideal) c (ms0_0 t) (hs0_0 t) (ms0_1 t) (hs0_1 t) (ms0_2 t) (hs0_2 t) (iblk m c 0 t) (iblk m c 1 t) (iblk m c 2 t)) (ix2 r n) = qv m c t r n := by
  unfold kernelRun0_A.sl.r_2
  rw [query, headA m c t r 0 (by omega)]
  unfold qv
  congr 2
  exact Fin.ext (Nat.zero_add _)

theorem vA (t : Fin cfg0.N) (r n : Fin 512) : (kernelRun0_A.sl.r_25 (F := Ideal) c (ms0_0 t) (hs0_0 t) (ms0_1 t) (hs0_1 t) (ms0_2 t) (hs0_2 t) (iblk m c 0 t) (iblk m c 1 t) (iblk m c 2 t)) (ix2 r n) = vv m c t r n := by
  unfold kernelRun0_A.sl.r_25
  rw [value, headA m c t r 1024 (by omega)]
  rfl

theorem kA (t : Fin cfg0.N) (r n : Fin 512) (inb) : k0_pay36 (kernelRun0_A.sl.r (F := Ideal) c (ms0_0 t) (hs0_0 t) (ms0_1 t) (hs0_1 t) (iblk m c 0 t) (iblk m c 1 t)) (View.readAt (Elt Ideal) (ms0_2 t).view (Rect.unit (s := S1536x1024) ![512, 0] S512x1024.size inb).toLoadRect ((hs0_2 t).unread (iblk m c 2 t))) (ix2 r n) = kv m c t r n := by
  rw [key, headA m c t r 512 (by omega)]
  rfl

theorem pA (t : Fin cfg0.N) (r k : Fin 512) : (kernelRun0_A.sl.r_37 (F := Ideal) c (ms0_0 t) (hs0_0 t) (ms0_1 t) (hs0_1 t) (ms0_3 t) (hs0_3 t) (iblk m c 0 t) (iblk m c 1 t) (iblk m c 3 t)) (ix2 r k) = prodRow m c t r k := by
  unfold kernelRun0_A.sl.r_37
  rw [product, mixedA m c t r 512 512 (by omega), mixedA m c t r 512 1024 (by omega)]
  rfl

theorem rowB (t : Fin cfg0.N) (r : Fin 512) : (fun i => (kernelRun0_B.sl.r (F := Ideal) c (ms0_0 t) (hs0_0 t) (ms0_1 t) (hs0_1 t) (iblk m c 0 t) (iblk m c 1 t)) (ix2 r i)) = unitRow m c t r := by
  funext i
  unfold kernelRun0_B.sl.r
  rw [normal, load_whole _ _ zeros2, load_whole _ _ zeros2]
  rfl

theorem headB (t : Fin cfg0.N) (r : Fin 512) (o : ℕ) (ho : o + 512 ≤ 1536) (inb) (n : Fin 512) :
    dot (fun i => (kernelRun0_B.sl.r (F := Ideal) c (ms0_0 t) (hs0_0 t) (ms0_1 t) (hs0_1 t) (iblk m c 0 t) (iblk m c 1 t)) (ix2 r i)) (fun i => View.readAt (Elt Ideal) (ms0_2 t).view (Rect.unit (s := S1536x1024) ![o, 0] S512x1024.size inb).toLoadRect ((hs0_2 t).unread (iblk m c 2 t)) (ix2 n i))
      = head m c t r ⟨o + n.val, by omega⟩ := by
  rw [rowB]
  exact congrArg (dot _) (funext fun i => load_rows (hs0_2 t) _ o ho inb n i)

theorem mixedB (t : Fin cfg0.N) (r : Fin 512) (a o : ℕ) (ho : o + a ≤ 3584) (inb) (n : Fin a) :
    dot (fun i => (kernelRun0_B.sl.r (F := Ideal) c (ms0_0 t) (hs0_0 t) (ms0_1 t) (hs0_1 t) (iblk m c 0 t) (iblk m c 1 t)) (ix2 r i)) (fun i => View.readAt (Elt Ideal) (ms0_3 t).view (Rect.unit (s := S3584x1024) ![o, 0] (⟨2, ![a, 1024]⟩ : Shape).size inb).toLoadRect ((hs0_3 t).unread (iblk m c 3 t)) (ix2 n i))
      = mixed m c t r ⟨o + n.val, by omega⟩ := by
  rw [rowB]
  exact congrArg (dot _) (funext fun i => load_rows (hs0_3 t) _ o ho inb n i)

theorem qB (t : Fin cfg0.N) (r n : Fin 512) : (kernelRun0_B.sl.r_2 (F := Ideal) c (ms0_0 t) (hs0_0 t) (ms0_1 t) (hs0_1 t) (ms0_2 t) (hs0_2 t) (iblk m c 0 t) (iblk m c 1 t) (iblk m c 2 t)) (ix2 r n) = qv m c t r n := by
  unfold kernelRun0_B.sl.r_2
  rw [query, headB m c t r 0 (by omega)]
  unfold qv
  congr 2
  exact Fin.ext (Nat.zero_add _)

theorem vB (t : Fin cfg0.N) (r n : Fin 512) : (kernelRun0_B.sl.r_25 (F := Ideal) c (ms0_0 t) (hs0_0 t) (ms0_1 t) (hs0_1 t) (ms0_2 t) (hs0_2 t) (iblk m c 0 t) (iblk m c 1 t) (iblk m c 2 t)) (ix2 r n) = vv m c t r n := by
  unfold kernelRun0_B.sl.r_25
  rw [value, headB m c t r 1024 (by omega)]
  rfl

theorem kB (t : Fin cfg0.N) (r n : Fin 512) (inb) : k0_pay36 (kernelRun0_B.sl.r (F := Ideal) c (ms0_0 t) (hs0_0 t) (ms0_1 t) (hs0_1 t) (iblk m c 0 t) (iblk m c 1 t)) (View.readAt (Elt Ideal) (ms0_2 t).view (Rect.unit (s := S1536x1024) ![512, 0] S512x1024.size inb).toLoadRect ((hs0_2 t).unread (iblk m c 2 t))) (ix2 r n) = kv m c t r n := by
  rw [key, headB m c t r 512 (by omega)]
  rfl

theorem pB (t : Fin cfg0.N) (r k : Fin 512) : (kernelRun0_B.sl.r_37 (F := Ideal) c (ms0_0 t) (hs0_0 t) (ms0_1 t) (hs0_1 t) (ms0_3 t) (hs0_3 t) (iblk m c 0 t) (iblk m c 1 t) (iblk m c 3 t)) (ix2 r k) = prodRow m c t r k := by
  unfold kernelRun0_B.sl.r_37
  rw [product, mixedB m c t r 512 512 (by omega), mixedB m c t r 512 1024 (by omega)]
  rfl

/-- The query lanes of a stored block. -/
theorem q_block (t : Fin cfg0.N) (r : Fin 512) (j : Fin 2048) (hj : j.val % 512 < 64 ∨ 320 ≤ j.val % 512 ∧ j.val % 512 < 384) :
    (outsAt0 m c t.val t.isLt).1 (ix2 r j) = qv m c t r ⟨128 * (j.val / 512) + j.val % 128, by omega⟩ := by
  have hjl := j.isLt
  by_cases h0 : t.val % 16 = 0
  · rw [outsAt0_A m c t h0]
    dsimp only
    unfold out0_A_12
    rw [View.read_writes_junk_eq_canon]
    refine View.canon_eq_of_allAt _ _ _ (cover0_A_12 ..) ?_
    unfold kernelRun0_A
    dsimp only
    iterate 32 refine View.allAt_cons_unit _ _ _ _ _ (skip r j _ _ _ _ _ (by omega)) ?_
    refine View.allAt_cons_unit _ _ _ _ _ (tile r j 1792 _ _ fun l e => ?_) ?_
    · have h : ¬l.val < 64 := by omega
      exact (query23 _ _ r l h).trans ((qA m c t r _).trans (congrArg (qv m c t r) (Fin.ext (by show 384 + l.val = 128 * ((j : ℕ) / 512) + (j : ℕ) % 128; omega))))
    refine View.allAt_cons_unit _ _ _ _ _ (tile r j 1536 _ _ fun l e => ?_) ?_
    · have h : l.val < 64 := by omega
      exact (query22 _ _ r l h).trans ((qA m c t r _).trans (congrArg (qv m c t r) (Fin.ext (by show 384 + l.val = 128 * ((j : ℕ) / 512) + (j : ℕ) % 128; omega))))
    refine View.allAt_cons_unit _ _ _ _ _ (tile r j 1280 _ _ fun l e => ?_) ?_
    · have h : ¬l.val < 64 := by omega
      exact (query19 _ _ r l h).trans ((qA m c t r _).trans (congrArg (qv m c t r) (Fin.ext (by show 256 + l.val = 128 * ((j : ℕ) / 512) + (j : ℕ) % 128; omega))))
    refine View.allAt_cons_unit _ _ _ _ _ (tile r j 1024 _ _ fun l e => ?_) ?_
    · have h : l.val < 64 := by omega
      exact (query18 _ _ r l h).trans ((qA m c t r _).trans (congrArg (qv m c t r) (Fin.ext (by show 256 + l.val = 128 * ((j : ℕ) / 512) + (j : ℕ) % 128; omega))))
    refine View.allAt_cons_unit _ _ _ _ _ (tile r j 768 _ _ fun l e => ?_) ?_
    · have h : ¬l.val < 64 := by omega
      exact (query15 _ _ r l h).trans ((qA m c t r _).trans (congrArg (qv m c t r) (Fin.ext (by show 128 + l.val = 128 * ((j : ℕ) / 512) + (j : ℕ) % 128; omega))))
    refine View.allAt_cons_unit _ _ _ _ _ (tile r j 512 _ _ fun l e => ?_) ?_
    · have h : l.val < 64 := by omega
      exact (query14 _ _ r l h).trans ((qA m c t r _).trans (congrArg (qv m c t r) (Fin.ext (by show 128 + l.val = 128 * ((j : ℕ) / 512) + (j : ℕ) % 128; omega))))
    refine View.allAt_cons_unit _ _ _ _ _ (tile r j 256 _ _ fun l e => ?_) ?_
    · have h : ¬l.val < 64 := by omega
      exact (query11 _ _ r l h).trans ((qA m c t r _).trans (congrArg (qv m c t r) (Fin.ext (by show 0 + l.val = 128 * ((j : ℕ) / 512) + (j : ℕ) % 128; omega))))
    refine View.allAt_cons_unit _ _ _ _ _ (tile r j 0 _ _ fun l e => ?_) ?_
    · have h : l.val < 64 := by omega
      exact (query10 _ _ r l h).trans ((qA m c t r _).trans (congrArg (qv m c t r) (Fin.ext (by show 0 + l.val = 128 * ((j : ℕ) / 512) + (j : ℕ) % 128; omega))))
    exact View.allAt_nil _ _
  · rw [outsAt0_B m c t h0]
    dsimp only
    unfold out0_B_12
    rw [View.read_writes_junk_eq_canon]
    refine View.canon_eq_of_allAt _ _ _ (cover0_B_12 ..) ?_
    unfold kernelRun0_B
    dsimp only
    iterate 32 refine View.allAt_cons_unit _ _ _ _ _ (skip r j _ _ _ _ _ (by omega)) ?_
    refine View.allAt_cons_unit _ _ _ _ _ (tile r j 1792 _ _ fun l e => ?_) ?_
    · have h : ¬l.val < 64 := by omega
      exact (query23 _ _ r l h).trans ((qB m c t r _).trans (congrArg (qv m c t r) (Fin.ext (by show 384 + l.val = 128 * ((j : ℕ) / 512) + (j : ℕ) % 128; omega))))
    refine View.allAt_cons_unit _ _ _ _ _ (tile r j 1536 _ _ fun l e => ?_) ?_
    · have h : l.val < 64 := by omega
      exact (query22 _ _ r l h).trans ((qB m c t r _).trans (congrArg (qv m c t r) (Fin.ext (by show 384 + l.val = 128 * ((j : ℕ) / 512) + (j : ℕ) % 128; omega))))
    refine View.allAt_cons_unit _ _ _ _ _ (tile r j 1280 _ _ fun l e => ?_) ?_
    · have h : ¬l.val < 64 := by omega
      exact (query19 _ _ r l h).trans ((qB m c t r _).trans (congrArg (qv m c t r) (Fin.ext (by show 256 + l.val = 128 * ((j : ℕ) / 512) + (j : ℕ) % 128; omega))))
    refine View.allAt_cons_unit _ _ _ _ _ (tile r j 1024 _ _ fun l e => ?_) ?_
    · have h : l.val < 64 := by omega
      exact (query18 _ _ r l h).trans ((qB m c t r _).trans (congrArg (qv m c t r) (Fin.ext (by show 256 + l.val = 128 * ((j : ℕ) / 512) + (j : ℕ) % 128; omega))))
    refine View.allAt_cons_unit _ _ _ _ _ (tile r j 768 _ _ fun l e => ?_) ?_
    · have h : ¬l.val < 64 := by omega
      exact (query15 _ _ r l h).trans ((qB m c t r _).trans (congrArg (qv m c t r) (Fin.ext (by show 128 + l.val = 128 * ((j : ℕ) / 512) + (j : ℕ) % 128; omega))))
    refine View.allAt_cons_unit _ _ _ _ _ (tile r j 512 _ _ fun l e => ?_) ?_
    · have h : l.val < 64 := by omega
      exact (query14 _ _ r l h).trans ((qB m c t r _).trans (congrArg (qv m c t r) (Fin.ext (by show 128 + l.val = 128 * ((j : ℕ) / 512) + (j : ℕ) % 128; omega))))
    refine View.allAt_cons_unit _ _ _ _ _ (tile r j 256 _ _ fun l e => ?_) ?_
    · have h : ¬l.val < 64 := by omega
      exact (query11 _ _ r l h).trans ((qB m c t r _).trans (congrArg (qv m c t r) (Fin.ext (by show 0 + l.val = 128 * ((j : ℕ) / 512) + (j : ℕ) % 128; omega))))
    refine View.allAt_cons_unit _ _ _ _ _ (tile r j 0 _ _ fun l e => ?_) ?_
    · have h : l.val < 64 := by omega
      exact (query10 _ _ r l h).trans ((qB m c t r _).trans (congrArg (qv m c t r) (Fin.ext (by show 0 + l.val = 128 * ((j : ℕ) / 512) + (j : ℕ) % 128; omega))))
    exact View.allAt_nil _ _

/-- The key lanes of a stored block. -/
theorem k_block (t : Fin cfg0.N) (r : Fin 512) (j : Fin 1024) (hj : j.val % 256 < 128) :
    (outsAt0 m c t.val t.isLt).2.1 (ix2 r j) = kv m c t r ⟨128 * (j.val / 256) + j.val % 128, by omega⟩ := by
  have hjl := j.isLt
  by_cases h0 : t.val % 16 = 0
  · rw [outsAt0_A m c t h0]
    dsimp only
    unfold out0_A_13
    rw [View.read_writes_junk_eq_canon]
    refine View.canon_eq_of_allAt _ _ _ (cover0_A_13 ..) ?_
    unfold kernelRun0_A
    dsimp only
    iterate 16 refine View.allAt_cons_unit _ _ _ _ _ (skip r j _ _ _ _ _ (by omega)) ?_
    refine View.allAt_cons_unit _ _ _ _ _ (tile r j 768 _ _ fun l e => ?_) ?_
    · exact (key40 _ _ r l).trans ((kA m c t r _ _).trans (congrArg (kv m c t r) (Fin.ext (by show 384 + l.val = 128 * ((j : ℕ) / 256) + (j : ℕ) % 128; omega))))
    refine View.allAt_cons_unit _ _ _ _ _ (tile r j 512 _ _ fun l e => ?_) ?_
    · exact (key39 _ _ r l).trans ((kA m c t r _ _).trans (congrArg (kv m c t r) (Fin.ext (by show 256 + l.val = 128 * ((j : ℕ) / 256) + (j : ℕ) % 128; omega))))
    refine View.allAt_cons_unit _ _ _ _ _ (tile r j 256 _ _ fun l e => ?_) ?_
    · exact (key38 _ _ r l).trans ((kA m c t r _ _).trans (congrArg (kv m c t r) (Fin.ext (by show 128 + l.val = 128 * ((j : ℕ) / 256) + (j : ℕ) % 128; omega))))
    refine View.allAt_cons_unit _ _ _ _ _ (tile r j 0 _ _ fun l e => ?_) ?_
    · exact (key37 _ _ r l).trans ((kA m c t r _ _).trans (congrArg (kv m c t r) (Fin.ext (by show 0 + l.val = 128 * ((j : ℕ) / 256) + (j : ℕ) % 128; omega))))
    exact View.allAt_nil _ _
  · rw [outsAt0_B m c t h0]
    dsimp only
    unfold out0_B_13
    rw [View.read_writes_junk_eq_canon]
    refine View.canon_eq_of_allAt _ _ _ (cover0_B_13 ..) ?_
    unfold kernelRun0_B
    dsimp only
    iterate 16 refine View.allAt_cons_unit _ _ _ _ _ (skip r j _ _ _ _ _ (by omega)) ?_
    refine View.allAt_cons_unit _ _ _ _ _ (tile r j 768 _ _ fun l e => ?_) ?_
    · exact (key40 _ _ r l).trans ((kB m c t r _ _).trans (congrArg (kv m c t r) (Fin.ext (by show 384 + l.val = 128 * ((j : ℕ) / 256) + (j : ℕ) % 128; omega))))
    refine View.allAt_cons_unit _ _ _ _ _ (tile r j 512 _ _ fun l e => ?_) ?_
    · exact (key39 _ _ r l).trans ((kB m c t r _ _).trans (congrArg (kv m c t r) (Fin.ext (by show 256 + l.val = 128 * ((j : ℕ) / 256) + (j : ℕ) % 128; omega))))
    refine View.allAt_cons_unit _ _ _ _ _ (tile r j 256 _ _ fun l e => ?_) ?_
    · exact (key38 _ _ r l).trans ((kB m c t r _ _).trans (congrArg (kv m c t r) (Fin.ext (by show 128 + l.val = 128 * ((j : ℕ) / 256) + (j : ℕ) % 128; omega))))
    refine View.allAt_cons_unit _ _ _ _ _ (tile r j 0 _ _ fun l e => ?_) ?_
    · exact (key37 _ _ r l).trans ((kB m c t r _ _).trans (congrArg (kv m c t r) (Fin.ext (by show 0 + l.val = 128 * ((j : ℕ) / 256) + (j : ℕ) % 128; omega))))
    exact View.allAt_nil _ _

/-- The value lanes of a stored block. -/
theorem v_block (t : Fin cfg0.N) (r : Fin 512) (j : Fin 1024) (hj : j.val % 256 < 64 ∨ 192 ≤ j.val % 256) :
    (outsAt0 m c t.val t.isLt).2.2.1 (ix2 r j) = vv m c t r ⟨128 * (j.val / 256) + j.val % 128, by omega⟩ := by
  have hjl := j.isLt
  by_cases h0 : t.val % 16 = 0
  · rw [outsAt0_A m c t h0]
    dsimp only
    unfold out0_A_14
    rw [View.read_writes_junk_eq_canon]
    refine View.canon_eq_of_allAt _ _ _ (cover0_A_14 ..) ?_
    unfold kernelRun0_A
    dsimp only
    refine View.allAt_cons_unit _ _ _ _ _ (tile r j 896 _ _ fun l e => ?_) ?_
    · have h : ¬l.val < 64 := by omega
      exact (value83 _ _ r l h).trans ((vA m c t r _).trans (congrArg (vv m c t r) (Fin.ext (by show 384 + l.val = 128 * ((j : ℕ) / 256) + (j : ℕ) % 128; omega))))
    refine View.allAt_cons_unit _ _ _ _ _ (tile r j 768 _ _ fun l e => ?_) ?_
    · have h : l.val < 64 := by omega
      exact (value82 _ _ r l h).trans ((vA m c t r _).trans (congrArg (vv m c t r) (Fin.ext (by show 384 + l.val = 128 * ((j : ℕ) / 256) + (j : ℕ) % 128; omega))))
    refine View.allAt_cons_unit _ _ _ _ _ (tile r j 640 _ _ fun l e => ?_) ?_
    · have h : ¬l.val < 64 := by omega
      exact (value80 _ _ r l h).trans ((vA m c t r _).trans (congrArg (vv m c t r) (Fin.ext (by show 256 + l.val = 128 * ((j : ℕ) / 256) + (j : ℕ) % 128; omega))))
    refine View.allAt_cons_unit _ _ _ _ _ (tile r j 512 _ _ fun l e => ?_) ?_
    · have h : l.val < 64 := by omega
      exact (value79 _ _ r l h).trans ((vA m c t r _).trans (congrArg (vv m c t r) (Fin.ext (by show 256 + l.val = 128 * ((j : ℕ) / 256) + (j : ℕ) % 128; omega))))
    refine View.allAt_cons_unit _ _ _ _ _ (tile r j 384 _ _ fun l e => ?_) ?_
    · have h : ¬l.val < 64 := by omega
      exact (value77 _ _ r l h).trans ((vA m c t r _).trans (congrArg (vv m c t r) (Fin.ext (by show 128 + l.val = 128 * ((j : ℕ) / 256) + (j : ℕ) % 128; omega))))
    refine View.allAt_cons_unit _ _ _ _ _ (tile r j 256 _ _ fun l e => ?_) ?_
    · have h : l.val < 64 := by omega
      exact (value76 _ _ r l h).trans ((vA m c t r _).trans (congrArg (vv m c t r) (Fin.ext (by show 128 + l.val = 128 * ((j : ℕ) / 256) + (j : ℕ) % 128; omega))))
    refine View.allAt_cons_unit _ _ _ _ _ (tile r j 128 _ _ fun l e => ?_) ?_
    · have h : ¬l.val < 64 := by omega
      exact (value74 _ _ r l h).trans ((vA m c t r _).trans (congrArg (vv m c t r) (Fin.ext (by show 0 + l.val = 128 * ((j : ℕ) / 256) + (j : ℕ) % 128; omega))))
    refine View.allAt_cons_unit _ _ _ _ _ (tile r j 0 _ _ fun l e => ?_) ?_
    · have h : l.val < 64 := by omega
      exact (value73 _ _ r l h).trans ((vA m c t r _).trans (congrArg (vv m c t r) (Fin.ext (by show 0 + l.val = 128 * ((j : ℕ) / 256) + (j : ℕ) % 128; omega))))
    exact View.allAt_nil _ _
  · rw [outsAt0_B m c t h0]
    dsimp only
    unfold out0_B_14
    rw [View.read_writes_junk_eq_canon]
    refine View.canon_eq_of_allAt _ _ _ (cover0_B_14 ..) ?_
    unfold kernelRun0_B
    dsimp only
    refine View.allAt_cons_unit _ _ _ _ _ (tile r j 896 _ _ fun l e => ?_) ?_
    · have h : ¬l.val < 64 := by omega
      exact (value83 _ _ r l h).trans ((vB m c t r _).trans (congrArg (vv m c t r) (Fin.ext (by show 384 + l.val = 128 * ((j : ℕ) / 256) + (j : ℕ) % 128; omega))))
    refine View.allAt_cons_unit _ _ _ _ _ (tile r j 768 _ _ fun l e => ?_) ?_
    · have h : l.val < 64 := by omega
      exact (value82 _ _ r l h).trans ((vB m c t r _).trans (congrArg (vv m c t r) (Fin.ext (by show 384 + l.val = 128 * ((j : ℕ) / 256) + (j : ℕ) % 128; omega))))
    refine View.allAt_cons_unit _ _ _ _ _ (tile r j 640 _ _ fun l e => ?_) ?_
    · have h : ¬l.val < 64 := by omega
      exact (value80 _ _ r l h).trans ((vB m c t r _).trans (congrArg (vv m c t r) (Fin.ext (by show 256 + l.val = 128 * ((j : ℕ) / 256) + (j : ℕ) % 128; omega))))
    refine View.allAt_cons_unit _ _ _ _ _ (tile r j 512 _ _ fun l e => ?_) ?_
    · have h : l.val < 64 := by omega
      exact (value79 _ _ r l h).trans ((vB m c t r _).trans (congrArg (vv m c t r) (Fin.ext (by show 256 + l.val = 128 * ((j : ℕ) / 256) + (j : ℕ) % 128; omega))))
    refine View.allAt_cons_unit _ _ _ _ _ (tile r j 384 _ _ fun l e => ?_) ?_
    · have h : ¬l.val < 64 := by omega
      exact (value77 _ _ r l h).trans ((vB m c t r _).trans (congrArg (vv m c t r) (Fin.ext (by show 128 + l.val = 128 * ((j : ℕ) / 256) + (j : ℕ) % 128; omega))))
    refine View.allAt_cons_unit _ _ _ _ _ (tile r j 256 _ _ fun l e => ?_) ?_
    · have h : l.val < 64 := by omega
      exact (value76 _ _ r l h).trans ((vB m c t r _).trans (congrArg (vv m c t r) (Fin.ext (by show 128 + l.val = 128 * ((j : ℕ) / 256) + (j : ℕ) % 128; omega))))
    refine View.allAt_cons_unit _ _ _ _ _ (tile r j 128 _ _ fun l e => ?_) ?_
    · have h : ¬l.val < 64 := by omega
      exact (value74 _ _ r l h).trans ((vB m c t r _).trans (congrArg (vv m c t r) (Fin.ext (by show 0 + l.val = 128 * ((j : ℕ) / 256) + (j : ℕ) % 128; omega))))
    refine View.allAt_cons_unit _ _ _ _ _ (tile r j 0 _ _ fun l e => ?_) ?_
    · have h : l.val < 64 := by omega
      exact (value73 _ _ r l h).trans ((vB m c t r _).trans (congrArg (vv m c t r) (Fin.ext (by show 0 + l.val = 128 * ((j : ℕ) / 256) + (j : ℕ) % 128; omega))))
    exact View.allAt_nil _ _

end Cert.Kernel3Ideal.Mixin

end
-- ==== Proof.Mixin.Carry.lean ====
/- The third call's blocks at one grid point: the rows carried over from the point before, the convolution and the two gates. -/
module

public import proofs.«01_k».proof.Proof.Mixin.Rows
public import Idealize.ShloMosaic.Lib.WholeRead
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.Kernel3Ideal.Mixin

open Cert.Kernel3Ideal Cert.Kernel3Ideal.Gen Idealize.ShloMosaic Idealize.ShloMosaic.TcCoe Idealize.ShloMosaic.Tactic
open Cert.Layer Cert.KernelIdeal.Ffn
open scoped BigOperators

variable (m : (ℓ : Loc nD τ sig) → Buf (Elt Ideal) ℓ) (c : Dev nD)

/-- The products as stored. -/
theorem kept (u : FVec Ideal S512x1024 .bf16) (a b : Vec Ideal S512x1024 .bf16) (r k : Fin 512) :
    k0_pay145 u a b (ix2 r k) = k0_pay144 u a b (ix2 r k) := by
  pointwise [k0_pay145, k0_pay144]

/-- The first eight rows as stored from the rows given. -/
theorem given (p : Vec Ideal S8x512 .f32) (r : Fin 8) (k : Fin 512) : k0_pay2 p (ix2 r k) = p (ix2 r k) := by
  pointwise [k0_pay2]

/-- The last eight rows as moved to the front. -/
theorem moved (p : Vec Ideal S8x512 .f32) (r : Fin 8) (k : Fin 512) : k0_pay147 p (ix2 r k) = p (ix2 r k) := by
  pointwise [k0_pay147]

/-- The product `d` rows before a row of the block: of this block, or the rows given at the start of a sequence, or of the block before. -/
def back (t : Fin cfg0.N) (d : ℕ) (hd : d ≤ 8) (r k : Fin 512) : EReal :=
  if h : d ≤ r.val then prodRow m c t ⟨r.val - d, by omega⟩ k
  else if t.val % 16 = 0 then iblk m c 8 t (ix2 ⟨8 + r.val - d, by omega⟩ k)
  else prodRow m c ⟨t.val - 1, Nat.lt_of_le_of_lt (Nat.sub_le _ _) t.isLt⟩ ⟨512 + r.val - d, by omega⟩ k

/-- One entry of the gated convolution's row. -/
def convRow (t : Fin cfg0.N) (r k : Fin 512) : EReal :=
  mixed m c t r ⟨k.val, by omega⟩ * (back m c t 2 (by omega) r k * iblk m c 6 t (ix2 0 k) + back m c t 1 (by omega) r k * iblk m c 6 t (ix2 1 k)
    + prodRow m c t r k * iblk m c 6 t (ix2 2 k))

/-- An entry of the gated attention's factor. -/
def av (t : Fin cfg0.N) (r : Fin 512) (j : Fin 1024) : EReal := Ideal.logistic (mixed m c t r ⟨1536 + j.val, by omega⟩)

/-- An entry of the gated convolution. -/
def gv (t : Fin cfg0.N) (r : Fin 512) (j : Fin 1024) : EReal :=
  Ideal.logistic (mixed m c t r ⟨2560 + j.val, by omega⟩) * ∑ k, convRow m c t r k * iblk m c 7 t (ix2 k j)

theorem keptA (t : Fin cfg0.N) (i : Fin 520) (k : Fin 512) (h : 8 ≤ i.val) :
    View.canon (kernelRun0_A.sl.HS0_2 (F := Ideal) c (ms0_0 t) (hs0_0 t) (ms0_1 t) (hs0_1 t) (ms0_3 t) (hs0_3 t) (ms0_8 t) (hs0_8 t) (iblk m c 0 t) (iblk m c 1 t) (iblk m c 3 t) (iblk m c 8 t)) (ix2 i k) = prodRow m c t ⟨i.val - 8, by omega⟩ k := by
  unfold kernelRun0_A.sl.HS0_2
  refine (stored_rows 8 _ _ _ i ⟨i.val - 8, by omega⟩ k (by show i.val = 8 + (i.val - 8); omega)).trans ?_
  exact (kept _ _ _ _ _).trans (pA m c t _ k)

theorem lastA (t : Fin cfg0.N) (r : Fin 8) (k : Fin 512) : (kernelRun0_A.sl.v539 (F := Ideal) c (ms0_0 t) (hs0_0 t) (ms0_1 t) (hs0_1 t) (ms0_3 t) (hs0_3 t) (ms0_8 t) (hs0_8 t) scM0_0 (iblk m c 0 t) (iblk m c 1 t) (iblk m c 3 t) (iblk m c 8 t)) (ix2 r k) = prodRow m c t ⟨504 + r.val, by omega⟩ k := by
  unfold kernelRun0_A.sl.v539
  rw [View.readCov_eq_canon']
  refine (congrArg _ (rows_idx 512 (by omega) _ r k)).trans ?_
  refine (keptA m c t _ k (by show 8 ≤ 512 + r.val; omega)).trans ?_
  exact congrArg (fun i => prodRow m c t i k) (Fin.ext (by show 512 + r.val - 8 = 504 + r.val; omega))

theorem firstA (t : Fin cfg0.N) (i : Fin 520) (k : Fin 512) (h : i.val < 8) :
    View.canon (kernelRun0_A.sl.HS0_2 (F := Ideal) c (ms0_0 t) (hs0_0 t) (ms0_1 t) (hs0_1 t) (ms0_3 t) (hs0_3 t) (ms0_8 t) (hs0_8 t) (iblk m c 0 t) (iblk m c 1 t) (iblk m c 3 t) (iblk m c 8 t)) (ix2 i k) = iblk m c 8 t (ix2 ⟨i.val, h⟩ k) := by
  unfold kernelRun0_A.sl.HS0_2
  refine (other_rows 8 _ _ _ i k (Or.inl h)).trans ?_
  refine (stored_rows 0 _ _ _ i ⟨i.val, h⟩ k (by show i.val = 0 + i.val; omega)).trans ?_
  refine (given _ _ _).trans ?_
  rw [load_whole _ _ zeros2]

theorem keptB (t : Fin cfg0.N) (i : Fin 520) (k : Fin 512) (h : 8 ≤ i.val) :
    View.canon (kernelRun0_B.sl.HS0_1 (F := Ideal) c (ms0_0 t) (hs0_0 t) (ms0_1 t) (hs0_1 t) (ms0_3 t) (hs0_3 t) (iblk m c 0 t) (iblk m c 1 t) (iblk m c 3 t)) (ix2 i k) = prodRow m c t ⟨i.val - 8, by omega⟩ k := by
  unfold kernelRun0_B.sl.HS0_1
  refine (stored_rows 8 _ _ _ i ⟨i.val - 8, by omega⟩ k (by show i.val = 8 + (i.val - 8); omega)).trans ?_
  exact (kept _ _ _ _ _).trans (pB m c t _ k)

theorem lastB (t : Fin cfg0.N) (r : Fin 8) (k : Fin 512) : (kernelRun0_B.sl.v539 (F := Ideal) c (ms0_0 t) (hs0_0 t) (ms0_1 t) (hs0_1 t) (ms0_3 t) (hs0_3 t) scM0_0 (iblk m c 0 t) (iblk m c 1 t) (iblk m c 3 t)) (ix2 r k) = prodRow m c t ⟨504 + r.val, by omega⟩ k := by
  unfold kernelRun0_B.sl.v539
  rw [View.readCov_eq_canon']
  refine (congrArg _ (rows_idx 512 (by omega) _ r k)).trans ?_
  refine (keptB m c t _ k (by show 8 ≤ 512 + r.val; omega)).trans ?_
  exact congrArg (fun i => prodRow m c t i k) (Fin.ext (by show 512 + r.val - 8 = 504 + r.val; omega))

/-- The rows a point leaves for the next one: its own last ones. -/
theorem left (t : Fin cfg0.N) (i : Fin 520) (k : Fin 512) (h : i.val < 8) :
    (outsAt0 m c t.val t.isLt).2.2.2.2.2.2.2.1 (ix2 i k) = prodRow m c t ⟨504 + i.val, by omega⟩ k := by
  by_cases h0 : t.val % 16 = 0
  · rw [outsAt0_A m c t h0]
    dsimp only
    unfold sout0_A_0
    rw [View.read_writes_junk_eq_canon]
    unfold kernelRun0_A
    dsimp only
    refine (stored_rows 0 _ _ _ i ⟨i.val, h⟩ k (by show i.val = 0 + i.val; omega)).trans ?_
    exact (moved _ _ _).trans (lastA m c t ⟨i.val, h⟩ k)
  · rw [outsAt0_B m c t h0]
    dsimp only
    unfold sout0_B_0
    rw [View.read_writes_junk_eq_canon]
    unfold kernelRun0_B
    dsimp only
    refine (stored_rows 0 _ _ _ i ⟨i.val, h⟩ k (by show i.val = 0 + i.val; omega)).trans ?_
    exact (moved _ _ _).trans (lastB m c t ⟨i.val, h⟩ k)

theorem back2A (t : Fin cfg0.N) (h0 : t.val % 16 = 0) (r k : Fin 512) : (kernelRun0_A.sl.v523 (F := Ideal) c (ms0_0 t) (hs0_0 t) (ms0_1 t) (hs0_1 t) (ms0_3 t) (hs0_3 t) (ms0_8 t) (hs0_8 t) scM0_0 (iblk m c 0 t) (iblk m c 1 t) (iblk m c 3 t) (iblk m c 8 t)) (ix2 r k) = back m c t 2 (by omega) r k := by
  unfold kernelRun0_A.sl.v523
  rw [View.readCov_eq_canon']
  refine (congrArg _ (rows_idx 6 (by omega) _ r k)).trans ?_
  unfold back
  by_cases h : 2 ≤ r.val
  · rw [dif_pos h]
    refine (keptA m c t _ k (by show 8 ≤ 6 + r.val; omega)).trans ?_
    exact congrArg (fun i => prodRow m c t i k) (Fin.ext (by show 6 + r.val - 8 = r.val - 2; omega))
  · rw [dif_neg h, if_pos h0]
    refine (firstA m c t _ k (by show 6 + r.val < 8; omega)).trans ?_
    exact congrArg (fun i => iblk m c 8 t (ix2 i k)) (Fin.ext (by show 6 + r.val = 8 + r.val - 2; omega))

theorem back1A (t : Fin cfg0.N) (h0 : t.val % 16 = 0) (r k : Fin 512) : (kernelRun0_A.sl.v528 (F := Ideal) c (ms0_0 t) (hs0_0 t) (ms0_1 t) (hs0_1 t) (ms0_3 t) (hs0_3 t) (ms0_8 t) (hs0_8 t) scM0_0 (iblk m c 0 t) (iblk m c 1 t) (iblk m c 3 t) (iblk m c 8 t)) (ix2 r k) = back m c t 1 (by omega) r k := by
  unfold kernelRun0_A.sl.v528
  rw [View.readCov_eq_canon']
  refine (congrArg _ (rows_idx 7 (by omega) _ r k)).trans ?_
  unfold back
  by_cases h : 1 ≤ r.val
  · rw [dif_pos h]
    refine (keptA m c t _ k (by show 8 ≤ 7 + r.val; omega)).trans ?_
    exact congrArg (fun i => prodRow m c t i k) (Fin.ext (by show 7 + r.val - 8 = r.val - 1; omega))
  · rw [dif_neg h, if_pos h0]
    refine (firstA m c t _ k (by show 7 + r.val < 8; omega)).trans ?_
    exact congrArg (fun i => iblk m c 8 t (ix2 i k)) (Fin.ext (by show 7 + r.val = 8 + r.val - 1; omega))

theorem back2B (t : Fin cfg0.N) (h0 : ¬t.val % 16 = 0) (r k : Fin 512) (inb) :
    View.readAt (Elt Ideal) scM0_0.view (Rect.unit (s := S520x512) ![6, 0] S512x512.size inb).toLoadRect
      (scM0_0.view.writes (Elt Ideal) ((Memref.isWhole_whole cc0_scratch0).unread (prev m c t)) (kernelRun0_B.sl.HS0_1 (F := Ideal) c (ms0_0 t) (hs0_0 t) (ms0_1 t) (hs0_1 t) (ms0_3 t) (hs0_3 t) (iblk m c 0 t) (iblk m c 1 t) (iblk m c 3 t))) (ix2 r k) = back m c t 2 (by omega) r k := by
  rw [View.readAt_apply]
  refine (congrArg _ (rows_idx 6 (by omega) _ r k)).trans ?_
  unfold kernelRun0_B.sl.HS0_1 back
  by_cases h : 2 ≤ r.val
  · rw [dif_pos h]
    refine (View.read_writes_cons_unit_of_mem _ _ _ _ _ _ (ix2 (⟨r.val - 2, by omega⟩ : Fin 512) k) rfl (fun a => ?_)).trans ?_
    · match a with
      | ⟨0, _⟩ => show 6 + r.val = 8 + (r.val - 2); omega
      | ⟨1, _⟩ => show k.val = 0 + k.val; omega
    · exact (kept _ _ _ _ _).trans (pB m c t _ k)
  · rw [dif_neg h, if_neg h0]
    refine (View.read_writes_cons_unit_of_not_mem _ _ _ _ _ _ rfl (0 : Fin 2) (Or.inl (by show 6 + r.val < 8; omega))).trans ?_
    refine (congrFun ((Memref.isWhole_whole cc0_scratch0).read_unread (prev m c t)) _).trans ?_
    refine (left m c ⟨t.val - 1, Nat.lt_of_le_of_lt (Nat.sub_le _ _) t.isLt⟩ _ k (by show 6 + r.val < 8; omega)).trans ?_
    exact congrArg (fun i => prodRow m c ⟨t.val - 1, Nat.lt_of_le_of_lt (Nat.sub_le _ _) t.isLt⟩ i k) (Fin.ext (by show 504 + (6 + r.val) = 512 + r.val - 2; omega))

theorem back1B (t : Fin cfg0.N) (h0 : ¬t.val % 16 = 0) (r k : Fin 512) (inb) :
    View.readAt (Elt Ideal) scM0_0.view (Rect.unit (s := S520x512) ![7, 0] S512x512.size inb).toLoadRect
      (scM0_0.view.writes (Elt Ideal) ((Memref.isWhole_whole cc0_scratch0).unread (prev m c t)) (kernelRun0_B.sl.HS0_1 (F := Ideal) c (ms0_0 t) (hs0_0 t) (ms0_1 t) (hs0_1 t) (ms0_3 t) (hs0_3 t) (iblk m c 0 t) (iblk m c 1 t) (iblk m c 3 t))) (ix2 r k) = back m c t 1 (by omega) r k := by
  rw [View.readAt_apply]
  refine (congrArg _ (rows_idx 7 (by omega) _ r k)).trans ?_
  unfold kernelRun0_B.sl.HS0_1 back
  by_cases h : 1 ≤ r.val
  · rw [dif_pos h]
    refine (View.read_writes_cons_unit_of_mem _ _ _ _ _ _ (ix2 (⟨r.val - 1, by omega⟩ : Fin 512) k) rfl (fun a => ?_)).trans ?_
    · match a with
      | ⟨0, _⟩ => show 7 + r.val = 8 + (r.val - 1); omega
      | ⟨1, _⟩ => show k.val = 0 + k.val; omega
    · exact (kept _ _ _ _ _).trans (pB m c t _ k)
  · rw [dif_neg h, if_neg h0]
    refine (View.read_writes_cons_unit_of_not_mem _ _ _ _ _ _ rfl (0 : Fin 2) (Or.inl (by show 7 + r.val < 8; omega))).trans ?_
    refine (congrFun ((Memref.isWhole_whole cc0_scratch0).read_unread (prev m c t)) _).trans ?_
    refine (left m c ⟨t.val - 1, Nat.lt_of_le_of_lt (Nat.sub_le _ _) t.isLt⟩ _ k (by show 7 + r.val < 8; omega)).trans ?_
    exact congrArg (fun i => prodRow m c ⟨t.val - 1, Nat.lt_of_le_of_lt (Nat.sub_le _ _) t.isLt⟩ i k) (Fin.ext (by show 504 + (7 + r.val) = 512 + r.val - 1; omega))

theorem convA (t : Fin cfg0.N) (h0 : t.val % 16 = 0) (r : Fin 512) (j : Fin 1024) :
    (kernelRun0_A.sl.r_39 (F := Ideal) c (ms0_0 t) (hs0_0 t) (ms0_1 t) (hs0_1 t) (ms0_3 t) (hs0_3 t) (ms0_6 t) (hs0_6 t) (ms0_7 t) (hs0_7 t) (ms0_8 t) (hs0_8 t) scM0_0 (iblk m c 0 t) (iblk m c 1 t) (iblk m c 3 t) (iblk m c 6 t) (iblk m c 7 t) (iblk m c 8 t)) (ix2 r j) = ∑ k, convRow m c t r k * iblk m c 7 t (ix2 k j) := by
  unfold kernelRun0_A.sl.r_39 kernelRun0_A.sl.r_38
  rw [branch]
  refine Finset.sum_congr rfl fun k _ => ?_
  rw [load_whole _ _ zeros2, mixedA m c t r 512 0 (by omega), back2A m c t h0, back1A m c t h0, pA,
    load_rows (hs0_6 t) _ 0 (by omega), load_rows (hs0_6 t) _ 1 (by omega), load_rows (hs0_6 t) _ 2 (by omega)]
  unfold convRow
  congr 3
  exact Fin.ext (Nat.zero_add _)

theorem convB (t : Fin cfg0.N) (h0 : ¬t.val % 16 = 0) (r : Fin 512) (j : Fin 1024) :
    (kernelRun0_B.sl.r_39 (F := Ideal) c (ms0_0 t) (hs0_0 t) (ms0_1 t) (hs0_1 t) (ms0_3 t) (hs0_3 t) (ms0_6 t) (hs0_6 t) (ms0_7 t) (hs0_7 t) scM0_0 (Memref.isWhole_whole _) (iblk m c 0 t) (iblk m c 1 t) (iblk m c 3 t) (iblk m c 6 t) (iblk m c 7 t) (prev m c t)) (ix2 r j) = ∑ k, convRow m c t r k * iblk m c 7 t (ix2 k j) := by
  unfold kernelRun0_B.sl.r_39 kernelRun0_B.sl.r_38
  rw [branch]
  refine Finset.sum_congr rfl fun k _ => ?_
  rw [load_whole _ _ zeros2, mixedB m c t r 512 0 (by omega), back2B m c t h0, back1B m c t h0, pB,
    load_rows (hs0_6 t) _ 0 (by omega), load_rows (hs0_6 t) _ 1 (by omega), load_rows (hs0_6 t) _ 2 (by omega)]
  unfold convRow
  congr 3
  exact Fin.ext (Nat.zero_add _)

/-- A stored block of the gated attention factor. -/
theorem a_block (t : Fin cfg0.N) (r : Fin 512) (j : Fin 1024) :
    (outsAt0 m c t.val t.isLt).2.2.2.2.1 (ix2 r j) = av m c t r j := by
  by_cases h0 : t.val % 16 = 0
  · rw [outsAt0_A m c t h0]
    dsimp only
    unfold out0_A_16
    rw [View.read_writes_junk_eq_canon]
    unfold kernelRun0_A
    dsimp only
    rw [View.canon_unit_zero zeros2]
    rw [gated, mixedA m c t r 1024 1536 (by omega)]
    rfl
  · rw [outsAt0_B m c t h0]
    dsimp only
    unfold out0_B_16
    rw [View.read_writes_junk_eq_canon]
    unfold kernelRun0_B
    dsimp only
    rw [View.canon_unit_zero zeros2]
    rw [gated, mixedB m c t r 1024 1536 (by omega)]
    rfl

/-- A stored block of the gated convolution. -/
theorem g_block (t : Fin cfg0.N) (r : Fin 512) (j : Fin 1024) :
    (outsAt0 m c t.val t.isLt).2.2.2.2.2.1 (ix2 r j) = gv m c t r j := by
  by_cases h0 : t.val % 16 = 0
  · rw [outsAt0_A m c t h0]
    dsimp only
    unfold out0_A_17
    rw [View.read_writes_junk_eq_canon]
    unfold kernelRun0_A
    dsimp only
    rw [View.canon_unit_zero zeros2]
    unfold kernelRun0_A.sl.r_40
    refine (gatedBy _ _ _ _ _).trans ?_
    rw [mixedA m c t r 1024 2560 (by omega)]
    exact congrArg (Ideal.logistic _ * ·) (convA m c t h0 r j)
  · rw [outsAt0_B m c t h0]
    dsimp only
    unfold out0_B_17
    rw [View.read_writes_junk_eq_canon]
    unfold kernelRun0_B
    dsimp only
    rw [View.canon_unit_zero zeros2]
    unfold kernelRun0_B.sl.r_40
    refine (gatedBy _ _ _ _ _).trans ?_
    rw [mixedB m c t r 1024 2560 (by omega)]
    exact congrArg (Ideal.logistic _ * ·) (convB m c t h0 r j)

end Cert.Kernel3Ideal.Mixin

end
-- ==== Proof.Mixin.Links.lean ====
/- The third call: what its blocks read of the arrays, and its blocks' entries as the entries of the whole arrays. -/
module

public import proofs.«01_k».proof.Proof.Mixin.Carry
public import proofs.«01_k».proof.Proof.Mixin.Plain
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.Kernel3Ideal.Mixin

open Cert.Kernel3Ideal Cert.Kernel3Ideal.Gen Cert.Layer
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (c : Dev nD)

/-! ## The places of the blocks -/

theorem place0 : ∀ t : Fin cfg0.N, win0_0.index t = ![t.val, 0] :=
  (by decide +kernel : ∀ t : Fin grid0.N, win0_0.index t = ![t.val, 0])
theorem place1 : ∀ t : Fin cfg0.N, win0_1.index t = ![0, 0] :=
  (by decide +kernel : ∀ t : Fin grid0.N, win0_1.index t = ![0, 0])
theorem place2 : ∀ t : Fin cfg0.N, win0_2.index t = ![0, 0] :=
  (by decide +kernel : ∀ t : Fin grid0.N, win0_2.index t = ![0, 0])
theorem place3 : ∀ t : Fin cfg0.N, win0_3.index t = ![0, 0] :=
  (by decide +kernel : ∀ t : Fin grid0.N, win0_3.index t = ![0, 0])
theorem place6 : ∀ t : Fin cfg0.N, win0_6.index t = ![0, 0] :=
  (by decide +kernel : ∀ t : Fin grid0.N, win0_6.index t = ![0, 0])
theorem place7 : ∀ t : Fin cfg0.N, win0_7.index t = ![0, 0] :=
  (by decide +kernel : ∀ t : Fin grid0.N, win0_7.index t = ![0, 0])
theorem place8 : ∀ t : Fin cfg0.N, win0_8.index t = ![0, 0] :=
  (by decide +kernel : ∀ t : Fin grid0.N, win0_8.index t = ![0, 0])
theorem place12 : ∀ t : Fin cfg0.N, win0_12.index t = ![t.val, 0] :=
  (by decide +kernel : ∀ t : Fin grid0.N, win0_12.index t = ![t.val, 0])
theorem place13 : ∀ t : Fin cfg0.N, win0_13.index t = ![t.val, 0] :=
  (by decide +kernel : ∀ t : Fin grid0.N, win0_13.index t = ![t.val, 0])
theorem place14 : ∀ t : Fin cfg0.N, win0_14.index t = ![t.val, 0] :=
  (by decide +kernel : ∀ t : Fin grid0.N, win0_14.index t = ![t.val, 0])
theorem place16 : ∀ t : Fin cfg0.N, win0_16.index t = ![t.val, 0] :=
  (by decide +kernel : ∀ t : Fin grid0.N, win0_16.index t = ![t.val, 0])
theorem place17 : ∀ t : Fin cfg0.N, win0_17.index t = ![t.val, 0] :=
  (by decide +kernel : ∀ t : Fin grid0.N, win0_17.index t = ![t.val, 0])

/-! ## The arguments, entry by entry -/

def hs (i : Fin 16384) (k : Fin 1024) : EReal := m ((c : Thread nD τ).loc main_arg0) (ix2 i k)
def gs (k : Fin 1024) : EReal := m ((c : Thread nD τ).loc main_arg5) (ix2 0 k)
def ws (a : Fin 1024) (n : Fin 5128) : EReal := m ((c : Thread nD τ).loc main_arg1) (ix3 0 a n)
def cs (r : Fin 3) (k : Fin 512) : EReal := m ((c : Thread nD τ).loc main_arg3) (ix3 0 r k)
def ps (r : Fin 8) (k : Fin 512) : EReal := m ((c : Thread nD τ).loc main_arg6) (ix2 r k)
def us (k : Fin 512) (j : Fin 1024) : EReal := m ((c : Thread nD τ).loc main_arg4) (ix3 0 k j)

/-! ## What the blocks read -/

theorem block0 (t : Fin cfg0.N) (r : Fin 512) (k : Fin 1024) (q : Fin 16384) (h : q.val = 512 * t.val + r.val) :
    iblk m c 0 t (ix2 r k) = hs m c q k := by
  have e0 : win0_0.index t 0 = t.val := by rw [place0]; rfl
  have e1 : win0_0.index t 1 = 0 := by rw [place0]; rfl
  unfold iblk hs
  show V m c main_arg0 _ = _
  entry_read
  blk_ext

theorem block8 (t : Fin cfg0.N) (r : Fin 8) (k : Fin 512) : iblk m c 8 t (ix2 r k) = ps m c r k := by
  have e0 : win0_8.index t 0 = 0 := by rw [place8]; rfl
  have e1 : win0_8.index t 1 = 0 := by rw [place8]; rfl
  unfold iblk ps
  show V m c main_arg6 _ = _
  entry_read
  blk_ext

theorem block1 (t : Fin cfg0.N) (k : Fin 1024) : iblk m c 1 t (ix2 0 k) = gs m c k := by
  unfold iblk gs
  show V m c main_v13 _ = _
  after_reads_at
  blk_ext [place1 t]

theorem block2 (t : Fin cfg0.N) (n : Fin 1536) (a : Fin 1024) : iblk m c 2 t (ix2 n a) = ws m c a ⟨n.val, by omega⟩ := by
  unfold iblk ws
  show V m c main_v3 _ = _
  after_reads_at
  blk_ext [place2 t]

theorem block3 (t : Fin cfg0.N) (n : Fin 3584) (a : Fin 1024) : iblk m c 3 t (ix2 n a) = ws m c a ⟨1544 + n.val, by omega⟩ := by
  unfold iblk ws
  show V m c main_v5 _ = _
  after_reads_at
  blk_ext [place3 t]

theorem block6 (t : Fin cfg0.N) (r : Fin 3) (k : Fin 512) : iblk m c 6 t (ix2 r k) = cs m c r k := by
  unfold iblk cs
  show V m c main_v14 _ = _
  after_reads_at
  blk_ext [place6 t]

theorem block7 (t : Fin cfg0.N) (k : Fin 512) (j : Fin 1024) : iblk m c 7 t (ix2 k j) = us m c k j := by
  unfold iblk us
  show V m c main_v16 _ = _
  after_reads_at
  blk_ext [place7 t]

/-! ## The rows of a block as rows of the arrays -/

section
variable (t : Fin cfg0.N) (r : Fin 512) (i : Fin 16384) (hi : i.val = 512 * t.val + r.val)
include hi

theorem unit_eq : unitRow m c t r = rms (hs m c i) (gs m c) := by
  unfold unitRow
  simp only [block0 m c t r _ i hi, block1]

theorem head_eq (n : Fin 1536) : head m c t r n = col (hs m c) (gs m c) (ws m c) i ⟨n.val, by omega⟩ := by
  unfold head col
  rw [unit_eq m c t r i hi]
  simp only [block2]

theorem mixed_eq (n : Fin 3584) (n' : Fin 5128) (hn : n'.val = 1544 + n.val) :
    mixed m c t r n = col (hs m c) (gs m c) (ws m c) i n' := by
  have e : n' = (⟨1544 + n.val, by omega⟩ : Fin 5128) := Fin.ext hn
  rw [e]
  unfold mixed col
  rw [unit_eq m c t r i hi]
  simp only [block3]

theorem prod_eq (k : Fin 512) : prodRow m c t r k = prod (hs m c) (gs m c) (ws m c) i k := by
  unfold prodRow prod
  rw [mixed_eq m c t r i hi ⟨512 + k.val, by omega⟩ ⟨2056 + k.val, by omega⟩ (by show 2056 + k.val = 1544 + (512 + k.val); omega),
    mixed_eq m c t r i hi ⟨1024 + k.val, by omega⟩ ⟨2568 + k.val, by omega⟩ (by show 2568 + k.val = 1544 + (1024 + k.val); omega)]

end

theorem back_eq (t : Fin cfg0.N) (r : Fin 512) (i : Fin 16384) (hi : i.val = 512 * t.val + r.val) (d : ℕ) (hd : d ≤ 8) (k : Fin 512) :
    back m c t d hd r k = before (hs m c) (gs m c) (ws m c) (ps m c) d hd i k := by
  have ht : t.val < 32 := t.isLt
  have hr : r.val < 512 := r.isLt
  unfold back before
  by_cases h : d ≤ r.val
  · rw [dif_pos h, dif_pos (by omega)]
    exact prod_eq m c t _ _ (by show i.val - d = 512 * t.val + (r.val - d); omega) k
  · rw [dif_neg h]
    by_cases h0 : t.val % 16 = 0
    · rw [if_pos h0, dif_neg (by omega), block8]
      exact congrArg (fun a => ps m c a k) (Fin.ext (by show 8 + r.val - d = 8 + i.val % 8192 - d; omega))
    · rw [if_neg h0, dif_pos (by omega)]
      exact prod_eq m c _ _ _ (by show i.val - d = 512 * (t.val - 1) + (512 + r.val - d); omega) k

section
variable (t : Fin cfg0.N) (r : Fin 512) (i : Fin 16384) (hi : i.val = 512 * t.val + r.val)
include hi

theorem conv_eq (k : Fin 512) : convRow m c t r k
    = col (hs m c) (gs m c) (ws m c) i ⟨1544 + k.val, by omega⟩ * conv (hs m c) (gs m c) (ws m c) (cs m c) (ps m c) i k := by
  unfold convRow conv
  rw [mixed_eq m c t r i hi ⟨k.val, by omega⟩ ⟨1544 + k.val, by omega⟩ rfl, back_eq m c t r i hi 2, back_eq m c t r i hi 1,
    prod_eq m c t r i hi, block6, block6, block6]

theorem av_eq (j : Fin 1024) : av m c t r j = gateA (hs m c) (gs m c) (ws m c) i j := by
  unfold av gateA
  rw [mixed_eq m c t r i hi ⟨1536 + j.val, by omega⟩ ⟨3080 + j.val, by omega⟩ (by show 3080 + j.val = 1544 + (1536 + j.val); omega)]

theorem gv_eq (j : Fin 1024) : gv m c t r j = gatedConv (hs m c) (gs m c) (ws m c) (cs m c) (ps m c) (us m c) i j := by
  unfold gv gatedConv
  rw [mixed_eq m c t r i hi ⟨2560 + j.val, by omega⟩ ⟨4104 + j.val, by omega⟩ (by show 4104 + j.val = 1544 + (2560 + j.val); omega)]
  simp only [conv_eq m c t r i hi, block7]

theorem qv_eq (j : Fin 512) : qv m c t r j = queryAt (hs m c) (gs m c) (ws m c) i j := by
  unfold qv queryAt
  rw [head_eq m c t r i hi]

theorem kv_eq (j : Fin 512) : kv m c t r j = keyAt (hs m c) (gs m c) (ws m c) i j := by
  unfold kv keyAt
  rw [head_eq m c t r i hi]

theorem vv_eq (j : Fin 512) : vv m c t r j = valueAt (hs m c) (gs m c) (ws m c) i j := by
  unfold vv valueAt
  rw [head_eq m c t r i hi]

end

end Cert.Kernel3Ideal.Mixin

end
-- ==== Proof.Mixin.GatePlain.lean ====
/- The logarithm of a forget gate and its running sum over the rows of a sequence, as plain functions. -/
module

public import proofs.«01_k».proof.Proof.Mixin.Plain

@[expose] public section

noncomputable section

namespace Cert.Layer

open Idealize.ShloMosaic
open scoped BigOperators

/-- The factor that takes natural logarithms to the base 2. -/
def perLn2 : EReal := Ideal.ofBits .f32 0x3FB8AA3B#32

/-- The logarithm, to the base 2, of the gate that opens as `z` grows. -/
def logGate (z : EReal) : EReal := (min z 0 - Ideal.log1p (Ideal.exp (0 - max z (-z)))) * perLn2

theorem coe_max' (x y : ℝ) : ((max x y : ℝ) : EReal) = max (x : EReal) (y : EReal) := EReal.coe_strictMono.monotone.map_max

theorem coe_min' (x y : ℝ) : ((min x y : ℝ) : EReal) = min (x : EReal) (y : EReal) := EReal.coe_strictMono.monotone.map_min

theorem perLn2_pos : ∃ x : ℝ, 0 < x ∧ perLn2 = (x : EReal) := by
  refine ⟨_, ?_, by unfold perLn2; simp [Ideal.ofBits, Ideal.ieee, -EReal.coe_mul]; rfl⟩
  positivity

/-- The small term of the gate's logarithm is a real number. -/
theorem small_real (z : EReal) : ∃ x : ℝ, 0 ≤ x ∧ Ideal.log1p (Ideal.exp (0 - max z (-z))) = (x : EReal) := by
  have one : Ideal.log1p (Ideal.exp ⊥) = ((0 : ℝ) : EReal) := by
    show Ideal.log (1 + 0) = _
    rw [add_zero, show (1 : EReal) = ((1 : ℝ) : EReal) by norm_cast]
    show (if (1 : ℝ) ≤ 0 then ⊥ else ((Real.log 1 : ℝ) : EReal)) = _
    rw [if_neg (by norm_num), Real.log_one]
  induction z with
  | bot => exact ⟨0, le_refl _, by rw [show (0 : EReal) - max ⊥ (-⊥) = ⊥ by simp]; exact one⟩
  | top => exact ⟨0, le_refl _, by rw [show (0 : EReal) - max ⊤ (-⊤) = ⊥ by simp]; exact one⟩
  | coe x =>
    have e : (0 : EReal) - max (x : EReal) (-(x : EReal)) = ((0 - max x (-x) : ℝ) : EReal) := by
      rw [EReal.coe_sub, coe_max', EReal.coe_neg]; rfl
    refine ⟨Real.log (1 + Real.exp (0 - max x (-x))), Real.log_nonneg (by linarith [Real.exp_pos (0 - max x (-x))]), ?_⟩
    rw [e]
    show Ideal.log (1 + ((Real.exp (0 - max x (-x)) : ℝ) : EReal)) = _
    rw [show (1 : EReal) = ((1 : ℝ) : EReal) by norm_cast, ← EReal.coe_add]
    show (if (1 : ℝ) + Real.exp (0 - max x (-x)) ≤ 0 then ⊥ else ((Real.log _ : ℝ) : EReal)) = _
    rw [if_neg (by linarith [Real.exp_pos (0 - max x (-x))])]

/-- The gate's logarithm is never above every real number. -/
theorem logGate_ne_top (z : EReal) : logGate z ≠ ⊤ := by
  obtain ⟨p, hp, ep⟩ := perLn2_pos
  obtain ⟨s, -, es⟩ := small_real z
  unfold logGate
  rw [ep, es]
  induction z with
  | bot => rw [min_eq_left bot_le, EReal.bot_sub, EReal.bot_mul_coe_of_pos hp]; exact bot_ne_top
  | top => rw [min_eq_right le_top, zero_sub, ← EReal.coe_neg, ← EReal.coe_mul]; exact EReal.coe_ne_top _
  | coe x =>
    rw [show min (x : EReal) 0 = ((min x 0 : ℝ) : EReal) by rw [coe_min']; rfl, ← EReal.coe_sub, ← EReal.coe_mul]
    exact EReal.coe_ne_top _

/-- The gate's logarithm as minus the softened maximum of `-z` and 0. -/
theorem logGate_soft (z : EReal) :
    -(max (-z) 0 + Ideal.log1p (Ideal.exp (-max (-z - 0) (-(-z - 0))))) * perLn2 = logGate z := by
  unfold logGate
  congr 1
  rw [sub_zero, neg_neg, max_comm (-z) z, ← zero_sub (max z (-z))]
  obtain ⟨s, -, es⟩ := small_real z
  rw [es]
  induction z with
  | bot => simp
  | top => simp
  | coe x =>
    rw [show min (x : EReal) 0 = ((min x 0 : ℝ) : EReal) by rw [coe_min']; rfl, ← EReal.coe_neg x,
      show max ((-x : ℝ) : EReal) 0 = ((max (-x) 0 : ℝ) : EReal) by rw [coe_max']; rfl, ← EReal.coe_add, ← EReal.coe_neg, ← EReal.coe_sub]
    congr 1
    rcases le_total x 0 with h | h
    · rw [max_eq_left (by linarith), min_eq_left h]; ring
    · rw [max_eq_right (by linarith), min_eq_right h]; ring

/-- A value that is not above every real number is the sum of its part and the two differences left. -/
theorem parts_sum (x : EReal) (h : x ≠ ⊤) : x + (x - x) + (x - x - (x - x)) = x := by
  induction x with
  | bot => simp
  | top => exact absurd rfl h
  | coe x => rw [← EReal.coe_sub, ← EReal.coe_sub, ← EReal.coe_add, ← EReal.coe_add]; congr 1; ring

variable (h : Fin 16384 → Fin 1024 → EReal) (g : Fin 1024 → EReal) (w : Fin 1024 → Fin 5128 → EReal)
  (b : Fin 8 → EReal) (f0 : Fin 8 → EReal)

/-- The logarithm of a row's forget gate. -/
def logF (i : Fin 16384) (l : Fin 8) : EReal := logGate (col h g w i ⟨1536 + l.val, by omega⟩ + b l)

/-- The logarithm of the forget gate of the `s`-th row of a sequence. -/
def logS (q : ℕ) (l : Fin 8) (s : ℕ) : EReal :=
  if hs : 8192 * q + s < 16384 then logF h g w b ⟨8192 * q + s, hs⟩ l else 0

/-- The running sum of the logarithms over the rows of a sequence, from the value given at its start. -/
def sumF (i : Fin 16384) (l : Fin 8) : EReal :=
  f0 l + ∑ s ∈ Finset.range (i.val % 8192 + 1), logS h g w b (i.val / 8192) l s

end Cert.Layer

end
-- ==== Proof.Mixin.SidePlain.lean ====
/- The lanes beside the queries', keys' and values' own, as plain functions: the three parts of a row's running sums spread by given weights, and ones. -/
module

public import proofs.«01_k».proof.Proof.Mixin.GatePlain

@[expose] public section

noncomputable section

namespace Cert.Layer

open Idealize.ShloMosaic
open scoped BigOperators

/-- Three parts of eight values side by side: the values, what is left of them, and what is left of that. -/
def three (y : Fin 8 → EReal) (a : Fin 128) : EReal :=
  if h : a.val < 8 then y ⟨a.val, h⟩
  else if h : a.val < 16 then y ⟨a.val - 8, by omega⟩ - y ⟨a.val - 8, by omega⟩
  else if h : a.val < 24 then y ⟨a.val - 16, by omega⟩ - y ⟨a.val - 16, by omega⟩ - (y ⟨a.val - 16, by omega⟩ - y ⟨a.val - 16, by omega⟩)
  else 0

/-- The three parts, each times its own weights. -/
def spread (y : Fin 8 → EReal) (x : Fin 128 → EReal) : EReal :=
  (∑ l : Fin 8, y l * x ⟨l.val, by omega⟩) + (∑ l : Fin 8, (y l - y l) * x ⟨8 + l.val, by omega⟩)
    + ∑ l : Fin 8, (y l - y l - (y l - y l)) * x ⟨16 + l.val, by omega⟩

theorem three_sum (y : Fin 8 → EReal) (x : Fin 128 → EReal) : (∑ a : Fin 128, three y a * x a) = spread y x := by
  have h1 : (∑ a : Fin 128, three y a * x a) = (∑ l : Fin 8, three y ⟨l.val, by omega⟩ * x ⟨l.val, by omega⟩)
      + ∑ b : Fin 120, three y ⟨8 + b.val, by omega⟩ * x ⟨8 + b.val, by omega⟩ := Fin.sum_univ_add (a := 8) (b := 120) fun a : Fin 128 => three y a * x a
  have h2 : (∑ b : Fin 120, three y ⟨8 + b.val, by omega⟩ * x ⟨8 + b.val, by omega⟩)
      = (∑ l : Fin 8, three y ⟨8 + l.val, by omega⟩ * x ⟨8 + l.val, by omega⟩)
        + ∑ b : Fin 112, three y ⟨8 + (8 + b.val), by omega⟩ * x ⟨8 + (8 + b.val), by omega⟩ :=
    Fin.sum_univ_add (a := 8) (b := 112) fun b : Fin 120 => three y ⟨8 + b.val, by omega⟩ * x ⟨8 + b.val, by omega⟩
  have h3 : (∑ b : Fin 112, three y ⟨8 + (8 + b.val), by omega⟩ * x ⟨8 + (8 + b.val), by omega⟩)
      = (∑ l : Fin 8, three y ⟨8 + (8 + l.val), by omega⟩ * x ⟨8 + (8 + l.val), by omega⟩)
        + ∑ b : Fin 104, three y ⟨8 + (8 + (8 + b.val)), by omega⟩ * x ⟨8 + (8 + (8 + b.val)), by omega⟩ :=
    Fin.sum_univ_add (a := 8) (b := 104) fun b : Fin 112 => three y ⟨8 + (8 + b.val), by omega⟩ * x ⟨8 + (8 + b.val), by omega⟩
  have z : (∑ b : Fin 104, three y ⟨8 + (8 + (8 + b.val)), by omega⟩ * x ⟨8 + (8 + (8 + b.val)), by omega⟩) = 0 :=
    Finset.sum_eq_zero fun b _ => by
      unfold three
      rw [dif_neg (by show ¬8 + (8 + (8 + b.val)) < 8; omega), dif_neg (by show ¬8 + (8 + (8 + b.val)) < 16; omega),
        dif_neg (by show ¬8 + (8 + (8 + b.val)) < 24; omega), zero_mul]
  rw [h1, h2, h3, z, add_zero, ← add_assoc]
  unfold spread
  refine congrArg₂ (· + ·) (congrArg₂ (· + ·) ?_ ?_) ?_
  · refine Finset.sum_congr rfl fun l _ => ?_
    unfold three
    rw [dif_pos (show (⟨l.val, by omega⟩ : Fin 128).val < 8 from l.isLt)]
  · refine Finset.sum_congr rfl fun l _ => ?_
    unfold three
    have e : (⟨8 + l.val - 8, by omega⟩ : Fin 8) = l := Fin.ext (by show 8 + l.val - 8 = l.val; omega)
    rw [dif_neg (by show ¬8 + l.val < 8; omega), dif_pos (by show 8 + l.val < 16; omega)]
    simp only [e]
  · refine Finset.sum_congr rfl fun l _ => ?_
    have e : (⟨8 + (8 + l.val) - 16, by omega⟩ : Fin 8) = l := Fin.ext (by show 8 + (8 + l.val) - 16 = l.val; omega)
    have e' : (⟨8 + (8 + l.val), by omega⟩ : Fin 128) = ⟨16 + l.val, by omega⟩ := Fin.ext (by show 8 + (8 + l.val) = 16 + l.val; omega)
    rw [← e']
    unfold three
    rw [dif_neg (by show ¬8 + (8 + l.val) < 8; omega), dif_neg (by show ¬8 + (8 + l.val) < 16; omega), dif_pos (by show 8 + (8 + l.val) < 24; omega)]
    simp only [e]

/-- A lane beside the keys: one in the first three lanes of a head, the spread sums in the others. -/
def keySide (y : Fin 8 → EReal) (x : Fin 128 → Fin 512 → EReal) (n : Fin 512) : EReal :=
  if n.val % 128 < 3 then 1 else spread y fun a => x a n

/-- A lane beside the queries: one in three lanes of a head, the spread sums in the others. -/
def querySide (y : Fin 8 → EReal) (x : Fin 128 → Fin 1024 → EReal) (n : Fin 1024) : EReal :=
  if 3 + 3 * (n.val / 128 % 2) ≤ n.val % 128 ∧ n.val % 128 < 3 + 3 * (n.val / 128 % 2) + 3 then 1 else spread y fun a => x a n

/-- A lane beside the values: one in the first lane of each half. -/
def valueSide (l : Fin 128) : EReal := if l.val % 64 = 0 then 1 else 0

end Cert.Layer

end
-- ==== Proof.Mixin.Reference3.lean ====
/- What the third reference returns, read at an index: the mixer's inputs as plain sums. -/
module

public import proofs.«01_k».proof.Proof.Mixin.Plain
public import proofs.«01_k».proof.Proof.Value.Reference2
public import proofs.«01_k».proof.Proof.Gen.Reference3Ideal.Run
public import Idealize.ShloMosaic.Lib.Pointwise
public import Idealize.ShloMosaic.Lib.Pipeline.Value

@[expose] public section

set_option maxRecDepth 16384

noncomputable section

namespace Cert.Reference3Ideal.Value

open Cert.Reference3Ideal Cert.Reference3Ideal.Gen Idealize.ShloMosaic Idealize.ShloMosaic.TcCoe
open Cert.Layer
open Cert.Reference2Ideal.Value (norm16384 norm16384_apply gain_apply branch_apply)

/-- The normalized rows through the joint weights. -/
def joint (x : FVec Ideal S16384x1024 .f32) (g : FVec Ideal S1x1024 .f32) (w : FVec Ideal S1x1024x5128 .f32) : FVec Ideal S16384x5128 .f32 :=
  Host.dotGeneral dot_S16384x1024_S1024x5128_S16384x5128_1_0_0_1_n_n none (norm16384 x (shapeCast _ g shapeCasts_S1x1024_S1024))
    (shapeCast _ w shapeCasts_S1x1024x5128_S1024x5128)

theorem weights_apply (w : FVec Ideal S1x1024x5128 .f32) (a : Fin 1024) (k : Fin 5128) :
    shapeCast S1024x5128 w shapeCasts_S1x1024x5128_S1024x5128 (ix2 a k) = w (ix3 0 a k) := by
  pointwise

theorem joint_apply (x : FVec Ideal S16384x1024 .f32) (g : FVec Ideal S1x1024 .f32) (w : FVec Ideal S1x1024x5128 .f32) (i : Fin 16384) (n : Fin 5128) :
    joint x g w (ix2 i n) = col (fun i k => x (ix2 i k)) (fun k => g (ix2 0 k)) (fun a n => w (ix3 0 a n)) i n := by
  have e : joint x g w (ix2 i n) = ∑ k, norm16384 x (shapeCast _ g shapeCasts_S1x1024_S1024) (ix2 i k)
      * shapeCast S1024x5128 w shapeCasts_S1x1024x5128_S1024x5128 (ix2 k n) := by
    unfold joint
    generalize norm16384 x (shapeCast _ g shapeCasts_S1x1024_S1024) = u
    generalize shapeCast S1024x5128 w shapeCasts_S1x1024x5128_S1024x5128 = v
    pointwise
  rw [e]
  simp only [norm16384_apply, gain_apply, weights_apply]
  rfl

/-- The products. -/
def prods (z : FVec Ideal S16384x5128 .f32) : FVec Ideal S16384x512 .f32 :=
  mulf (extractStridedSlice S16384x512 ![0, 2056] z slices_S16384x5128_S16384x512_0_2056) (extractStridedSlice S16384x512 ![0, 2568] z slices_S16384x5128_S16384x512_0_2568)

theorem prods_apply (z : FVec Ideal S16384x5128 .f32) (i : Fin 16384) (k : Fin 512) :
    prods z (ix2 i k) = z (ix2 i ⟨2056 + k.val, by omega⟩) * z (ix2 i ⟨2568 + k.val, by omega⟩) := by
  pointwise [prods]

/-- Each sequence of products with the two rows given at its start. -/
def seqs (p : FVec Ideal S16384x512 .f32) (p0 : FVec Ideal S8x512 .f32) : FVec Ideal S2x8194x512 .f32 :=
  concatenate S2x8194x512 1 [⟨S2x2x512, (broadcastInDim S2x2x512 ![1, 2] bcast_S2x512_S2x2x512_1_2 (extractStridedSlice S2x512 ![6, 0] p0 slices_S8x512_S2x512_6_0))⟩,
    ⟨S2x8192x512, (shapeCast _ p shapeCasts_S16384x512_S2x8192x512)⟩] concatenates_S2x2x512_S2x8192x512_S2x8194x512_d1

theorem start_apply (p0 : FVec Ideal S8x512 .f32) (b : Fin 2) (s : Fin 2) (k : Fin 512) :
    broadcastInDim S2x2x512 ![1, 2] bcast_S2x512_S2x2x512_1_2 (extractStridedSlice S2x512 ![6, 0] p0 slices_S8x512_S2x512_6_0) (ix3 b s k)
      = p0 (ix2 ⟨6 + s.val, by omega⟩ k) := by
  pointwise

theorem fold_apply (p : FVec Ideal S16384x512 .f32) (b : Fin 2) (s : Fin 8192) (k : Fin 512) :
    shapeCast S2x8192x512 p shapeCasts_S16384x512_S2x8192x512 (ix3 b s k) = p (ix2 ⟨8192 * b.val + s.val, by omega⟩ k) :=
  shapeCast_apply _ _ _ _ (by
    rw [Shape.rowMajor_val_three, Shape.rowMajor_val_two]
    show (8192 * b.val + s.val) * 512 + k.val = (b.val * 8192 + s.val) * 512 + k.val
    omega)

theorem unfold_apply (y : FVec Ideal S2x8192x512 .f32) (i : Fin 16384) (k : Fin 512) :
    shapeCast S16384x512 y shapeCasts_S2x8192x512_S16384x512 (ix2 i k)
      = y (ix3 (⟨i.val / 8192, by omega⟩ : Fin 2) (⟨i.val % 8192, by omega⟩ : Fin 8192) k) :=
  shapeCast_apply _ _ _ _ (by
    rw [Shape.rowMajor_val_three, Shape.rowMajor_val_two]
    show (i.val / 8192 * 8192 + i.val % 8192) * 512 + k.val = i.val * 512 + k.val
    omega)

theorem seqs_start (p : FVec Ideal S16384x512 .f32) (p0 : FVec Ideal S8x512 .f32) (b : Fin 2) (s : Fin 8194) (k : Fin 512) (h : s.val < 2) :
    seqs p p0 (ix3 b s k) = p0 (ix2 ⟨6 + s.val, by omega⟩ k) := by
  refine (concatenate_pair_apply_left (t := S2x8194x512) (s₁ := S2x2x512) (s₂ := S2x8192x512) 1 _ _ _ _ rfl (ix3 b (⟨s.val, h⟩ : Fin 2) k) fun a => ?_).trans (start_apply p0 b ⟨s.val, h⟩ k)
  match a with
  | ⟨0, _⟩ => rfl
  | ⟨1, _⟩ => rfl
  | ⟨2, _⟩ => rfl

theorem seqs_rest (p : FVec Ideal S16384x512 .f32) (p0 : FVec Ideal S8x512 .f32) (b : Fin 2) (s : Fin 8194) (k : Fin 512) (h : 2 ≤ s.val) :
    seqs p p0 (ix3 b s k) = p (ix2 ⟨8192 * b.val + (s.val - 2), by omega⟩ k) := by
  refine (concatenate_pair_apply_right (t := S2x8194x512) (s₁ := S2x2x512) (s₂ := S2x8192x512) 1 _ _ _ _ rfl rfl (ix3 b (⟨s.val - 2, by omega⟩ : Fin 8192) k) (fun a ha => ?_) ?_).trans (fold_apply p b ⟨s.val - 2, by omega⟩ k)
  · match a, ha with
    | ⟨0, _⟩, _ => rfl
    | ⟨1, _⟩, ha => exact absurd rfl ha
    | ⟨2, _⟩, _ => rfl
  · show s.val - 2 + 2 = s.val
    omega

/-- One row of the convolution's weights, for every row. -/
def tap0 (cw : FVec Ideal S1x3x512 .f32) : FVec Ideal S2x8192x512 .f32 :=
  broadcastInDim S2x8192x512 ![0, 1, 2] bcast_S1x1x512_S2x8192x512_0_1_2 (broadcastInDim S1x1x512 ![2] bcast_S512_S1x1x512_2 (shapeCast _ (extractStridedSlice S1x512 ![0, 0] (shapeCast _ cw shapeCasts_S1x3x512_S3x512) slices_S3x512_S1x512_0_0) shapeCasts_S1x512_S512))
def tap1 (cw : FVec Ideal S1x3x512 .f32) : FVec Ideal S2x8192x512 .f32 :=
  broadcastInDim S2x8192x512 ![0, 1, 2] bcast_S1x1x512_S2x8192x512_0_1_2 (broadcastInDim S1x1x512 ![2] bcast_S512_S1x1x512_2 (shapeCast _ (extractStridedSlice S1x512 ![1, 0] (shapeCast _ cw shapeCasts_S1x3x512_S3x512) slices_S3x512_S1x512_1_0) shapeCasts_S1x512_S512))
def tap2 (cw : FVec Ideal S1x3x512 .f32) : FVec Ideal S2x8192x512 .f32 :=
  broadcastInDim S2x8192x512 ![0, 1, 2] bcast_S1x1x512_S2x8192x512_0_1_2 (broadcastInDim S1x1x512 ![2] bcast_S512_S1x1x512_2 (shapeCast _ (extractStridedSlice S1x512 ![2, 0] (shapeCast _ cw shapeCasts_S1x3x512_S3x512) slices_S3x512_S1x512_2_0) shapeCasts_S1x512_S512))

theorem tap0_apply (cw : FVec Ideal S1x3x512 .f32) (b : Fin 2) (s : Fin 8192) (k : Fin 512) : tap0 cw (ix3 b s k) = cw (ix3 0 0 k) := by
  pointwise [tap0]
theorem tap1_apply (cw : FVec Ideal S1x3x512 .f32) (b : Fin 2) (s : Fin 8192) (k : Fin 512) : tap1 cw (ix3 b s k) = cw (ix3 0 1 k) := by
  pointwise [tap1]
theorem tap2_apply (cw : FVec Ideal S1x3x512 .f32) (b : Fin 2) (s : Fin 8192) (k : Fin 512) : tap2 cw (ix3 b s k) = cw (ix3 0 2 k) := by
  pointwise [tap2]

/-- The convolution of both sequences. -/
def convs (q : FVec Ideal S2x8194x512 .f32) (cw : FVec Ideal S1x3x512 .f32) : FVec Ideal S2x8192x512 .f32 :=
  addf (addf (mulf (extractStridedSlice S2x8192x512 ![0, 0, 0] q slices_S2x8194x512_S2x8192x512_0_0_0) (tap0 cw))
    (mulf (extractStridedSlice S2x8192x512 ![0, 1, 0] q slices_S2x8194x512_S2x8192x512_0_1_0) (tap1 cw)))
    (mulf (extractStridedSlice S2x8192x512 ![0, 2, 0] q slices_S2x8194x512_S2x8192x512_0_2_0) (tap2 cw))

theorem convs_apply (q : FVec Ideal S2x8194x512 .f32) (cw : FVec Ideal S1x3x512 .f32) (b : Fin 2) (s : Fin 8192) (k : Fin 512) :
    convs q cw (ix3 b s k) = q (ix3 b (⟨s.val, by omega⟩ : Fin 8194) k) * cw (ix3 0 0 k) + q (ix3 b (⟨1 + s.val, by omega⟩ : Fin 8194) k) * cw (ix3 0 1 k)
      + q (ix3 b (⟨2 + s.val, by omega⟩ : Fin 8194) k) * cw (ix3 0 2 k) := by
  rw [← tap0_apply cw b s k, ← tap1_apply cw b s k, ← tap2_apply cw b s k]
  unfold convs
  generalize tap0 cw = a0
  generalize tap1 cw = a1
  generalize tap2 cw = a2
  pointwise

section
variable (x : FVec Ideal S16384x1024 .f32) (g : FVec Ideal S1x1024 .f32) (w : FVec Ideal S1x1024x5128 .f32) (cw : FVec Ideal S1x3x512 .f32)
  (p0 : FVec Ideal S8x512 .f32) (wc : FVec Ideal S1x512x1024 .f32)

theorem prods_joint (i : Fin 16384) (k : Fin 512) :
    prods (joint x g w) (ix2 i k) = prod (fun i k => x (ix2 i k)) (fun k => g (ix2 0 k)) (fun a n => w (ix3 0 a n)) i k := by
  rw [prods_apply, joint_apply, joint_apply]
  rfl

/-- The row `d` rows before, in the sequence with its start. -/
theorem seqs_before (d : ℕ) (hd : d ≤ 2) (i : Fin 16384) (k : Fin 512) :
    seqs (prods (joint x g w)) p0 (ix3 (⟨i.val / 8192, by omega⟩ : Fin 2) (⟨2 - d + i.val % 8192, by omega⟩ : Fin 8194) k)
      = before (fun i k => x (ix2 i k)) (fun k => g (ix2 0 k)) (fun a n => w (ix3 0 a n)) (fun r k => p0 (ix2 r k)) d (by omega) i k := by
  unfold before
  by_cases h : d ≤ i.val % 8192
  · rw [dif_pos h, seqs_rest _ _ _ _ _ (by show 2 ≤ 2 - d + i.val % 8192; omega), prods_joint]
    exact congrArg (fun i => prod _ _ _ i k) (Fin.ext (by show 8192 * (i.val / 8192) + (2 - d + i.val % 8192 - 2) = i.val - d; omega))
  · rw [dif_neg h, seqs_start _ _ _ _ _ (by show 2 - d + i.val % 8192 < 2; omega)]
    exact congrArg (fun i => p0 (ix2 i k)) (Fin.ext (by show 6 + (2 - d + i.val % 8192) = 8 + i.val % 8192 - d; omega))

theorem before_zero (h : Fin 16384 → Fin 1024 → EReal) (g : Fin 1024 → EReal) (w : Fin 1024 → Fin 5128 → EReal) (p0 : Fin 8 → Fin 512 → EReal)
    (i : Fin 16384) (k : Fin 512) : before h g w p0 0 (by omega) i k = prod h g w i k := by
  unfold before
  rw [dif_pos (Nat.zero_le _)]
  rfl

theorem conv_joint (i : Fin 16384) (k : Fin 512) :
    shapeCast S16384x512 (convs (seqs (prods (joint x g w)) p0) cw) shapeCasts_S2x8192x512_S16384x512 (ix2 i k)
      = conv (fun i k => x (ix2 i k)) (fun k => g (ix2 0 k)) (fun a n => w (ix3 0 a n)) (fun r k => cw (ix3 0 r k)) (fun r k => p0 (ix2 r k)) i k := by
  rw [unfold_apply, convs_apply]
  unfold conv
  rw [← before_zero (p0 := fun r k => p0 (ix2 r k)), ← seqs_before x g w p0 2 (by omega), ← seqs_before x g w p0 1 (by omega), ← seqs_before x g w p0 0 (by omega)]
  refine congrArg₂ (· + ·) (congrArg₂ (· + ·) (congrArg (· * _) ?_) rfl) rfl
  exact congrArg (fun s => seqs (prods (joint x g w)) p0 (ix3 (⟨i.val / 8192, by omega⟩ : Fin 2) s k)) (Fin.ext (Nat.zero_add _).symm)

/-- The gates. -/
def sigA (z : FVec Ideal S16384x5128 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 3080] z slices_S16384x5128_S16384x1024_0_3080))))
def sigC (z : FVec Ideal S16384x5128 .f32) : FVec Ideal S16384x1024 .f32 :=
  Host.divf (broadcastInDim S16384x1024 ![] bcast_S_S16384x1024 (constant S_ .f32 0x3F800000#32)) (addf (broadcastInDim S16384x1024 ![] bcast_S_S16384x1024 (constant S_ .f32 0x3F800000#32)) (Host.exp (Host.negf (extractStridedSlice S16384x1024 ![0, 4104] z slices_S16384x5128_S16384x1024_0_4104))))

theorem sigA_apply (z : FVec Ideal S16384x5128 .f32) (i : Fin 16384) (j : Fin 1024) : sigA z (ix2 i j) = Ideal.logistic (z (ix2 i ⟨3080 + j.val, by omega⟩)) := by
  pointwise [sigA, Ideal.logistic]
theorem sigC_apply (z : FVec Ideal S16384x5128 .f32) (i : Fin 16384) (j : Fin 1024) : sigC z (ix2 i j) = Ideal.logistic (z (ix2 i ⟨4104 + j.val, by omega⟩)) := by
  pointwise [sigC, Ideal.logistic]

/-- The five results of the arguments. -/
def out0 : FVec Ideal S16384x512 .bf16 :=
  truncf .bf16 (mulf (extractStridedSlice S16384x512 ![0, 0] (joint x g w) slices_S16384x5128_S16384x512_0_0) (broadcastInDim S16384x512 ![] bcast_S_S16384x512 (constant S_ .f32 0x3E38AA3B#32))) bitsLt_bf16_f32
def out1 : FVec Ideal S16384x512 .bf16 := truncf .bf16 (extractStridedSlice S16384x512 ![0, 512] (joint x g w) slices_S16384x5128_S16384x512_0_512) bitsLt_bf16_f32
def out2 : FVec Ideal S16384x512 .bf16 := truncf .bf16 (extractStridedSlice S16384x512 ![0, 1024] (joint x g w) slices_S16384x5128_S16384x512_0_1024) bitsLt_bf16_f32
def out3 : FVec Ideal S16384x1024 .bf16 := truncf .bf16 (sigA (joint x g w)) bitsLt_bf16_f32
def out4 : FVec Ideal S16384x1024 .bf16 :=
  truncf .bf16 (mulf (sigC (joint x g w)) (Host.dotGeneral dot_S16384x512_S512x1024_S16384x1024_1_0_0_1_n_n none
    (mulf (extractStridedSlice S16384x512 ![0, 1544] (joint x g w) slices_S16384x5128_S16384x512_0_1544)
      (shapeCast _ (convs (seqs (prods (joint x g w)) p0) cw) shapeCasts_S2x8192x512_S16384x512))
    (shapeCast _ wc shapeCasts_S1x512x1024_S512x1024))) bitsLt_bf16_f32

theorem out0_apply (i : Fin 16384) (j : Fin 512) :
    out0 x g w (ix2 i j) = queryAt (fun i k => x (ix2 i k)) (fun k => g (ix2 0 k)) (fun a n => w (ix3 0 a n)) i j := by
  unfold queryAt scale
  rw [← joint_apply]
  unfold out0
  generalize joint x g w = z
  pointwise
theorem out1_apply (i : Fin 16384) (j : Fin 512) :
    out1 x g w (ix2 i j) = keyAt (fun i k => x (ix2 i k)) (fun k => g (ix2 0 k)) (fun a n => w (ix3 0 a n)) i j := by
  unfold keyAt
  rw [← joint_apply]
  unfold out1
  generalize joint x g w = z
  pointwise
theorem out2_apply (i : Fin 16384) (j : Fin 512) :
    out2 x g w (ix2 i j) = valueAt (fun i k => x (ix2 i k)) (fun k => g (ix2 0 k)) (fun a n => w (ix3 0 a n)) i j := by
  unfold valueAt
  rw [← joint_apply]
  unfold out2
  generalize joint x g w = z
  pointwise
theorem out3_apply (i : Fin 16384) (j : Fin 1024) :
    out3 x g w (ix2 i j) = gateA (fun i k => x (ix2 i k)) (fun k => g (ix2 0 k)) (fun a n => w (ix3 0 a n)) i j := by
  unfold gateA
  rw [← joint_apply, ← sigA_apply]
  unfold out3
  generalize sigA (joint x g w) = z
  pointwise
theorem out4_apply (i : Fin 16384) (j : Fin 1024) :
    out4 x g w cw p0 wc (ix2 i j) = gatedConv (fun i k => x (ix2 i k)) (fun k => g (ix2 0 k)) (fun a n => w (ix3 0 a n)) (fun r k => cw (ix3 0 r k))
      (fun r k => p0 (ix2 r k)) (fun k j => wc (ix3 0 k j)) i j := by
  unfold gatedConv
  simp only [← joint_apply, ← conv_joint, ← branch_apply]
  rw [← sigC_apply]
  unfold out4
  generalize sigC (joint x g w) = s
  generalize shapeCast S16384x512 (convs (seqs (prods (joint x g w)) p0) cw) shapeCasts_S2x8192x512_S16384x512 = q
  generalize joint x g w = z
  generalize shapeCast S512x1024 wc _ = v
  pointwise

end

variable (m : (ℓ : Loc nD τ sig) → Buf (Elt Ideal) ℓ) (c : Dev nD)

end Cert.Reference3Ideal.Value

end
-- ==== Proof.Mixin.Reference3Sums.lean ====
/- What the third reference returns beside the rows' own results: the running sums of the gates' logarithms, and the products' last rows. -/
module

public import proofs.«01_k».proof.Proof.Mixin.GatePlain
public import proofs.«01_k».proof.Proof.Mixin.Reference3

@[expose] public section

set_option maxRecDepth 16384

noncomputable section

namespace Cert.Reference3Ideal.Value

open Cert.Reference3Ideal Cert.Reference3Ideal.Gen Idealize.ShloMosaic Idealize.ShloMosaic.TcCoe
open Cert.Layer
open scoped BigOperators

/-! ## Running sums -/

theorem fold_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A window whose top is `j` below its end: what it covers of the values from 0 on. -/
theorem window_sum (f : ℕ → EReal) (j : ℕ) (hj : j < 8192) :
    (∑ w ∈ Finset.range 8192, if 8191 ≤ j + w then f (j + w - 8191) else 0) = ∑ s ∈ Finset.range (j + 1), f s := by
  have e : 8192 = (8191 - j) + (j + 1) := by omega
  rw [e, Finset.sum_range_add, Finset.sum_eq_zero (fun w hw => if_neg (by have := Finset.mem_range.mp hw; omega)), zero_add]
  refine Finset.sum_congr rfl fun s _ => ?_
  rw [if_pos (by omega)]
  exact congrArg f (by omega)

/-- An index of a window one wide but for its second axis. -/
theorem window_index (n : Fin (⟨3, ![1, 8192, 1]⟩ : Shape).numel) :
    (((⟨3, ![1, 8192, 1]⟩ : Shape).rowMajor.symm n) 0).val = 0 ∧ (((⟨3, ![1, 8192, 1]⟩ : Shape).rowMajor.symm n) 1).val = n.val
      ∧ (((⟨3, ![1, 8192, 1]⟩ : Shape).rowMajor.symm n) 2).val = 0 := by
  have h := Shape.rowMajor_val_three ((⟨3, ![1, 8192, 1]⟩ : Shape).rowMajor.symm n)
  rw [Equiv.apply_symm_apply] at h
  have h0 : (((⟨3, ![1, 8192, 1]⟩ : Shape).rowMajor.symm n) 0).val < 1 := (((⟨3, ![1, 8192, 1]⟩ : Shape).rowMajor.symm n) 0).isLt
  have h2 : (((⟨3, ![1, 8192, 1]⟩ : Shape).rowMajor.symm n) 2).val < 1 := (((⟨3, ![1, 8192, 1]⟩ : Shape).rowMajor.symm n) 2).isLt
  change n.val = ((((⟨3, ![1, 8192, 1]⟩ : Shape).rowMajor.symm n) 0).val * 8192 + (((⟨3, ![1, 8192, 1]⟩ : Shape).rowMajor.symm n) 1).val) * 1
    + (((⟨3, ![1, 8192, 1]⟩ : Shape).rowMajor.symm n) 2).val at h
  omega

theorem window_numel : (⟨3, ![1, 8192, 1]⟩ : Shape).numel = 8192 := by
  simp [Shape.numel, Fin.prod_univ_succ]

/-- The value at a sequence's `s`-th row. -/
def rowOr (x : FVec Ideal S2x8192x8 .f32) (q : Fin 2) (l : Fin 8) (s : ℕ) : EReal := if h : s < 8192 then x (ix3 q ⟨s, h⟩ l) else 0

theorem running (x : FVec Ideal S2x8192x8 .f32) (z : FVec Ideal S_ .f32) (hz : ∀ u, z u = 0) (q : Fin 2) (i : Fin 8192) (l : Fin 8) :
    Host.reduceWindowAdd ![1, 8192, 1] ![1, 1, 1] ![0, 8191, 0] ![0, 0, 0] x z reduceWindows_S2x8192x8_S2x8192x8_w1s1p0_0_w8192s1p8191_0_w1s1p0_0 h_S_ (ix3 q i l)
      = ∑ s ∈ Finset.range (i.val + 1), rowOr x q l s := by
  have hi := i.isLt
  unfold Host.reduceWindowAdd
  show Ideal.hostReduceWindowAdd _ _ _ _ _ x (z (Shape.Idx.first h_S_)) _ = _
  rw [hz]
  unfold Ideal.hostReduceWindowAdd Host.reduceWindow
  refine (fold_sum _ _ _).trans ?_
  rw [zero_add, ← Fin.sum_univ_def]
  refine Eq.trans (Finset.sum_congr rfl fun n _ => ?_) ((Fin.sum_univ_eq_sum_range (fun w : ℕ => if 8191 ≤ i.val + w then rowOr x q l (i.val + w - 8191) else 0) _).trans
    ((congrArg (fun N => ∑ w ∈ Finset.range N, if 8191 ≤ i.val + w then rowOr x q l (i.val + w - 8191) else 0) window_numel).trans (window_sum (rowOr x q l) i.val hi)))
  obtain ⟨h0, h1, h2⟩ := window_index n
  have hn : n.val < 8192 := lt_of_lt_of_eq n.isLt window_numel
  dsimp only
  split
  · next hin =>
    have h := hin 1
    change 8191 ≤ i.val * 1 + (((⟨3, ![1, 8192, 1]⟩ : Shape).rowMajor.symm n) 1).val ∧ i.val * 1 + (((⟨3, ![1, 8192, 1]⟩ : Shape).rowMajor.symm n) 1).val - 8191 < 8192 at h
    rw [h1] at h
    rw [if_pos (by omega)]
    unfold rowOr
    rw [dif_pos (by omega)]
    refine congrArg x (funext fun a => Fin.ext ?_)
    match a with
    | ⟨0, _⟩ =>
      show q.val * 1 + (((⟨3, ![1, 8192, 1]⟩ : Shape).rowMajor.symm n) 0).val - 0 = q.val
      rw [h0]; omega
    | ⟨1, _⟩ =>
      show i.val * 1 + (((⟨3, ![1, 8192, 1]⟩ : Shape).rowMajor.symm n) 1).val - 8191 = i.val + n.val - 8191
      rw [h1]; omega
    | ⟨2, _⟩ =>
      show l.val * 1 + (((⟨3, ![1, 8192, 1]⟩ : Shape).rowMajor.symm n) 2).val - 0 = l.val
      rw [h2]; omega
  · next hin =>
    rw [if_neg fun hle => hin fun a => by
      match a with
      | ⟨0, _⟩ =>
        show 0 ≤ q.val * 1 + (((⟨3, ![1, 8192, 1]⟩ : Shape).rowMajor.symm n) 0).val ∧ q.val * 1 + (((⟨3, ![1, 8192, 1]⟩ : Shape).rowMajor.symm n) 0).val - 0 < 2
        rw [h0]; omega
      | ⟨1, _⟩ =>
        show 8191 ≤ i.val * 1 + (((⟨3, ![1, 8192, 1]⟩ : Shape).rowMajor.symm n) 1).val ∧ i.val * 1 + (((⟨3, ![1, 8192, 1]⟩ : Shape).rowMajor.symm n) 1).val - 8191 < 8192
        rw [h1]; omega
      | ⟨2, _⟩ =>
        show 0 ≤ l.val * 1 + (((⟨3, ![1, 8192, 1]⟩ : Shape).rowMajor.symm n) 2).val ∧ l.val * 1 + (((⟨3, ![1, 8192, 1]⟩ : Shape).rowMajor.symm n) 2).val - 0 < 8
        rw [h2]; omega]

/-! ## The gates' logarithms -/

/-- A gate's argument: the row's lane and its offset. -/
def gateArg (z : FVec Ideal S16384x5128 .f32) (b : FVec Ideal S1x8 .f32) : FVec Ideal S16384x8 .f32 :=
  Host.negf (addf (extractStridedSlice S16384x8 ![0, 1536] z slices_S16384x5128_S16384x8_0_1536)
    (broadcastInDim S16384x8 ![0, 1] bcast_S1x8_S16384x8_0_1 (broadcastInDim S1x8 ![1] bcast_S8_S1x8_1 (shapeCast _ b shapeCasts_S1x8_S8))))

/-- The logarithm of a gate whose argument's negative is `y`. -/
def softs (y : FVec Ideal S16384x8 .f32) : FVec Ideal S16384x8 .f32 :=
  mulf (Host.negf (select (cmpf .une (subf y (broadcastInDim S16384x8 ![] bcast_S_S16384x8 (constant S_ .f32 0x00000000#32))) (subf y (broadcastInDim S16384x8 ![] bcast_S_S16384x8 (constant S_ .f32 0x00000000#32))))
    (addf y (broadcastInDim S16384x8 ![] bcast_S_S16384x8 (constant S_ .f32 0x00000000#32)))
    (addf (maximumf y (broadcastInDim S16384x8 ![] bcast_S_S16384x8 (constant S_ .f32 0x00000000#32)))
      (Host.log1p (Host.exp (Host.negf (Host.absf (subf y (broadcastInDim S16384x8 ![] bcast_S_S16384x8 (constant S_ .f32 0x00000000#32))))))))))
    (broadcastInDim S16384x8 ![] bcast_S_S16384x8 (constant S_ .f32 0x3FB8AA3B#32))

theorem offset_apply (b : FVec Ideal S1x8 .f32) (i : Fin 16384) (l : Fin 8) :
    broadcastInDim S16384x8 ![0, 1] bcast_S1x8_S16384x8_0_1 (broadcastInDim S1x8 ![1] bcast_S8_S1x8_1 (shapeCast S8 b shapeCasts_S1x8_S8)) (ix2 i l) = b (ix2 0 l) := by
  pointwise

theorem gateArg_apply (z : FVec Ideal S16384x5128 .f32) (b : FVec Ideal S1x8 .f32) (i : Fin 16384) (l : Fin 8) :
    gateArg z b (ix2 i l) = -(z (ix2 i ⟨1536 + l.val, by omega⟩) + b (ix2 0 l)) := by
  rw [← offset_apply b i l]
  unfold gateArg
  generalize broadcastInDim S16384x8 ![0, 1] bcast_S1x8_S16384x8_0_1 (broadcastInDim S1x8 ![1] bcast_S8_S1x8_1 (shapeCast S8 b shapeCasts_S1x8_S8)) = o
  pointwise

theorem zero_bits : Ideal.ofBits .f32 0x00000000#32 = 0 := by simp [Ideal.ofBits, Ideal.ieee]

theorem zeros_apply (i : Fin 16384) (l : Fin 8) : (broadcastInDim S16384x8 ![] bcast_S_S16384x8 (constant (F := Ideal) S_ .f32 0x00000000#32)) (ix2 i l) = 0 :=
  zero_bits

theorem softs_apply (y : FVec Ideal S16384x8 .f32) (i : Fin 16384) (l : Fin 8) (a : EReal) (h : y (ix2 i l) = -a) :
    softs y (ix2 i l) = logGate a := by
  rw [← logGate_soft a, ← h, ← zeros_apply i l]
  unfold softs
  generalize broadcastInDim S16384x8 ![] bcast_S_S16384x8 (constant (F := Ideal) S_ .f32 0x00000000#32) = o
  have e : cmpf .une (subf y o) (subf y o) (ix2 i l) = 0#1 := by
    show BitVec.ofBool (decide (_ ≠ _)) = _
    simp
  have sel : ∀ u v : FVec Ideal S16384x8 .f32, select (cmpf .une (subf y o) (subf y o)) u v (ix2 i l) = v (ix2 i l) := fun u v => by
    show Scalar.select (cmpf .une (subf y o) (subf y o) (ix2 i l)) _ _ = _
    rw [e]
    rfl
  show -(select (cmpf .une (subf y o) (subf y o)) _ _ (ix2 i l)) * perLn2 = _
  rw [sel]
  rfl

section
variable (x : FVec Ideal S16384x1024 .f32) (g : FVec Ideal S1x1024 .f32) (w : FVec Ideal S1x1024x5128 .f32) (b : FVec Ideal S1x8 .f32) (f0 : FVec Ideal S1x128 .f32)

/-- The running sums of both sequences, from the given ones. -/
def sumsOf (y : FVec Ideal S16384x8 .f32) : FVec Ideal S16384x8 .f32 :=
  shapeCast _ (addf (broadcastInDim S2x8192x8 ![0, 1, 2] bcast_S1x1x8_S2x8192x8_0_1_2 (broadcastInDim S1x1x8 ![1, 2] bcast_S1x8_S1x1x8_1_2 (extractStridedSlice S1x8 ![0, 0] f0 slices_S1x128_S1x8_0_0)))
    (Host.reduceWindowAdd ![1, 8192, 1] ![1, 1, 1] ![0, 8191, 0] ![0, 0, 0] (shapeCast _ y shapeCasts_S16384x8_S2x8192x8) (broadcastInDim S_ ![] bcast_S_S_ (constant S_ .f32 0x00000000#32))
      reduceWindows_S2x8192x8_S2x8192x8_w1s1p0_0_w8192s1p8191_0_w1s1p0_0 h_S_)) shapeCasts_S2x8192x8_S16384x8

def out5 : FVec Ideal S16384x8 .f32 := sumsOf f0 (softs (gateArg (joint x g w) b))

/-- The last eight rows of the products of each block of 512. -/
def out6 : FVec Ideal S256x512 .f32 :=
  shapeCast _ (extractStridedSlice S32x8x512 ![0, 504, 0] (shapeCast _ (prods (joint x g w)) shapeCasts_S16384x512_S32x512x512) slices_S32x512x512_S32x8x512_0_504_0) shapeCasts_S32x8x512_S256x512

theorem begin_apply (q : Fin 2) (s : Fin 8192) (l : Fin 8) :
    broadcastInDim S2x8192x8 ![0, 1, 2] bcast_S1x1x8_S2x8192x8_0_1_2 (broadcastInDim S1x1x8 ![1, 2] bcast_S1x8_S1x1x8_1_2 (extractStridedSlice S1x8 ![0, 0] f0 slices_S1x128_S1x8_0_0)) (ix3 q s l)
      = f0 (ix2 0 ⟨l.val, by omega⟩) := by
  pointwise

theorem fold8 (y : FVec Ideal S16384x8 .f32) (q : Fin 2) (s : Fin 8192) (l : Fin 8) :
    shapeCast S2x8192x8 y shapeCasts_S16384x8_S2x8192x8 (ix3 q s l) = y (ix2 ⟨8192 * q.val + s.val, by omega⟩ l) :=
  shapeCast_apply _ _ _ _ (by
    rw [Shape.rowMajor_val_three, Shape.rowMajor_val_two]
    show (8192 * q.val + s.val) * 8 + l.val = (q.val * 8192 + s.val) * 8 + l.val
    omega)

theorem unfold8 (y : FVec Ideal S2x8192x8 .f32) (i : Fin 16384) (l : Fin 8) :
    shapeCast S16384x8 y shapeCasts_S2x8192x8_S16384x8 (ix2 i l) = y (ix3 (⟨i.val / 8192, by omega⟩ : Fin 2) (⟨i.val % 8192, by omega⟩ : Fin 8192) l) :=
  shapeCast_apply _ _ _ _ (by
    rw [Shape.rowMajor_val_three, Shape.rowMajor_val_two]
    show (i.val / 8192 * 8192 + i.val % 8192) * 8 + l.val = i.val * 8 + l.val
    omega)

theorem zero_apply (u : S_.Idx) : (broadcastInDim S_ ![] bcast_S_S_ (constant (F := Ideal) S_ .f32 0x00000000#32)) u = 0 := zero_bits

theorem out5_apply (i : Fin 16384) (l : Fin 8) :
    out5 x g w b f0 (ix2 i l) = sumF (fun i k => x (ix2 i k)) (fun k => g (ix2 0 k)) (fun a n => w (ix3 0 a n)) (fun l => b (ix2 0 l))
      (fun l => f0 (ix2 0 ⟨l.val, by omega⟩)) i l := by
  have hi := i.isLt
  have hy : ∀ (i : Fin 16384) (l : Fin 8), softs (gateArg (joint x g w) b) (ix2 i l)
      = logF (fun i k => x (ix2 i k)) (fun k => g (ix2 0 k)) (fun a n => w (ix3 0 a n)) (fun l => b (ix2 0 l)) i l := fun i l => by
    refine (softs_apply _ i l _ (gateArg_apply _ _ i l)).trans ?_
    rw [joint_apply]
    rfl
  unfold out5 sumsOf sumF
  rw [unfold8]
  refine congrArg₂ (· + ·) (begin_apply f0 _ _ l) ((running _ _ zero_apply _ _ l).trans (Finset.sum_congr rfl fun s hs => ?_))
  have h8 : s < 8192 := by
    have h : s < i.val % 8192 + 1 := Finset.mem_range.mp hs
    omega
  unfold rowOr logS
  rw [dif_pos h8, fold8, hy, dif_pos (by omega)]

theorem tail_apply (y : FVec Ideal S16384x512 .f32) (n : Fin 256) (k : Fin 512) :
    shapeCast S256x512 (extractStridedSlice S32x8x512 ![0, 504, 0] (shapeCast S32x512x512 y shapeCasts_S16384x512_S32x512x512) slices_S32x512x512_S32x8x512_0_504_0) shapeCasts_S32x8x512_S256x512 (ix2 n k)
      = y (ix2 ⟨512 * (n.val / 8) + (504 + n.val % 8), by omega⟩ k) := by
  have hn := n.isLt
  refine (shapeCast_apply _ _ _ (ix3 (⟨n.val / 8, by omega⟩ : Fin 32) (⟨n.val % 8, by omega⟩ : Fin 8) k) (by
    rw [Shape.rowMajor_val_three, Shape.rowMajor_val_two]
    show (n.val / 8 * 8 + n.val % 8) * 512 + k.val = n.val * 512 + k.val
    omega)).trans ?_
  have e : ∀ v : FVec Ideal S32x512x512 .f32, extractStridedSlice S32x8x512 ![0, 504, 0] v slices_S32x512x512_S32x8x512_0_504_0
      (ix3 (⟨n.val / 8, by omega⟩ : Fin 32) (⟨n.val % 8, by omega⟩ : Fin 8) k) = v (ix3 ⟨n.val / 8, by omega⟩ ⟨504 + n.val % 8, by omega⟩ k) := fun v => by
    pointwise
  rw [e]
  exact shapeCast_apply _ _ _ _ (by
    rw [Shape.rowMajor_val_three, Shape.rowMajor_val_two]
    show (512 * (n.val / 8) + (504 + n.val % 8)) * 512 + k.val = (n.val / 8 * 512 + (504 + n.val % 8)) * 512 + k.val
    omega)

theorem out6_apply (n : Fin 256) (k : Fin 512) :
    out6 x g w (ix2 n k) = prod (fun i k => x (ix2 i k)) (fun k => g (ix2 0 k)) (fun a n => w (ix3 0 a n)) ⟨512 * (n.val / 8) + (504 + n.val % 8), by omega⟩ k := by
  unfold out6
  rw [tail_apply, prods_joint]

end

variable (m : (ℓ : Loc nD τ sig) → Buf (Elt Ideal) ℓ) (c : Dev nD)

theorem res_out5_eq : res_main_v71 (F := Ideal) (StableHlo.launchContents m c)
    = out5 (m ((c.tc : Thread nD τ).loc main_arg0)) (m ((c.tc : Thread nD τ).loc main_arg5)) (m ((c.tc : Thread nD τ).loc main_arg1))
        (m ((c.tc : Thread nD τ).loc main_arg2)) (m ((c.tc : Thread nD τ).loc main_arg7)) := rfl

end Cert.Reference3Ideal.Value

end
-- ==== Proof.Mixin.Reference3Side.lean ====
/- What the third reference returns of the lanes beside the queries, keys and values. -/
module

public import proofs.«01_k».proof.Proof.Mixin.SidePlain
public import proofs.«01_k».proof.Proof.Mixin.Reference3Sums

@[expose] public section

set_option maxRecDepth 16384

noncomputable section

namespace Cert.Reference3Ideal.Value

open Cert.Reference3Ideal Cert.Reference3Ideal.Gen Idealize.ShloMosaic Idealize.ShloMosaic.TcCoe
open Cert.Layer
open scoped BigOperators

/-! ## The parts of the sums, spread -/

section
variable (f : FVec Ideal S16384x8 .f32)

def firstPart : FVec Ideal S16384x8 .f32 := extf .f32 (truncf .bf16 f bitsLt_bf16_f32) bitsLt_bf16_f32
def secondPart : FVec Ideal S16384x8 .f32 := extf .f32 (truncf .bf16 (subf f (firstPart f)) bitsLt_bf16_f32) bitsLt_bf16_f32
def thirdPart : FVec Ideal S16384x8 .f32 := extf .f32 (truncf .bf16 (subf (subf f (firstPart f)) (secondPart f)) bitsLt_bf16_f32) bitsLt_bf16_f32

/-- The parts times the keys' weights. -/
def spreadK (k : FVec Ideal S128x512 .bf16) : FVec Ideal S16384x512 .f32 :=
  addf (addf (Host.dotGeneral dot_S16384x8_S8x512_S16384x512_1_0_0_1_n_n none (firstPart f) (extractStridedSlice S8x512 ![0, 0] (extf .f32 k bitsLt_bf16_f32) slices_S128x512_S8x512_0_0))
    (Host.dotGeneral dot_S16384x8_S8x512_S16384x512_1_0_0_1_n_n none (secondPart f) (extractStridedSlice S8x512 ![8, 0] (extf .f32 k bitsLt_bf16_f32) slices_S128x512_S8x512_8_0)))
    (Host.dotGeneral dot_S16384x8_S8x512_S16384x512_1_0_0_1_n_n none (thirdPart f) (extractStridedSlice S8x512 ![16, 0] (extf .f32 k bitsLt_bf16_f32) slices_S128x512_S8x512_16_0))

/-- The parts times the queries' weights. -/
def spreadQ (q : FVec Ideal S128x1024 .bf16) : FVec Ideal S16384x1024 .f32 :=
  addf (addf (Host.dotGeneral dot_S16384x8_S8x1024_S16384x1024_1_0_0_1_n_n none (firstPart f) (extractStridedSlice S8x1024 ![0, 0] (extf .f32 q bitsLt_bf16_f32) slices_S128x1024_S8x1024_0_0))
    (Host.dotGeneral dot_S16384x8_S8x1024_S16384x1024_1_0_0_1_n_n none (secondPart f) (extractStridedSlice S8x1024 ![8, 0] (extf .f32 q bitsLt_bf16_f32) slices_S128x1024_S8x1024_8_0)))
    (Host.dotGeneral dot_S16384x8_S8x1024_S16384x1024_1_0_0_1_n_n none (thirdPart f) (extractStridedSlice S8x1024 ![16, 0] (extf .f32 q bitsLt_bf16_f32) slices_S128x1024_S8x1024_16_0))

theorem spreadK_apply (k : FVec Ideal S128x512 .bf16) (i : Fin 16384) (n : Fin 512) :
    spreadK f k (ix2 i n) = spread (fun l => f (ix2 i l)) (fun a => k (ix2 a n)) := by
  unfold spread
  pointwise [spreadK, firstPart, secondPart, thirdPart]

theorem spreadQ_apply (q : FVec Ideal S128x1024 .bf16) (i : Fin 16384) (n : Fin 1024) :
    spreadQ f q (ix2 i n) = spread (fun l => f (ix2 i l)) (fun a => q (ix2 a n)) := by
  unfold spread
  pointwise [spreadQ, firstPart, secondPart, thirdPart]

/-! ## The lanes where a one stands -/

theorem choose_one (p : Prop) [Decidable p] (x y : EReal) : Scalar.select (if p then 1#1 else 0#1) x y = if p then x else y := by
  by_cases h : p
  · rw [if_pos h, if_pos h]; rfl
  · rw [if_neg h, if_neg h]; rfl

theorem lane_bit : ∀ l : Fin 128, IntOp.cmpi .slt (BitVec.ofNat 32 l.val) 3#32 = if l.val < 3 then 1#1 else 0#1 := by decide +kernel

theorem half_bit : ∀ l : Fin 128, IntOp.cmpi .eq (IntOp.andi (BitVec.ofNat 32 l.val) 63#32) 0#32 = if l.val % 64 = 0 then 1#1 else 0#1 := by decide +kernel

theorem head_bit : ∀ (h : Fin 8) (l : Fin 128),
    IntOp.andi (IntOp.cmpi .sge (BitVec.ofNat 32 l.val) (IntOp.addi 3#32 (IntOp.muli 3#32 (IntOp.andi (BitVec.ofNat 32 h.val) 1#32))))
      (IntOp.cmpi .slt (BitVec.ofNat 32 l.val) (IntOp.addi (IntOp.addi 3#32 (IntOp.muli 3#32 (IntOp.andi (BitVec.ofNat 32 h.val) 1#32))) 3#32))
      = if 3 + 3 * (h.val % 2) ≤ l.val ∧ l.val < 3 + 3 * (h.val % 2) + 3 then 1#1 else 0#1 := by decide +kernel

theorem fold4 (x : FVec Ideal S16384x512 .f32) (i : Fin 16384) (h : Fin 4) (l : Fin 128) :
    shapeCast S16384x4x128 x shapeCasts_S16384x512_S16384x4x128 (ix3 i h l) = x (ix2 i ⟨128 * h.val + l.val, by omega⟩) :=
  shapeCast_apply _ _ _ _ (by
    rw [Shape.rowMajor_val_three, Shape.rowMajor_val_two]
    show i.val * 512 + (128 * h.val + l.val) = (i.val * 4 + h.val) * 128 + l.val
    omega)

theorem foldHeads (x : FVec Ideal S16384x1024 .f32) (i : Fin 16384) (h : Fin 8) (l : Fin 128) :
    shapeCast S16384x8x128 x shapeCasts_S16384x1024_S16384x8x128 (ix3 i h l) = x (ix2 i ⟨128 * h.val + l.val, by omega⟩) :=
  shapeCast_apply _ _ _ _ (by
    rw [Shape.rowMajor_val_three, Shape.rowMajor_val_two]
    show i.val * 1024 + (128 * h.val + l.val) = (i.val * 8 + h.val) * 128 + l.val
    omega)

/-- The first lane of ones of a head. -/
def firstOne : IVec S8x1 32 :=
  addi (broadcastInDim S8x1 ![] bcast_S_S8x1 (constantI S_ 32 3#32)) (muli (broadcastInDim S8x1 ![] bcast_S_S8x1 (constantI S_ 32 3#32))
    (andi (broadcastInDim S8x1 ![0] bcast_S8_S8x1_0 (iotaInDim S8 32 0)) (broadcastInDim S8x1 ![] bcast_S_S8x1 (constantI S_ 32 1#32))))

/-- Ones in the first three lanes of each head, the given sums in the others. -/
def besideK (y : FVec Ideal S16384x4x128 .f32) : FVec Ideal S16384x4x128 .bf16 :=
  truncf .bf16 (select (broadcastInDim S16384x4x128 ![2] bcast_S128_S16384x4x128_2 (cmpi .slt (iotaInDim S128 32 0) (broadcastInDim S128 ![] bcast_S_S128 (constantI S_ 32 3#32))))
    (broadcastInDim S16384x4x128 ![] bcast_S_S16384x4x128 (id (constant S_ .f32 0x3F800000#32))) y) bitsLt_bf16_f32

/-- Ones in three lanes of each head, the given sums in the others. -/
def besideQ (y : FVec Ideal S16384x8x128 .f32) : FVec Ideal S16384x8x128 .bf16 :=
  truncf .bf16 (select (broadcastInDim S16384x8x128 ![1, 2] bcast_S8x128_S16384x8x128_1_2 (andi
      (cmpi .sge (broadcastInDim S8x128 ![0, 1] bcast_S1x128_S8x128_0_1 (broadcastInDim S1x128 ![1] bcast_S128_S1x128_1 (iotaInDim S128 32 0))) (broadcastInDim S8x128 ![0, 1] bcast_S8x1_S8x128_0_1 firstOne))
      (cmpi .slt (broadcastInDim S8x128 ![0, 1] bcast_S1x128_S8x128_0_1 (broadcastInDim S1x128 ![1] bcast_S128_S1x128_1 (iotaInDim S128 32 0)))
        (broadcastInDim S8x128 ![0, 1] bcast_S8x1_S8x128_0_1 (addi firstOne (broadcastInDim S8x1 ![] bcast_S_S8x1 (constantI S_ 32 3#32)))))))
    (broadcastInDim S16384x8x128 ![] bcast_S_S16384x8x128 (id (constant S_ .f32 0x3F800000#32))) y) bitsLt_bf16_f32

theorem besideK_apply (y : FVec Ideal S16384x4x128 .f32) (i : Fin 16384) (h : Fin 4) (l : Fin 128) :
    besideK y (ix3 i h l) = if l.val < 3 then 1 else y (ix3 i h l) := by
  rw [← choose_one, ← lane_bit]
  pointwise [besideK, id]

theorem besideQ_apply (y : FVec Ideal S16384x8x128 .f32) (i : Fin 16384) (h : Fin 8) (l : Fin 128) :
    besideQ y (ix3 i h l) = if 3 + 3 * (h.val % 2) ≤ l.val ∧ l.val < 3 + 3 * (h.val % 2) + 3 then 1 else y (ix3 i h l) := by
  rw [← choose_one, ← head_bit]
  pointwise [besideQ, firstOne, id]

end

/-! ## The results -/

section
variable (x : FVec Ideal S16384x1024 .f32) (g : FVec Ideal S1x1024 .f32) (w : FVec Ideal S1x1024x5128 .f32) (b : FVec Ideal S1x8 .f32) (f0 : FVec Ideal S1x128 .f32)

def out7 (k : FVec Ideal S128x512 .bf16) : FVec Ideal S16384x4x128 .bf16 :=
  besideK (shapeCast _ (spreadK (out5 x g w b f0) k) shapeCasts_S16384x512_S16384x4x128)

def out8 (q : FVec Ideal S128x1024 .bf16) : FVec Ideal S16384x8x128 .bf16 :=
  besideQ (shapeCast _ (spreadQ (out5 x g w b f0) q) shapeCasts_S16384x1024_S16384x8x128)

/-- Ones in the first lane of each half of a pair of heads. -/
def out9 : FVec Ideal S16384x4x128 .bf16 :=
  truncf .bf16 (broadcastInDim S16384x4x128 ![2] bcast_S128_S16384x4x128_2 (select
    (cmpi .eq (andi (iotaInDim S128 32 0) (broadcastInDim S128 ![] bcast_S_S128 (constantI S_ 32 63#32))) (broadcastInDim S128 ![] bcast_S_S128 (constantI S_ 32 0#32)))
    (broadcastInDim S128 ![] bcast_S_S128 (constant S_ .f32 0x3F800000#32)) (broadcastInDim S128 ![] bcast_S_S128 (constant S_ .f32 0x00000000#32)))) bitsLt_bf16_f32

def out10 : FVec Ideal S16384x512 .bf16 := broadcastInDim S16384x512 ![] bcast_S_S16384x512 (constant S_ .bf16 0x0000#16)

theorem out7_apply (k : FVec Ideal S128x512 .bf16) (i : Fin 16384) (h : Fin 4) (l : Fin 128) :
    out7 x g w b f0 k (ix3 i h l) = keySide (sumF (fun i k => x (ix2 i k)) (fun k => g (ix2 0 k)) (fun a n => w (ix3 0 a n)) (fun l => b (ix2 0 l))
      (fun l => f0 (ix2 0 ⟨l.val, by omega⟩)) i) (fun a n => k (ix2 a n)) ⟨128 * h.val + l.val, by omega⟩ := by
  unfold out7 keySide
  rw [besideK_apply, fold4, spreadK_apply]
  simp only [out5_apply]
  have e : (128 * h.val + l.val) % 128 = l.val := by omega
  simp only [e]

theorem out8_apply (q : FVec Ideal S128x1024 .bf16) (i : Fin 16384) (h : Fin 8) (l : Fin 128) :
    out8 x g w b f0 q (ix3 i h l) = querySide (sumF (fun i k => x (ix2 i k)) (fun k => g (ix2 0 k)) (fun a n => w (ix3 0 a n)) (fun l => b (ix2 0 l))
      (fun l => f0 (ix2 0 ⟨l.val, by omega⟩)) i) (fun a n => q (ix2 a n)) ⟨128 * h.val + l.val, by omega⟩ := by
  unfold out8 querySide
  rw [besideQ_apply, foldHeads, spreadQ_apply]
  simp only [out5_apply]
  have e : (128 * h.val + l.val) % 128 = l.val := by omega
  have e' : (128 * h.val + l.val) / 128 = h.val := by omega
  simp only [e, e']

theorem out9_apply (i : Fin 16384) (h : Fin 4) (l : Fin 128) : out9 (ix3 i h l) = valueSide l := by
  unfold valueSide
  rw [← choose_one, ← half_bit]
  pointwise [out9]

theorem out10_apply (i : Fin 16384) (n : Fin 512) : out10 (ix2 i n) = Ideal.ofBits .bf16 0x0000#16 := rfl

end

variable (m : (ℓ : Loc nD τ sig) → Buf (Elt Ideal) ℓ) (c : Dev nD)

end Cert.Reference3Ideal.Value

end
-- ==== Proof.Mixin.Sums.lean ====
/- The third call's running sums: the logarithms of the forget gates split into three parts, summed by a triangle of ones, and put together again. -/
module

public import proofs.«01_k».proof.Proof.Mixin.Carry
public import proofs.«01_k».proof.Proof.Mixin.GatePlain

@[expose] public section

set_option maxRecDepth 16384

noncomputable section

namespace Cert.Kernel3Ideal.Mixin

open Cert.Kernel3Ideal Cert.Kernel3Ideal.Gen Idealize.ShloMosaic Idealize.ShloMosaic.TcCoe Idealize.ShloMosaic.Tactic
open Cert.Layer Cert.KernelIdeal.Ffn
open scoped BigOperators

theorem gate_log (x : Vec Ideal S512x1024 .f32) (g : Vec Ideal S1x1024 .f32) (w : Vec Ideal S128x1024 .bf16) (b : Vec Ideal S1x128 .f32) (r : Fin 512) (l : Fin 128) :
    k0_pay6 x g w b (ix2 r l) = logGate (dot (fun i => k0_pay4 x g (ix2 r i)) (fun i => w (ix2 l i)) + b (ix2 0 l)) := by
  pointwise [k0_pay6, dot, logGate, perLn2]
  rfl

theorem tri_one : ∀ r s : Fin 128, (BitVec.setWidth 32 (IntOp.cmpi .sge (BitVec.ofNat 32 r.val) (BitVec.ofNat 32 s.val))).toInt = if s.val ≤ r.val then 1 else 0 := by
  decide +kernel

theorem lane_in : ∀ l : Fin 128, l.val < 8 → IntOp.cmpi .slt (BitVec.ofNat 32 l.val) 8#32 = 1#1 := by decide

theorem lane_out : ∀ l : Fin 128, ¬l.val < 8 → IntOp.cmpi .slt (BitVec.ofNat 32 l.val) 8#32 = 0#1 := by decide

/-- One term of the triangle's sum: the three parts side by side in the lanes. -/
def packed (x : FVec Ideal S128x128 .f32) (s l : Fin 128) : EReal :=
  x (ix2 s l) + (x (ix2 s ⟨(l.val + 128 - 8) % 128, Nat.mod_lt _ (by omega)⟩) - x (ix2 s ⟨(l.val + 128 - 8) % 128, Nat.mod_lt _ (by omega)⟩)) +
    (x (ix2 s ⟨(l.val + 128 - 16) % 128, Nat.mod_lt _ (by omega)⟩) - x (ix2 s ⟨(l.val + 128 - 16) % 128, Nat.mod_lt _ (by omega)⟩) -
      (x (ix2 s ⟨(l.val + 128 - 16) % 128, Nat.mod_lt _ (by omega)⟩) - x (ix2 s ⟨(l.val + 128 - 16) % 128, Nat.mod_lt _ (by omega)⟩)))

theorem tri_sum (x : FVec Ideal S128x128 .f32) (r l : Fin 128) :
    k0_pay27 (k0_pay24 (F := Ideal)) x (ix2 r l) = ∑ s : Fin 128, if s.val ≤ r.val then packed x s l else 0 := by
  have e : k0_pay27 (k0_pay24 (F := Ideal)) x (ix2 r l) = ∑ s : Fin 128,
      ((((BitVec.setWidth 32 (IntOp.cmpi .sge (BitVec.ofNat 32 r.val) (BitVec.ofNat 32 s.val))).toInt : ℝ) : EReal)) * packed x s l := by
    pointwise [k0_pay27, k0_pay24, packed]
    rfl
  rw [e]
  refine Finset.sum_congr rfl fun s _ => ?_
  rw [tri_one]
  by_cases h : s.val ≤ r.val
  · rw [if_pos h, if_pos h]; norm_num
  · rw [if_neg h, if_neg h]; norm_num

theorem back_sum (c : FVec Ideal S128x128 .f32) (b : Vec Ideal S1x128 .f32) (r l : Fin 128) (hl : l.val < 8) :
    k0_pay41 k0_pay5 c b (ix2 r l) = c (ix2 r l) + c (ix2 r ⟨l.val + 8, by omega⟩) + c (ix2 r ⟨l.val + 16, by omega⟩) + b (ix2 0 l) := by
  have e : k0_pay41 k0_pay5 c b (ix2 r l) = Scalar.select (IntOp.cmpi .slt (BitVec.ofNat 32 l.val) 8#32)
        (c (ix2 r l) + c (ix2 r ⟨(l.val + 128 - 120) % 128, Nat.mod_lt _ (by omega)⟩) + c (ix2 r ⟨(l.val + 128 - 112) % 128, Nat.mod_lt _ (by omega)⟩)) 0 +
      b (ix2 0 l) := by
    pointwise [k0_pay41, k0_pay5]
  have e1 : (⟨(l.val + 128 - 120) % 128, Nat.mod_lt _ (by omega)⟩ : Fin 128) = ⟨l.val + 8, by omega⟩ := Fin.ext (by show (l.val + 128 - 120) % 128 = l.val + 8; omega)
  have e2 : (⟨(l.val + 128 - 112) % 128, Nat.mod_lt _ (by omega)⟩ : Fin 128) = ⟨l.val + 16, by omega⟩ := Fin.ext (by show (l.val + 128 - 112) % 128 = l.val + 16; omega)
  rw [e, lane_in l hl, e1, e2]
  rfl

/-- The three parts' sums put together: the sum of the entries themselves. -/
theorem joined (x : FVec Ideal S128x128 .f32) (b : Vec Ideal S1x128 .f32) (r l : Fin 128) (hl : l.val < 8) (y : ℕ → EReal)
    (hx : ∀ s : Fin 128, x (ix2 s l) = y s.val) (hy : ∀ s, y s ≠ ⊤) (h0 : ∀ (s n : Fin 128), 8 ≤ n.val → x (ix2 s n) = 0) :
    k0_pay41 k0_pay5 (k0_pay27 (k0_pay24 (F := Ideal)) x) b (ix2 r l) = (∑ s ∈ Finset.range (r.val + 1), y s) + b (ix2 0 l) := by
  rw [back_sum _ _ _ _ hl, tri_sum, tri_sum, tri_sum, ← Finset.sum_add_distrib, ← Finset.sum_add_distrib]
  congr 1
  have e : ∀ s : Fin 128, packed x s l + packed x s ⟨l.val + 8, by omega⟩ + packed x s ⟨l.val + 16, by omega⟩ = y s.val := by
    intro s
    have a8 : (⟨(l.val + 8 + 128 - 8) % 128, Nat.mod_lt _ (by omega)⟩ : Fin 128) = l := Fin.ext (by show (l.val + 8 + 128 - 8) % 128 = l.val; omega)
    have a16 : (⟨(l.val + 16 + 128 - 16) % 128, Nat.mod_lt _ (by omega)⟩ : Fin 128) = l := Fin.ext (by show (l.val + 16 + 128 - 16) % 128 = l.val; omega)
    unfold packed
    simp only [a8, a16]
    rw [h0 s ⟨(l.val + 128 - 8) % 128, _⟩ (by show 8 ≤ (l.val + 128 - 8) % 128; omega), h0 s ⟨(l.val + 128 - 16) % 128, _⟩ (by show 8 ≤ (l.val + 128 - 16) % 128; omega),
      h0 s ⟨l.val + 8, _⟩ (by show 8 ≤ l.val + 8; omega), h0 s ⟨l.val + 16, _⟩ (by show 8 ≤ l.val + 16; omega),
      h0 s ⟨(l.val + 8 + 128 - 16) % 128, _⟩ (by show 8 ≤ (l.val + 8 + 128 - 16) % 128; omega), h0 s ⟨(l.val + 16 + 128 - 8) % 128, _⟩ (by show 8 ≤ (l.val + 16 + 128 - 8) % 128; omega), hx s]
    simp only [sub_zero, add_zero, zero_add]
    exact parts_sum _ (hy _)
  rw [show (∑ s ∈ Finset.range (r.val + 1), y s) = ∑ s ∈ Finset.range 128, if s ≤ r.val then y s else 0 by
    rw [← Finset.sum_filter]
    refine Finset.sum_congr (Finset.ext fun s => ?_) fun _ _ => rfl
    have := r.isLt
    rw [Finset.mem_range, Finset.mem_filter, Finset.mem_range]
    omega, Finset.sum_range]
  refine Finset.sum_congr rfl fun s _ => ?_
  by_cases h : s.val ≤ r.val
  · rw [if_pos h, if_pos h, if_pos h, if_pos h]; exact e s
  · rw [if_neg h, if_neg h, if_neg h, if_neg h, add_zero, add_zero]

theorem first_sum (v : FVec Ideal S512x128 .f32) : k0_pay25 k0_pay5 v = k0_pay27 (k0_pay24 (F := Ideal)) (select k0_pay5 (extractStridedSlice S128x128 ![0, 0] v slices_S512x128_o0_0_S128x128) (broadcast S128x128 (Scalar.ofBits .f32 0x00000000#32))) := rfl

theorem third_sum (v : FVec Ideal S512x128 .f32) : k0_pay28 k0_pay5 v (k0_pay24 (F := Ideal)) = k0_pay27 (k0_pay24 (F := Ideal)) (select k0_pay5 (extractStridedSlice S128x128 ![256, 0] v slices_S512x128_o256_0_S128x128) (broadcast S128x128 (Scalar.ofBits .f32 0x00000000#32))) := rfl

theorem fourth_sum (v : FVec Ideal S512x128 .f32) : k0_pay35 (k0_pay24 (F := Ideal)) (k0_pay33 k0_pay5 v) (k0_pay34 k0_pay5 v) 16#32 = k0_pay27 (k0_pay24 (F := Ideal)) (select k0_pay5 (extractStridedSlice S128x128 ![384, 0] v slices_S512x128_o384_0_S128x128) (broadcast S128x128 (Scalar.ofBits .f32 0x00000000#32))) := rfl

theorem slot (v : FVec Ideal S512x128 .f32) (o : ℕ) (h : S512x128.Slices ![o, 0] S128x128) (s l : Fin 128) (ho : o + 128 ≤ 512) :
    select k0_pay5 (extractStridedSlice S128x128 ![o, 0] v h) (broadcast S128x128 (Scalar.ofBits .f32 0x00000000#32 : Ideal .f32)) (ix2 s l) = if l.val < 8 then v (ix2 ⟨o + s.val, by omega⟩ l) else 0 := by
  have e : select k0_pay5 (extractStridedSlice S128x128 ![o, 0] v h) (broadcast S128x128 (Scalar.ofBits .f32 0x00000000#32 : Ideal .f32)) (ix2 s l)
      = Scalar.select (IntOp.cmpi .slt (BitVec.ofNat 32 l.val) 8#32) (v (ix2 ⟨o + s.val, by omega⟩ l)) 0 := by
    pointwise [k0_pay5]
  rw [e]
  by_cases hl : l.val < 8
  · rw [if_pos hl, lane_in l hl]; rfl
  · rw [if_neg hl, lane_out l hl]; rfl

theorem step2 (v : IVec S128x128 1) (c : FVec Ideal S128x128 .f32) (b : Vec Ideal S1x128 .f32)  : k0_pay48 v c b = k0_pay41 v c b := rfl
theorem step3 (v : IVec S128x128 1) (c : FVec Ideal S128x128 .f32) (b : Vec Ideal S1x128 .f32)  : k0_pay54 v b (k0_pay52 c) (k0_pay53 (F := Ideal)) = k0_pay41 v c b := rfl
theorem step4 (v : IVec S128x128 1) (d c : FVec Ideal S128x128 .f32) (b : Vec Ideal S1x128 .f32)  : k0_pay57 v d b (k0_pay52 c) (k0_pay53 (F := Ideal)) = k0_pay41 v d (k0_pay42 v c b) := rfl

end Cert.Kernel3Ideal.Mixin

end
-- ==== Proof.Mixin.SumRows.lean ====
/- The third call's block of running sums at one grid point, from the sum the point before left. -/
module

public import proofs.«01_k».proof.Proof.Mixin.Sums

@[expose] public section

set_option maxRecDepth 16384

noncomputable section

namespace Cert.Kernel3Ideal.Mixin

open Cert.Kernel3Ideal Cert.Kernel3Ideal.Gen Idealize.ShloMosaic Idealize.ShloMosaic.TcCoe Idealize.ShloMosaic.Tactic
open Cert.Layer Cert.KernelIdeal.Ffn
open scoped BigOperators

/-! ## The four steps of one block -/

section
variable (v : FVec Ideal S512x128 .f32) (b : Vec Ideal S1x128 .f32)

theorem cut1 (w : IVec S128x128 1) (x : FVec Ideal S128x128 .f32) (r : Fin 128) (l : Fin 8) : k0_pay43 w x b (ix2 r l) = k0_pay41 w x b (ix2 r ⟨l.val, by omega⟩) := by
  unfold k0_pay43
  generalize k0_pay41 w x b = q
  pointwise

theorem end1 (w : IVec S128x128 1) (x : FVec Ideal S128x128 .f32) (l : Fin 128) : k0_pay42 w x b (ix2 0 l) = k0_pay41 w x b (ix2 ⟨127, by omega⟩ l) := by
  unfold k0_pay42
  generalize k0_pay41 w x b = q
  pointwise

theorem end_copy (d : FVec Ideal S1x128 .f32) (l : Fin 128) : k0_pay68 d (ix2 0 l) = d (ix2 0 l) := by
  pointwise [k0_pay68]

theorem start_copy (l : Fin 128) : k0_pay3 b (ix2 0 l) = b (ix2 0 l) := by
  pointwise [k0_pay3]

/-- The part of 128 rows of the gates' logarithms. -/
def part (o : ℕ) (h : S512x128.Slices ![o, 0] S128x128) : FVec Ideal S128x128 .f32 :=
  select k0_pay5 (extractStridedSlice S128x128 ![o, 0] v h) (broadcast S128x128 (Scalar.ofBits .f32 0x00000000#32))

variable (l : Fin 128) (hl : l.val < 8) (y : ℕ → EReal) (hv : ∀ s : Fin 512, v (ix2 s l) = y s.val) (hy : ∀ s, y s ≠ ⊤)
include hl hv hy

theorem part_step (o : ℕ) (h : S512x128.Slices ![o, 0] S128x128) (ho : o + 128 ≤ 512) (z : EReal) (d : Vec Ideal S1x128 .f32)
    (hd : d (ix2 0 l) = (∑ s ∈ Finset.range o, y s) + z) (r : Fin 128) :
    k0_pay41 k0_pay5 (k0_pay27 (k0_pay24 (F := Ideal)) (part v o h)) d (ix2 r l) = (∑ s ∈ Finset.range (o + r.val + 1), y s) + z := by
  rw [joined (part v o h) d r l hl (fun s => y (o + s)) (fun s => by
      unfold part
      rw [slot v o h s l ho, if_pos hl, hv]) (fun s => hy _) (fun s n hn => by
      unfold part
      rw [slot v o h s n ho, if_neg (by omega)]), hd, add_assoc o, Finset.sum_range_add y o (r.val + 1), ← add_assoc, add_comm (∑ s ∈ Finset.range (r.val + 1), y (o + s))]

theorem row0 (r : Fin 128) : k0_pay41 k0_pay5 (k0_pay25 k0_pay5 v) b (ix2 r l) = (∑ s ∈ Finset.range (0 + r.val + 1), y s) + b (ix2 0 l) :=
  part_step v l hl y hv hy 0 slices_S512x128_o0_0_S128x128 (by omega) _ b (by rw [Finset.range_zero, Finset.sum_empty, zero_add]) r

/-- The sums after the first part's rows. -/
theorem mid1 : k0_pay42 k0_pay5 (k0_pay25 k0_pay5 v) b (ix2 0 l) = (∑ s ∈ Finset.range 128, y s) + b (ix2 0 l) := by
  exact (end1 _ _ _ _).trans (row0 v b l hl y hv hy _)

theorem row1 (r : Fin 128) : k0_pay41 k0_pay5 (k0_pay27 (k0_pay24 (F := Ideal)) (k0_pay26 k0_pay5 v)) (k0_pay42 k0_pay5 (k0_pay25 k0_pay5 v) b) (ix2 r l)
    = (∑ s ∈ Finset.range (128 + r.val + 1), y s) + b (ix2 0 l) :=
  part_step v l hl y hv hy 128 slices_S512x128_o128_0_S128x128 (by omega) _ _ (mid1 v b l hl y hv hy) r

theorem mid2 : k0_pay49 k0_pay5 (k0_pay27 (k0_pay24 (F := Ideal)) (k0_pay26 k0_pay5 v)) (k0_pay42 k0_pay5 (k0_pay25 k0_pay5 v) b) (ix2 0 l)
    = (∑ s ∈ Finset.range 256, y s) + b (ix2 0 l) :=
  (end1 _ _ _ _).trans (row1 v b l hl y hv hy _)

theorem row2 (r : Fin 128) : k0_pay54 k0_pay5 (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal)) (ix2 r l)
    = (∑ s ∈ Finset.range (256 + r.val + 1), y s) + b (ix2 0 l) :=
  part_step v l hl y hv hy 256 slices_S512x128_o256_0_S128x128 (by omega) _ _ (mid2 v b l hl y hv hy) r

theorem mid3 : k0_pay42 k0_pay5 (k0_pay28 k0_pay5 v (k0_pay24 (F := Ideal))) (k0_pay49 k0_pay5 (k0_pay27 (k0_pay24 (F := Ideal)) (k0_pay26 k0_pay5 v)) (k0_pay42 k0_pay5 (k0_pay25 k0_pay5 v) b)) (ix2 0 l)
    = (∑ s ∈ Finset.range 384, y s) + b (ix2 0 l) :=
  (end1 _ _ _ _).trans (row2 v b l hl y hv hy _)

theorem row3 (r : Fin 128) : k0_pay57 k0_pay5 (k0_pay35 (k0_pay24 (F := Ideal)) (k0_pay33 k0_pay5 v) (k0_pay34 k0_pay5 v) 16#32)
      (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal)) (ix2 r l)
    = (∑ s ∈ Finset.range (384 + r.val + 1), y s) + b (ix2 0 l) :=
  part_step v l hl y hv hy 384 slices_S512x128_o384_0_S128x128 (by omega) _ _ (mid3 v b l hl y hv hy) r

/-- The sums after the block. -/
theorem mid4 : k0_pay68 (k0_pay58 k0_pay5 (k0_pay35 (k0_pay24 (F := Ideal)) (k0_pay33 k0_pay5 v) (k0_pay34 k0_pay5 v) 16#32)
      (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))) (ix2 0 l)
    = (∑ s ∈ Finset.range 512, y s) + b (ix2 0 l) :=
  (end_copy _ _).trans ((end1 _ _ _ _).trans (row3 v b l hl y hv hy _))

end

/-! ## The block's stores -/

section
variable (v : FVec Ideal S512x128 .f32) (b : Vec Ideal S1x128 .f32)

/-- The sums as stored, 128 rows at a time. -/
def stores : List (View.Piece (Elt Ideal) S512x8 .f32) :=
  [⟨Rect.unit (s := S512x8) ![384, 0] S128x8.size inb_S512x8_S128x8_384_0,
      k0_pay59 k0_pay5 (k0_pay35 (k0_pay24 (F := Ideal)) (k0_pay33 k0_pay5 v) (k0_pay34 k0_pay5 v) 16#32)
        (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))⟩,
    ⟨Rect.unit (s := S512x8) ![256, 0] S128x8.size inb_S512x8_S128x8_256_0,
      k0_pay55 k0_pay5 (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))⟩,
    ⟨Rect.unit (s := S512x8) ![128, 0] S128x8.size inb_S512x8_S128x8_128_0,
      k0_pay50 k0_pay5 (k0_pay27 (k0_pay24 (F := Ideal)) (k0_pay26 k0_pay5 v)) (k0_pay42 k0_pay5 (k0_pay25 k0_pay5 v) b)⟩,
    ⟨Rect.unit (s := S512x8) ![0, 0] S128x8.size inb_S512x8_S128x8_0_0, k0_pay43 k0_pay5 (k0_pay25 k0_pay5 v) b⟩]

theorem stores_sum (r : Fin 512) (l : Fin 8) (y : ℕ → EReal) (hv : ∀ s : Fin 512, v (ix2 s (⟨l.val, by omega⟩ : Fin 128)) = y s.val) (hy : ∀ s, y s ≠ ⊤) :
    View.canon (stores v b) (ix2 r l) = (∑ s ∈ Finset.range (r.val + 1), y s) + b (ix2 0 ⟨l.val, by omega⟩) := by
  have hr : r.val < 512 := r.isLt
  have hl : (⟨l.val, by omega⟩ : Fin 128).val < 8 := l.isLt
  unfold stores
  by_cases h3 : 384 ≤ r.val
  · refine (stored_rows 384 _ _ _ r ⟨r.val - 384, by omega⟩ l (by show r.val = 384 + (r.val - 384); omega)).trans ?_
    refine ((cut1 _ _ _ _ _).trans (row3 v b _ hl y hv hy _)).trans ?_
    rw [show 384 + (r.val - 384) + 1 = r.val + 1 by omega]
  refine (other_rows 384 _ _ _ r l (Or.inl (by omega))).trans ?_
  by_cases h2 : 256 ≤ r.val
  · refine (stored_rows 256 _ _ _ r ⟨r.val - 256, by omega⟩ l (by show r.val = 256 + (r.val - 256); omega)).trans ?_
    refine ((cut1 _ _ _ _ _).trans (row2 v b _ hl y hv hy _)).trans ?_
    rw [show 256 + (r.val - 256) + 1 = r.val + 1 by omega]
  refine (other_rows 256 _ _ _ r l (Or.inl (by omega))).trans ?_
  by_cases h1 : 128 ≤ r.val
  · refine (stored_rows 128 _ _ _ r ⟨r.val - 128, by omega⟩ l (by show r.val = 128 + (r.val - 128); omega)).trans ?_
    refine ((cut1 _ _ _ _ _).trans (row1 v b _ hl y hv hy _)).trans ?_
    rw [show 128 + (r.val - 128) + 1 = r.val + 1 by omega]
  refine (other_rows 128 _ _ _ r l (Or.inl (by omega))).trans ?_
  refine (stored_rows 0 _ _ _ r ⟨r.val, by omega⟩ l (by show r.val = 0 + r.val; omega)).trans ?_
  refine ((cut1 _ _ _ _ _).trans (row0 v b _ hl y hv hy _)).trans ?_
  rw [show 0 + r.val + 1 = r.val + 1 by omega]

end

/-! ## At one grid point -/

variable (m : (ℓ : Loc nD τ sig) → Buf (Elt Ideal) ℓ) (c : Dev nD)

/-- The logarithm of one gate of a block's row. -/
def gateRow (t : Fin cfg0.N) (r : Fin 512) (l : Fin 128) : EReal :=
  logGate (dot (unitRow m c t r) (fun i => iblk m c 4 t (ix2 l i)) + iblk m c 5 t (ix2 0 l))

/-- The same by the row's number. -/
def gateAt (t : Fin cfg0.N) (l : Fin 128) (s : ℕ) : EReal := if h : s < 512 then gateRow m c t ⟨s, h⟩ l else 0

theorem gateAt_row (t : Fin cfg0.N) (l : Fin 128) (s : Fin 512) : gateAt m c t l s.val = gateRow m c t s l := dif_pos s.isLt

theorem gateAt_ne_top (t : Fin cfg0.N) (l : Fin 128) (s : ℕ) : gateAt m c t l s ≠ ⊤ := by
  unfold gateAt
  by_cases h : s < 512
  · rw [dif_pos h]; exact logGate_ne_top _
  · rw [dif_neg h]; exact EReal.zero_ne_top

/-- The sums left by the point before. -/
def prevF (t : Fin cfg0.N) : Vec Ideal S1x128 .f32 :=
  (outsAt0 m c (t.val - 1) (Nat.lt_of_le_of_lt (Nat.sub_le _ _) t.isLt)).2.2.2.2.2.2.2.2

/-- The sums a block starts from. -/
def startF (t : Fin cfg0.N) (l : Fin 128) : EReal := if t.val % 16 = 0 then iblk m c 9 t (ix2 0 l) else prevF m c t (ix2 0 l)

theorem gateA (t : Fin cfg0.N) (s : Fin 512) (l : Fin 128) : (kernelRun0_A.sl.r_1 (F := Ideal) c (ms0_0 t) (hs0_0 t) (ms0_1 t) (hs0_1 t) (ms0_4 t) (hs0_4 t) (ms0_5 t) (hs0_5 t) (iblk m c 0 t) (iblk m c 1 t) (iblk m c 4 t) (iblk m c 5 t)) (ix2 s l) = gateAt m c t l s.val := by
  rw [gateAt_row]
  unfold kernelRun0_A.sl.r_1
  rw [gate_log]
  simp only [normal]
  rw [load_whole _ _ zeros2, load_whole _ _ zeros2, load_whole _ _ zeros2, load_whole _ _ zeros2]
  rfl

theorem gateB (t : Fin cfg0.N) (s : Fin 512) (l : Fin 128) : (kernelRun0_B.sl.r_1 (F := Ideal) c (ms0_0 t) (hs0_0 t) (ms0_1 t) (hs0_1 t) (ms0_4 t) (hs0_4 t) (ms0_5 t) (hs0_5 t) (iblk m c 0 t) (iblk m c 1 t) (iblk m c 4 t) (iblk m c 5 t)) (ix2 s l) = gateAt m c t l s.val := by
  rw [gateAt_row]
  unfold kernelRun0_B.sl.r_1
  rw [gate_log]
  simp only [normal]
  rw [load_whole _ _ zeros2, load_whole _ _ zeros2, load_whole _ _ zeros2, load_whole _ _ zeros2]
  rfl

theorem startA (t : Fin cfg0.N) (h0 : t.val % 16 = 0) (l : Fin 128) : (kernelRun0_A.sl.v183 (F := Ideal) c (ms0_9 t) (hs0_9 t) scM0_1 (iblk m c 9 t)) (ix2 0 l) = startF m c t l := by
  unfold startF
  rw [if_pos h0]
  unfold kernelRun0_A.sl.v183
  rw [View.readCov_eq_canon']
  refine (congrArg _ (rows_idx 0 (by omega) _ (0 : Fin 1) l)).trans ?_
  unfold kernelRun0_A.sl.HS1_1
  refine (stored_rows 0 _ _ _ _ (0 : Fin 1) l rfl).trans ?_
  refine (start_copy _ _).trans ?_
  rw [load_whole _ _ zeros2]

/-- A stored block of running sums. -/
theorem f_block (t : Fin cfg0.N) (r : Fin 512) (l : Fin 8) :
    (outsAt0 m c t.val t.isLt).2.2.2.1 (ix2 r l) = (∑ s ∈ Finset.range (r.val + 1), gateAt m c t ⟨l.val, by omega⟩ s) + startF m c t ⟨l.val, by omega⟩ := by
  by_cases h0 : t.val % 16 = 0
  · rw [outsAt0_A m c t h0]
    dsimp only
    unfold out0_A_15
    rw [View.read_writes_junk_eq_canon]
    unfold kernelRun0_A
    dsimp only
    rw [← startA m c t h0]
    exact stores_sum _ _ r l _ (fun s => gateA m c t s _) (gateAt_ne_top m c t _)
  · rw [outsAt0_B m c t h0]
    dsimp only
    unfold out0_B_15
    rw [View.read_writes_junk_eq_canon]
    unfold kernelRun0_B
    dsimp only
    unfold startF
    rw [if_neg h0]
    refine (stores_sum _ _ r l _ (fun s => gateB m c t s _) (gateAt_ne_top m c t _)).trans ?_
    rw [load_whole _ _ zeros2]
    rfl

/-- The sums a block leaves. -/
theorem f_left (t : Fin cfg0.N) (l : Fin 128) (hl : l.val < 8) :
    (outsAt0 m c t.val t.isLt).2.2.2.2.2.2.2.2 (ix2 0 l) = (∑ s ∈ Finset.range 512, gateAt m c t l s) + startF m c t l := by
  by_cases h0 : t.val % 16 = 0
  · rw [outsAt0_A m c t h0]
    dsimp only
    unfold sout0_A_1
    rw [View.read_writes_junk_eq_canon]
    unfold kernelRun0_A
    dsimp only
    rw [← startA m c t h0]
    refine (stored_rows 0 _ _ _ (0 : Fin 1) (0 : Fin 1) l rfl).trans ?_
    exact mid4 _ _ l hl _ (fun s => gateA m c t s _) (gateAt_ne_top m c t _)
  · rw [outsAt0_B m c t h0]
    dsimp only
    unfold sout0_B_1
    rw [View.read_writes_junk_eq_canon]
    unfold kernelRun0_B
    dsimp only
    unfold startF
    rw [if_neg h0]
    refine (stored_rows 0 _ _ _ (0 : Fin 1) (0 : Fin 1) l rfl).trans ?_
    refine (mid4 _ _ l hl _ (fun s => gateB m c t s _) (gateAt_ne_top m c t _)).trans ?_
    rw [load_whole _ _ zeros2]
    rfl

/-- A stored block of last rows. -/
theorem t_block (t : Fin cfg0.N) (r : Fin 8) (k : Fin 512) :
    (outsAt0 m c t.val t.isLt).2.2.2.2.2.2.1 (ix2 r k) = prodRow m c t ⟨504 + r.val, by omega⟩ k := by
  by_cases h0 : t.val % 16 = 0
  · rw [outsAt0_A m c t h0]
    dsimp only
    unfold out0_A_18
    rw [View.read_writes_junk_eq_canon]
    unfold kernelRun0_A
    dsimp only
    rw [View.canon_unit_zero zeros2]
    exact lastA m c t r k
  · rw [outsAt0_B m c t h0]
    dsimp only
    unfold out0_B_18
    rw [View.read_writes_junk_eq_canon]
    unfold kernelRun0_B
    dsimp only
    rw [View.canon_unit_zero zeros2]
    exact lastB m c t r k

end Cert.Kernel3Ideal.Mixin

end
-- ==== Proof.Mixin.Side.lean ====
/- The third call's lanes beside the queries, keys and values: what each stored piece holds. -/
module

public import proofs.«01_k».proof.Proof.Mixin.SumRows
public import proofs.«01_k».proof.Proof.Mixin.SidePlain

@[expose] public section

set_option maxRecDepth 16384

noncomputable section

namespace Cert.Kernel3Ideal.Mixin

open Cert.Kernel3Ideal Cert.Kernel3Ideal.Gen Idealize.ShloMosaic Idealize.ShloMosaic.TcCoe Idealize.ShloMosaic.Tactic
open Cert.Layer Cert.KernelIdeal.Ffn
open scoped BigOperators

/-! ## The lanes where a one stands -/

theorem key_bit : ∀ j : Fin 512, IntOp.cmpi .slt (IntOp.andi (BitVec.ofNat 32 j.val) 127#32) 3#32 = if j.val % 128 < 3 then 1#1 else 0#1 := by
  decide +kernel

theorem query_bit : ∀ j : Fin 1024,
    IntOp.andi (IntOp.cmpi .sge (IntOp.andi (BitVec.ofNat 32 j.val) 127#32)
        (IntOp.muli 3#32 (IntOp.addi 1#32 (IntOp.andi (IntOp.shrsi .vector (BitVec.ofNat 32 j.val) 7#32) 1#32))))
      (IntOp.cmpi .slt (IntOp.andi (BitVec.ofNat 32 j.val) 127#32)
        (IntOp.addi (IntOp.muli 3#32 (IntOp.addi 1#32 (IntOp.andi (IntOp.shrsi .vector (BitVec.ofNat 32 j.val) 7#32) 1#32))) 3#32))
      = if 3 + 3 * (j.val / 128 % 2) ≤ j.val % 128 ∧ j.val % 128 < 3 + 3 * (j.val / 128 % 2) + 3 then 1#1 else 0#1 := by
  decide +kernel

theorem eq_low : ∀ l : Fin 128, l.val < 64 → IntOp.cmpi .eq (BitVec.ofNat 32 l.val) 0#32 = if l.val % 64 = 0 then 1#1 else 0#1 := by decide

theorem eq_high : ∀ l : Fin 128, ¬l.val < 64 → IntOp.cmpi .eq (BitVec.ofNat 32 l.val) 64#32 = if l.val % 64 = 0 then 1#1 else 0#1 := by decide

theorem pick_one (p : Prop) [Decidable p] (x y : EReal) : Scalar.select (if p then 1#1 else 0#1) x y = if p then x else y := by
  by_cases h : p
  · rw [if_pos h, if_pos h]; rfl
  · rw [if_neg h, if_neg h]; rfl

/-! ## The stored lanes that hold no product -/

theorem rest10 (u : FVec Ideal S512x1024 .bf16) (w : Vec Ideal S512x1024 .bf16) (r : Fin 512) (l : Fin 128) (h : ¬l.val < 64) :
    k0_pay10 u w (ix2 r l) = Ideal.ofBits .bf16 0x0000#16 := by
  have e := high l h
  pointwise [k0_pay10, k0_pay9, e]

theorem rest11 (u : FVec Ideal S512x1024 .bf16) (w : Vec Ideal S512x1024 .bf16) (r : Fin 512) (l : Fin 128) (h : l.val < 64) :
    k0_pay11 u w (ix2 r l) = Ideal.ofBits .bf16 0x0000#16 := by
  have e := low l h
  pointwise [k0_pay11, k0_pay9, e]

theorem rest14 (u : FVec Ideal S512x1024 .bf16) (w : Vec Ideal S512x1024 .bf16) (r : Fin 512) (l : Fin 128) (h : ¬l.val < 64) :
    k0_pay14 u w (ix2 r l) = Ideal.ofBits .bf16 0x0000#16 := by
  have e := high l h
  pointwise [k0_pay14, k0_pay13, e]

theorem rest15 (u : FVec Ideal S512x1024 .bf16) (w : Vec Ideal S512x1024 .bf16) (r : Fin 512) (l : Fin 128) (h : l.val < 64) :
    k0_pay15 u w (ix2 r l) = Ideal.ofBits .bf16 0x0000#16 := by
  have e := low l h
  pointwise [k0_pay15, k0_pay13, e]

theorem rest18 (u : FVec Ideal S512x1024 .bf16) (w : Vec Ideal S512x1024 .bf16) (r : Fin 512) (l : Fin 128) (h : ¬l.val < 64) :
    k0_pay18 u w (ix2 r l) = Ideal.ofBits .bf16 0x0000#16 := by
  have e := high l h
  pointwise [k0_pay18, k0_pay17, e]

theorem rest19 (u : FVec Ideal S512x1024 .bf16) (w : Vec Ideal S512x1024 .bf16) (r : Fin 512) (l : Fin 128) (h : l.val < 64) :
    k0_pay19 lanes (k0_pay16 u w) (k0_pay17 (F := Ideal)) (ix2 r l) = Ideal.ofBits .bf16 0x0000#16 := by
  have e := low l h
  pointwise [k0_pay19, k0_pay17, e]

theorem rest22 (u : FVec Ideal S512x1024 .bf16) (w : Vec Ideal S512x1024 .bf16) (r : Fin 512) (l : Fin 128) (h : ¬l.val < 64) :
    k0_pay22 (k0_pay7 u w) lanes (ix2 r l) = Ideal.ofBits .bf16 0x0000#16 := by
  have e := high l h
  pointwise [k0_pay22, k0_pay21, e]

theorem rest23 (u : FVec Ideal S512x1024 .bf16) (w : Vec Ideal S512x1024 .bf16) (r : Fin 512) (l : Fin 128) (h : l.val < 64) :
    k0_pay23 (k0_pay7 u w) lanes (ix2 r l) = Ideal.ofBits .bf16 0x0000#16 := by
  have e := low l h
  pointwise [k0_pay23, k0_pay21, e]

theorem rest73 (u : FVec Ideal S512x1024 .bf16) (w : Vec Ideal S512x1024 .bf16) (r : Fin 512) (l : Fin 128) (h : ¬l.val < 64) :
    k0_pay73 u lanes w (ix2 r l) = if l.val % 64 = 0 then 1 else 0 := by
  have e := high l h
  rw [← pick_one, ← eq_high l h]
  pointwise [k0_pay73, k0_pay70, e]

theorem rest74 (u : FVec Ideal S512x1024 .bf16) (w : Vec Ideal S512x1024 .bf16) (r : Fin 512) (l : Fin 128) (h : l.val < 64) :
    k0_pay74 u lanes w (ix2 r l) = if l.val % 64 = 0 then 1 else 0 := by
  have e := low l h
  rw [← pick_one, ← eq_low l h]
  pointwise [k0_pay74, k0_pay71, e]

theorem rest76 (u : FVec Ideal S512x1024 .bf16) (w : Vec Ideal S512x1024 .bf16) (r : Fin 512) (l : Fin 128) (h : ¬l.val < 64) :
    k0_pay76 u lanes w (ix2 r l) = if l.val % 64 = 0 then 1 else 0 := by
  have e := high l h
  rw [← pick_one, ← eq_high l h]
  pointwise [k0_pay76, k0_pay70, e]

theorem rest77 (u : FVec Ideal S512x1024 .bf16) (w : Vec Ideal S512x1024 .bf16) (r : Fin 512) (l : Fin 128) (h : l.val < 64) :
    k0_pay77 lanes (k0_pay71 (F := Ideal) lanes) (k0_pay75 u w) (ix2 r l) = if l.val % 64 = 0 then 1 else 0 := by
  have e := low l h
  rw [← pick_one, ← eq_low l h]
  pointwise [k0_pay77, k0_pay71, e]

theorem rest79 (u : FVec Ideal S512x1024 .bf16) (w : Vec Ideal S512x1024 .bf16) (r : Fin 512) (l : Fin 128) (h : ¬l.val < 64) :
    k0_pay79 lanes (k0_pay69 u w) (k0_pay70 (F := Ideal) lanes) (ix2 r l) = if l.val % 64 = 0 then 1 else 0 := by
  have e := high l h
  rw [← pick_one, ← eq_high l h]
  pointwise [k0_pay79, k0_pay70, e]

theorem rest80 (u : FVec Ideal S512x1024 .bf16) (w : Vec Ideal S512x1024 .bf16) (r : Fin 512) (l : Fin 128) (h : l.val < 64) :
    k0_pay80 lanes (k0_pay69 u w) (k0_pay71 (F := Ideal) lanes) (ix2 r l) = if l.val % 64 = 0 then 1 else 0 := by
  have e := low l h
  rw [← pick_one, ← eq_low l h]
  pointwise [k0_pay80, k0_pay71, e]

theorem rest82 (u : FVec Ideal S512x1024 .bf16) (w : Vec Ideal S512x1024 .bf16) (r : Fin 512) (l : Fin 128) (h : ¬l.val < 64) :
    k0_pay82 lanes (k0_pay69 u w) (k0_pay70 (F := Ideal) lanes) (ix2 r l) = if l.val % 64 = 0 then 1 else 0 := by
  have e := high l h
  rw [← pick_one, ← eq_high l h]
  pointwise [k0_pay82, k0_pay70, e]

theorem rest83 (u : FVec Ideal S512x1024 .bf16) (w : Vec Ideal S512x1024 .bf16) (r : Fin 512) (l : Fin 128) (h : l.val < 64) :
    k0_pay83 lanes (k0_pay69 u w) (k0_pay71 (F := Ideal) lanes) (ix2 r l) = if l.val % 64 = 0 then 1 else 0 := by
  have e := low l h
  rw [← pick_one, ← eq_low l h]
  pointwise [k0_pay83, k0_pay71, e]

/-! ## The spread sums -/

/-- A piece of 128 rows, at the entry it holds. -/
theorem tile128 {W : ℕ} (r : Fin 512) (j : Fin W) (o' o : ℕ) (P : (⟨2, ![128, 128]⟩ : Shape).Idx → EReal) (v : EReal)
    (h : ∀ s l : Fin 128, o' + s.val = r.val → o + l.val = j.val → P (ix2 s l) = v) :
    View.TileAt (Val := Elt Ideal) (e := .bf16) (S := (⟨2, ![512, W]⟩ : Shape)) (ix2 r j) ![o', o] ![128, 128] P v := by
  intro x hx
  have h0 : o' + (x 0 : ℕ) = r.val := (hx 0).symm
  have h1 : o + (x 1 : ℕ) = j.val := (hx 1).symm
  rw [eq_ix2 x]
  exact h (x 0) (x 1) h0 h1

theorem cut_keys (x : FVec Ideal S128x512 .bf16) (o : ℕ) (h : S128x512.Slices ![0, o] S128x128) (ho : o + 128 ≤ 512) (s l : Fin 128) :
    extractStridedSlice S128x128 ![0, o] x h (ix2 s l) = x (ix2 s ⟨o + l.val, by omega⟩) := by
  pointwise

theorem cut_queries (x : FVec Ideal S128x1024 .bf16) (o : ℕ) (h : S128x1024.Slices ![0, o] S128x128) (ho : o + 128 ≤ 1024) (s l : Fin 128) :
    extractStridedSlice S128x128 ![0, o] x h (ix2 s l) = x (ix2 s ⟨o + l.val, by omega⟩) := by
  pointwise

theorem key_spread (p : FVec Ideal S128x128 .bf16) (x : Vec Ideal S128x512 .bf16) (s : Fin 128) (j : Fin 512) (y : Fin 8 → EReal)
    (hp : ∀ a, p (ix2 s a) = three y a) : k0_pay87 p k0_pay84 x (ix2 s j) = keySide y (fun a n => x (ix2 a n)) j := by
  unfold keySide
  rw [← three_sum, ← pick_one, ← key_bit]
  simp only [← hp]
  pointwise [k0_pay87, k0_pay84]

theorem query_spread (p : FVec Ideal S128x128 .bf16) (x : Vec Ideal S128x1024 .bf16) (s : Fin 128) (j : Fin 1024) (y : Fin 8 → EReal)
    (hp : ∀ a, p (ix2 s a) = three y a) :
    k0_pay92 p (iota .tc S128x1024 32 [1] iota_S128x1024_d1_w32) k0_pay85 x (ix2 s j) = querySide y (fun a n => x (ix2 a n)) j := by
  unfold querySide
  rw [← three_sum, ← pick_one, ← query_bit]
  simp only [← hp]
  pointwise [k0_pay92, k0_pay86, k0_pay85]

/-- The sums of the first eight lanes, with nothing in the others. -/
def eight (x : FVec Ideal S128x128 .f32) : FVec Ideal S128x128 .f32 := select k0_pay5 x (broadcast S128x128 (Scalar.ofBits .f32 0x00000000#32))

theorem eight_low (x : FVec Ideal S128x128 .f32) (s l : Fin 128) (h : l.val < 8) : eight x (ix2 s l) = x (ix2 s l) := by
  have e := lane_in l h
  pointwise [eight, k0_pay5, e]

theorem eight_high (x : FVec Ideal S128x128 .f32) (s l : Fin 128) (h : ¬l.val < 8) : eight x (ix2 s l) = 0 := by
  have e := lane_out l h
  pointwise [eight, k0_pay5, e]

/-- The parts side by side, as the product takes them. -/
def sideParts (x : FVec Ideal S128x128 .f32) : FVec Ideal S128x128 .bf16 :=
  k0_pay47 (eight x) (truncf .bf16 (eight x) bitsLt_bf16_f32) (extf .f32 (truncf .bf16 (eight x) bitsLt_bf16_f32) bitsLt_bf16_f32)

theorem sideParts_packed (x : FVec Ideal S128x128 .f32) (s a : Fin 128) : sideParts x (ix2 s a) = packed (eight x) s a := by
  unfold sideParts
  generalize eight x = k
  pointwise [k0_pay47, packed]

theorem sideParts_three (x : FVec Ideal S128x128 .f32) (s a : Fin 128) (y : Fin 8 → EReal) (hx : ∀ l : Fin 8, x (ix2 s ⟨l.val, by omega⟩) = y l) :
    sideParts x (ix2 s a) = three y a := by
  have lo : ∀ (n : Fin 128) (l : Fin 8), n.val = l.val → eight x (ix2 s n) = y l := fun n l e => by
    have en : n = ⟨l.val, by omega⟩ := Fin.ext e
    rw [eight_low x s n (by omega), en]
    exact hx l
  have hi : ∀ n : Fin 128, 8 ≤ n.val → eight x (ix2 s n) = 0 := fun n h => eight_high x s n (by omega)
  have ha := a.isLt
  rw [sideParts_packed]
  unfold packed three
  by_cases h0 : a.val < 8
  · rw [dif_pos h0, lo a ⟨a.val, h0⟩ rfl, hi ⟨(a.val + 128 - 8) % 128, _⟩ (by show 8 ≤ (a.val + 128 - 8) % 128; omega),
      hi ⟨(a.val + 128 - 16) % 128, _⟩ (by show 8 ≤ (a.val + 128 - 16) % 128; omega)]
    simp only [sub_zero, add_zero]
  rw [dif_neg h0, hi a (by omega), zero_add]
  by_cases h1 : a.val < 16
  · rw [dif_pos h1, lo ⟨(a.val + 128 - 8) % 128, _⟩ ⟨a.val - 8, by omega⟩ (by show (a.val + 128 - 8) % 128 = a.val - 8; omega),
      hi ⟨(a.val + 128 - 16) % 128, _⟩ (by show 8 ≤ (a.val + 128 - 16) % 128; omega)]
    simp only [sub_zero, add_zero]
  rw [dif_neg h1, hi ⟨(a.val + 128 - 8) % 128, _⟩ (by show 8 ≤ (a.val + 128 - 8) % 128; omega)]
  by_cases h2 : a.val < 24
  · rw [dif_pos h2, lo ⟨(a.val + 128 - 16) % 128, _⟩ ⟨a.val - 16, by omega⟩ (by show (a.val + 128 - 16) % 128 = a.val - 16; omega)]
    simp only [sub_zero, zero_add]
  · rw [dif_neg h2, hi ⟨(a.val + 128 - 16) % 128, _⟩ (by show 8 ≤ (a.val + 128 - 16) % 128; omega)]
    simp only [sub_zero, add_zero]

/-! ## The four groups of rows -/

section
variable (v : FVec Ideal S512x128 .f32) (b : Vec Ideal S1x128 .f32)

/-- The parts of the sums of rows 0 to 127. -/
abbrev group0 : FVec Ideal S128x128 .bf16 := k0_pay47 (k0_pay44 k0_pay5 (k0_pay25 k0_pay5 v) b) (k0_pay45 k0_pay5 (k0_pay25 k0_pay5 v) b) (k0_pay46 k0_pay5 (k0_pay25 k0_pay5 v) b)

theorem group0_parts : group0 v b = sideParts (k0_pay41 k0_pay5 (k0_pay25 k0_pay5 v) b) := rfl

/-- The parts of the sums of rows 128 to 255. -/
abbrev group1 : FVec Ideal S128x128 .bf16 := k0_pay51 k0_pay5 (k0_pay27 (k0_pay24 (F := Ideal)) (k0_pay26 k0_pay5 v)) (k0_pay42 k0_pay5 (k0_pay25 k0_pay5 v) b)

theorem group1_parts : group1 v b = sideParts (k0_pay41 k0_pay5 (k0_pay27 (k0_pay24 (F := Ideal)) (k0_pay26 k0_pay5 v)) (k0_pay42 k0_pay5 (k0_pay25 k0_pay5 v) b)) := rfl

/-- The parts of the sums of rows 256 to 383. -/
abbrev group2 : FVec Ideal S128x128 .bf16 := k0_pay56 k0_pay5 (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))

theorem group2_parts : group2 v b = sideParts (k0_pay54 k0_pay5 (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))) := rfl

/-- The parts of the sums of rows 384 to 511. -/
abbrev group3 : FVec Ideal S128x128 .bf16 := k0_pay67 (k0_pay64 k0_pay5 (k0_pay35 (k0_pay24 (F := Ideal)) (k0_pay33 k0_pay5 v) (k0_pay34 k0_pay5 v) 16#32) (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))) (k0_pay65 k0_pay5 (k0_pay35 (k0_pay24 (F := Ideal)) (k0_pay33 k0_pay5 v) (k0_pay34 k0_pay5 v) 16#32) (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))) (k0_pay66 k0_pay5 (k0_pay35 (k0_pay24 (F := Ideal)) (k0_pay33 k0_pay5 v) (k0_pay34 k0_pay5 v) 16#32) (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal)))

theorem group3_parts : group3 v b = sideParts (k0_pay57 k0_pay5 (k0_pay35 (k0_pay24 (F := Ideal)) (k0_pay33 k0_pay5 v) (k0_pay34 k0_pay5 v) 16#32) (k0_pay49 k0_pay5 (k0_pay27 (k0_pay24 (F := Ideal)) (k0_pay26 k0_pay5 v)) (k0_pay42 k0_pay5 (k0_pay25 k0_pay5 v) b)) (k0_pay52 (k0_pay28 k0_pay5 v (k0_pay24 (F := Ideal)))) (k0_pay53 (F := Ideal))) := rfl

variable (g : Fin 8 → ℕ → EReal) (z : Fin 8 → EReal) (hv : ∀ (l : Fin 8) (s : Fin 512), v (ix2 s (⟨l.val, by omega⟩ : Fin 128)) = g l s.val)
  (hg : ∀ l s, g l s ≠ ⊤) (hb : ∀ l : Fin 8, b (ix2 0 ⟨l.val, by omega⟩) = z l)
include hv hg hb

theorem group0_three (s a : Fin 128) (r : ℕ) (hr : 0 + s.val = r) :
    group0 v b (ix2 s a) = three (fun l => (∑ q ∈ Finset.range (r + 1), g l q) + z l) a := by
  subst hr
  rw [group0_parts]
  refine sideParts_three _ s a _ fun l => ?_
  rw [← hb l]
  exact row0 v b _ l.isLt (g l) (hv l) (hg l) s

theorem group1_three (s a : Fin 128) (r : ℕ) (hr : 128 + s.val = r) :
    group1 v b (ix2 s a) = three (fun l => (∑ q ∈ Finset.range (r + 1), g l q) + z l) a := by
  subst hr
  rw [group1_parts]
  refine sideParts_three _ s a _ fun l => ?_
  rw [← hb l]
  exact row1 v b _ l.isLt (g l) (hv l) (hg l) s

theorem group2_three (s a : Fin 128) (r : ℕ) (hr : 256 + s.val = r) :
    group2 v b (ix2 s a) = three (fun l => (∑ q ∈ Finset.range (r + 1), g l q) + z l) a := by
  subst hr
  rw [group2_parts]
  refine sideParts_three _ s a _ fun l => ?_
  rw [← hb l]
  exact row2 v b _ l.isLt (g l) (hv l) (hg l) s

theorem group3_three (s a : Fin 128) (r : ℕ) (hr : 384 + s.val = r) :
    group3 v b (ix2 s a) = three (fun l => (∑ q ∈ Finset.range (r + 1), g l q) + z l) a := by
  subst hr
  rw [group3_parts]
  refine sideParts_three _ s a _ fun l => ?_
  rw [← hb l]
  exact row3 v b _ l.isLt (g l) (hv l) (hg l) s

set_option maxHeartbeats 1000000 in
/-- The pieces stored beside the keys. -/
theorem key_pieces (X : Vec Ideal S128x512 .bf16) (x : Fin 128 → Fin 512 → EReal) (hx : ∀ a n, X (ix2 a n) = x a n)
    (rest : List (View.Piece (Elt Ideal) S512x1024 .bf16)) (r : Fin 512) (j : Fin 1024) (hj : 128 ≤ j.val % 256)
    (hrest : View.AllAt rest (ix2 r j) (keySide (fun l => (∑ q ∈ Finset.range (r.val + 1), g l q) + z l) x ⟨128 * (j.val / 256) + j.val % 128, by omega⟩)) :
    View.AllAt (Val := Elt Ideal) (
      ⟨Rect.unit (s := S512x1024) ![384, 896] S128x128.size inb_S512x1024_S128x128_384_896, k0_pay134 (group3 v b) k0_pay84 X⟩ ::
      ⟨Rect.unit (s := S512x1024) ![384, 640] S128x128.size inb_S512x1024_S128x128_384_640, k0_pay133 (group3 v b) k0_pay84 X⟩ ::
      ⟨Rect.unit (s := S512x1024) ![384, 384] S128x128.size inb_S512x1024_S128x128_384_384, k0_pay132 (group3 v b) k0_pay84 X⟩ ::
      ⟨Rect.unit (s := S512x1024) ![384, 128] S128x128.size inb_S512x1024_S128x128_384_128, k0_pay131 (group3 v b) k0_pay84 X⟩ ::
      ⟨Rect.unit (s := S512x1024) ![256, 896] S128x128.size inb_S512x1024_S128x128_256_896, k0_pay120 k0_pay84 (k0_pay115 (group2 v b) X)⟩ ::
      ⟨Rect.unit (s := S512x1024) ![256, 640] S128x128.size inb_S512x1024_S128x128_256_640, k0_pay119 k0_pay84 (k0_pay115 (group2 v b) X)⟩ ::
      ⟨Rect.unit (s := S512x1024) ![256, 384] S128x128.size inb_S512x1024_S128x128_256_384, k0_pay118 k0_pay84 (k0_pay115 (group2 v b) X)⟩ ::
      ⟨Rect.unit (s := S512x1024) ![256, 128] S128x128.size inb_S512x1024_S128x128_256_128, k0_pay117 k0_pay84 (k0_pay115 (group2 v b) X)⟩ ::
      ⟨Rect.unit (s := S512x1024) ![128, 896] S128x128.size inb_S512x1024_S128x128_128_896, k0_pay105 (k0_pay101 (group1 v b) k0_pay84 X)⟩ ::
      ⟨Rect.unit (s := S512x1024) ![128, 640] S128x128.size inb_S512x1024_S128x128_128_640, k0_pay104 (group1 v b) k0_pay84 X⟩ ::
      ⟨Rect.unit (s := S512x1024) ![128, 384] S128x128.size inb_S512x1024_S128x128_128_384, k0_pay103 (group1 v b) k0_pay84 X⟩ ::
      ⟨Rect.unit (s := S512x1024) ![128, 128] S128x128.size inb_S512x1024_S128x128_128_128, k0_pay102 (group1 v b) k0_pay84 X⟩ ::
      ⟨Rect.unit (s := S512x1024) ![0, 896] S128x128.size inb_S512x1024_S128x128_0_896, k0_pay91 (group0 v b) k0_pay84 X⟩ ::
      ⟨Rect.unit (s := S512x1024) ![0, 640] S128x128.size inb_S512x1024_S128x128_0_640, k0_pay90 (group0 v b) k0_pay84 X⟩ ::
      ⟨Rect.unit (s := S512x1024) ![0, 384] S128x128.size inb_S512x1024_S128x128_0_384, k0_pay89 (group0 v b) k0_pay84 X⟩ ::
      ⟨Rect.unit (s := S512x1024) ![0, 128] S128x128.size inb_S512x1024_S128x128_0_128, k0_pay88 (group0 v b) k0_pay84 X⟩ :: rest)
      (ix2 r j) (keySide (fun l => (∑ q ∈ Finset.range (r.val + 1), g l q) + z l) x ⟨128 * (j.val / 256) + j.val % 128, by omega⟩) := by
  have hjl := j.isLt
  refine View.allAt_cons_unit _ _ _ _ _ (tile128 r j 384 896 _ _ fun s l e e' => ?_) ?_
  · refine (cut_keys (k0_pay87 (group3 v b) k0_pay84 X) 384 slices_S128x512_o0_384_S128x128 (by omega) s l).trans ((key_spread _ X s _ _ fun a => group3_three v b g z hv hg hb s a r.val e).trans ?_)
    simp only [hx]
    exact congrArg (keySide _ _) (Fin.ext (by show 384 + l.val = 128 * (j.val / 256) + j.val % 128; omega))
  refine View.allAt_cons_unit _ _ _ _ _ (tile128 r j 384 640 _ _ fun s l e e' => ?_) ?_
  · refine (cut_keys (k0_pay87 (group3 v b) k0_pay84 X) 256 slices_S128x512_o0_256_S128x128 (by omega) s l).trans ((key_spread _ X s _ _ fun a => group3_three v b g z hv hg hb s a r.val e).trans ?_)
    simp only [hx]
    exact congrArg (keySide _ _) (Fin.ext (by show 256 + l.val = 128 * (j.val / 256) + j.val % 128; omega))
  refine View.allAt_cons_unit _ _ _ _ _ (tile128 r j 384 384 _ _ fun s l e e' => ?_) ?_
  · refine (cut_keys (k0_pay87 (group3 v b) k0_pay84 X) 128 slices_S128x512_o0_128_S128x128 (by omega) s l).trans ((key_spread _ X s _ _ fun a => group3_three v b g z hv hg hb s a r.val e).trans ?_)
    simp only [hx]
    exact congrArg (keySide _ _) (Fin.ext (by show 128 + l.val = 128 * (j.val / 256) + j.val % 128; omega))
  refine View.allAt_cons_unit _ _ _ _ _ (tile128 r j 384 128 _ _ fun s l e e' => ?_) ?_
  · refine (cut_keys (k0_pay87 (group3 v b) k0_pay84 X) 0 slices_S128x512_o0_0_S128x128 (by omega) s l).trans ((key_spread _ X s _ _ fun a => group3_three v b g z hv hg hb s a r.val e).trans ?_)
    simp only [hx]
    exact congrArg (keySide _ _) (Fin.ext (by show 0 + l.val = 128 * (j.val / 256) + j.val % 128; omega))
  refine View.allAt_cons_unit _ _ _ _ _ (tile128 r j 256 896 _ _ fun s l e e' => ?_) ?_
  · refine (cut_keys (k0_pay87 (group2 v b) k0_pay84 X) 384 slices_S128x512_o0_384_S128x128 (by omega) s l).trans ((key_spread _ X s _ _ fun a => group2_three v b g z hv hg hb s a r.val e).trans ?_)
    simp only [hx]
    exact congrArg (keySide _ _) (Fin.ext (by show 384 + l.val = 128 * (j.val / 256) + j.val % 128; omega))
  refine View.allAt_cons_unit _ _ _ _ _ (tile128 r j 256 640 _ _ fun s l e e' => ?_) ?_
  · refine (cut_keys (k0_pay87 (group2 v b) k0_pay84 X) 256 slices_S128x512_o0_256_S128x128 (by omega) s l).trans ((key_spread _ X s _ _ fun a => group2_three v b g z hv hg hb s a r.val e).trans ?_)
    simp only [hx]
    exact congrArg (keySide _ _) (Fin.ext (by show 256 + l.val = 128 * (j.val / 256) + j.val % 128; omega))
  refine View.allAt_cons_unit _ _ _ _ _ (tile128 r j 256 384 _ _ fun s l e e' => ?_) ?_
  · refine (cut_keys (k0_pay87 (group2 v b) k0_pay84 X) 128 slices_S128x512_o0_128_S128x128 (by omega) s l).trans ((key_spread _ X s _ _ fun a => group2_three v b g z hv hg hb s a r.val e).trans ?_)
    simp only [hx]
    exact congrArg (keySide _ _) (Fin.ext (by show 128 + l.val = 128 * (j.val / 256) + j.val % 128; omega))
  refine View.allAt_cons_unit _ _ _ _ _ (tile128 r j 256 128 _ _ fun s l e e' => ?_) ?_
  · refine (cut_keys (k0_pay87 (group2 v b) k0_pay84 X) 0 slices_S128x512_o0_0_S128x128 (by omega) s l).trans ((key_spread _ X s _ _ fun a => group2_three v b g z hv hg hb s a r.val e).trans ?_)
    simp only [hx]
    exact congrArg (keySide _ _) (Fin.ext (by show 0 + l.val = 128 * (j.val / 256) + j.val % 128; omega))
  refine View.allAt_cons_unit _ _ _ _ _ (tile128 r j 128 896 _ _ fun s l e e' => ?_) ?_
  · refine (cut_keys (k0_pay87 (group1 v b) k0_pay84 X) 384 slices_S128x512_o0_384_S128x128 (by omega) s l).trans ((key_spread _ X s _ _ fun a => group1_three v b g z hv hg hb s a r.val e).trans ?_)
    simp only [hx]
    exact congrArg (keySide _ _) (Fin.ext (by show 384 + l.val = 128 * (j.val / 256) + j.val % 128; omega))
  refine View.allAt_cons_unit _ _ _ _ _ (tile128 r j 128 640 _ _ fun s l e e' => ?_) ?_
  · refine (cut_keys (k0_pay87 (group1 v b) k0_pay84 X) 256 slices_S128x512_o0_256_S128x128 (by omega) s l).trans ((key_spread _ X s _ _ fun a => group1_three v b g z hv hg hb s a r.val e).trans ?_)
    simp only [hx]
    exact congrArg (keySide _ _) (Fin.ext (by show 256 + l.val = 128 * (j.val / 256) + j.val % 128; omega))
  refine View.allAt_cons_unit _ _ _ _ _ (tile128 r j 128 384 _ _ fun s l e e' => ?_) ?_
  · refine (cut_keys (k0_pay87 (group1 v b) k0_pay84 X) 128 slices_S128x512_o0_128_S128x128 (by omega) s l).trans ((key_spread _ X s _ _ fun a => group1_three v b g z hv hg hb s a r.val e).trans ?_)
    simp only [hx]
    exact congrArg (keySide _ _) (Fin.ext (by show 128 + l.val = 128 * (j.val / 256) + j.val % 128; omega))
  refine View.allAt_cons_unit _ _ _ _ _ (tile128 r j 128 128 _ _ fun s l e e' => ?_) ?_
  · refine (cut_keys (k0_pay87 (group1 v b) k0_pay84 X) 0 slices_S128x512_o0_0_S128x128 (by omega) s l).trans ((key_spread _ X s _ _ fun a => group1_three v b g z hv hg hb s a r.val e).trans ?_)
    simp only [hx]
    exact congrArg (keySide _ _) (Fin.ext (by show 0 + l.val = 128 * (j.val / 256) + j.val % 128; omega))
  refine View.allAt_cons_unit _ _ _ _ _ (tile128 r j 0 896 _ _ fun s l e e' => ?_) ?_
  · refine (cut_keys (k0_pay87 (group0 v b) k0_pay84 X) 384 slices_S128x512_o0_384_S128x128 (by omega) s l).trans ((key_spread _ X s _ _ fun a => group0_three v b g z hv hg hb s a r.val e).trans ?_)
    simp only [hx]
    exact congrArg (keySide _ _) (Fin.ext (by show 384 + l.val = 128 * (j.val / 256) + j.val % 128; omega))
  refine View.allAt_cons_unit _ _ _ _ _ (tile128 r j 0 640 _ _ fun s l e e' => ?_) ?_
  · refine (cut_keys (k0_pay87 (group0 v b) k0_pay84 X) 256 slices_S128x512_o0_256_S128x128 (by omega) s l).trans ((key_spread _ X s _ _ fun a => group0_three v b g z hv hg hb s a r.val e).trans ?_)
    simp only [hx]
    exact congrArg (keySide _ _) (Fin.ext (by show 256 + l.val = 128 * (j.val / 256) + j.val % 128; omega))
  refine View.allAt_cons_unit _ _ _ _ _ (tile128 r j 0 384 _ _ fun s l e e' => ?_) ?_
  · refine (cut_keys (k0_pay87 (group0 v b) k0_pay84 X) 128 slices_S128x512_o0_128_S128x128 (by omega) s l).trans ((key_spread _ X s _ _ fun a => group0_three v b g z hv hg hb s a r.val e).trans ?_)
    simp only [hx]
    exact congrArg (keySide _ _) (Fin.ext (by show 128 + l.val = 128 * (j.val / 256) + j.val % 128; omega))
  refine View.allAt_cons_unit _ _ _ _ _ (tile128 r j 0 128 _ _ fun s l e e' => ?_) ?_
  · refine (cut_keys (k0_pay87 (group0 v b) k0_pay84 X) 0 slices_S128x512_o0_0_S128x128 (by omega) s l).trans ((key_spread _ X s _ _ fun a => group0_three v b g z hv hg hb s a r.val e).trans ?_)
    simp only [hx]
    exact congrArg (keySide _ _) (Fin.ext (by show 0 + l.val = 128 * (j.val / 256) + j.val % 128; omega))
  exact hrest

set_option maxHeartbeats 1000000 in
/-- The pieces stored beside the queries. -/
theorem query_pieces (X : Vec Ideal S128x1024 .bf16) (x : Fin 128 → Fin 1024 → EReal) (hx : ∀ a n, X (ix2 a n) = x a n)
    (rest : List (View.Piece (Elt Ideal) S512x2048 .bf16)) (r : Fin 512) (j : Fin 2048) (hj : 128 ≤ j.val % 256)
    (hrest : View.AllAt rest (ix2 r j) (querySide (fun l => (∑ q ∈ Finset.range (r.val + 1), g l q) + z l) x ⟨128 * (j.val / 256) + j.val % 128, by omega⟩)) :
    View.AllAt (Val := Elt Ideal) (
      ⟨Rect.unit (s := S512x2048) ![384, 1920] S128x128.size inb_S512x2048_S128x128_384_1920, k0_pay143 (k0_pay135 (group3 v b) (k0_pay86 (iota .tc S128x1024 32 [1] iota_S128x1024_d1_w32) k0_pay85) X)⟩ ::
      ⟨Rect.unit (s := S512x2048) ![384, 1664] S128x128.size inb_S512x2048_S128x128_384_1664, k0_pay142 (k0_pay135 (group3 v b) (k0_pay86 (iota .tc S128x1024 32 [1] iota_S128x1024_d1_w32) k0_pay85) X)⟩ ::
      ⟨Rect.unit (s := S512x2048) ![384, 1408] S128x128.size inb_S512x2048_S128x128_384_1408, k0_pay141 (k0_pay135 (group3 v b) (k0_pay86 (iota .tc S128x1024 32 [1] iota_S128x1024_d1_w32) k0_pay85) X)⟩ ::
      ⟨Rect.unit (s := S512x2048) ![384, 1152] S128x128.size inb_S512x2048_S128x128_384_1152, k0_pay140 (k0_pay135 (group3 v b) (k0_pay86 (iota .tc S128x1024 32 [1] iota_S128x1024_d1_w32) k0_pay85) X)⟩ ::
      ⟨Rect.unit (s := S512x2048) ![384, 896] S128x128.size inb_S512x2048_S128x128_384_896, k0_pay139 (k0_pay135 (group3 v b) (k0_pay86 (iota .tc S128x1024 32 [1] iota_S128x1024_d1_w32) k0_pay85) X)⟩ ::
      ⟨Rect.unit (s := S512x2048) ![384, 640] S128x128.size inb_S512x2048_S128x128_384_640, k0_pay138 (k0_pay135 (group3 v b) (k0_pay86 (iota .tc S128x1024 32 [1] iota_S128x1024_d1_w32) k0_pay85) X)⟩ ::
      ⟨Rect.unit (s := S512x2048) ![384, 384] S128x128.size inb_S512x2048_S128x128_384_384, k0_pay137 (group3 v b) (k0_pay86 (iota .tc S128x1024 32 [1] iota_S128x1024_d1_w32) k0_pay85) X⟩ ::
      ⟨Rect.unit (s := S512x2048) ![384, 128] S128x128.size inb_S512x2048_S128x128_384_128, k0_pay136 (group3 v b) (k0_pay86 (iota .tc S128x1024 32 [1] iota_S128x1024_d1_w32) k0_pay85) X⟩ ::
      ⟨Rect.unit (s := S512x2048) ![256, 1920] S128x128.size inb_S512x2048_S128x128_256_1920, k0_pay129 (k0_pay121 (group2 v b) (k0_pay86 (iota .tc S128x1024 32 [1] iota_S128x1024_d1_w32) k0_pay85) X)⟩ ::
      ⟨Rect.unit (s := S512x2048) ![256, 1664] S128x128.size inb_S512x2048_S128x128_256_1664, k0_pay128 (k0_pay121 (group2 v b) (k0_pay86 (iota .tc S128x1024 32 [1] iota_S128x1024_d1_w32) k0_pay85) X)⟩ ::
      ⟨Rect.unit (s := S512x2048) ![256, 1408] S128x128.size inb_S512x2048_S128x128_256_1408, k0_pay127 (group2 v b) (k0_pay86 (iota .tc S128x1024 32 [1] iota_S128x1024_d1_w32) k0_pay85) X⟩ ::
      ⟨Rect.unit (s := S512x2048) ![256, 1152] S128x128.size inb_S512x2048_S128x128_256_1152, k0_pay126 (group2 v b) (k0_pay86 (iota .tc S128x1024 32 [1] iota_S128x1024_d1_w32) k0_pay85) X⟩ ::
      ⟨Rect.unit (s := S512x2048) ![256, 896] S128x128.size inb_S512x2048_S128x128_256_896, k0_pay125 (group2 v b) (k0_pay86 (iota .tc S128x1024 32 [1] iota_S128x1024_d1_w32) k0_pay85) X⟩ ::
      ⟨Rect.unit (s := S512x2048) ![256, 640] S128x128.size inb_S512x2048_S128x128_256_640, k0_pay124 (group2 v b) (k0_pay86 (iota .tc S128x1024 32 [1] iota_S128x1024_d1_w32) k0_pay85) X⟩ ::
      ⟨Rect.unit (s := S512x2048) ![256, 384] S128x128.size inb_S512x2048_S128x128_256_384, k0_pay123 (group2 v b) (k0_pay86 (iota .tc S128x1024 32 [1] iota_S128x1024_d1_w32) k0_pay85) X⟩ ::
      ⟨Rect.unit (s := S512x2048) ![256, 128] S128x128.size inb_S512x2048_S128x128_256_128, k0_pay122 (group2 v b) (k0_pay86 (iota .tc S128x1024 32 [1] iota_S128x1024_d1_w32) k0_pay85) X⟩ ::
      ⟨Rect.unit (s := S512x2048) ![128, 1920] S128x128.size inb_S512x2048_S128x128_128_1920, k0_pay114 (group1 v b) (k0_pay86 (iota .tc S128x1024 32 [1] iota_S128x1024_d1_w32) k0_pay85) X⟩ ::
      ⟨Rect.unit (s := S512x2048) ![128, 1664] S128x128.size inb_S512x2048_S128x128_128_1664, k0_pay113 (group1 v b) (k0_pay86 (iota .tc S128x1024 32 [1] iota_S128x1024_d1_w32) k0_pay85) X⟩ ::
      ⟨Rect.unit (s := S512x2048) ![128, 1408] S128x128.size inb_S512x2048_S128x128_128_1408, k0_pay112 (group1 v b) (k0_pay86 (iota .tc S128x1024 32 [1] iota_S128x1024_d1_w32) k0_pay85) X⟩ ::
      ⟨Rect.unit (s := S512x2048) ![128, 1152] S128x128.size inb_S512x2048_S128x128_128_1152, k0_pay111 (group1 v b) (k0_pay86 (iota .tc S128x1024 32 [1] iota_S128x1024_d1_w32) k0_pay85) X⟩ ::
      ⟨Rect.unit (s := S512x2048) ![128, 896] S128x128.size inb_S512x2048_S128x128_128_896, k0_pay110 (group1 v b) (k0_pay86 (iota .tc S128x1024 32 [1] iota_S128x1024_d1_w32) k0_pay85) X⟩ ::
      ⟨Rect.unit (s := S512x2048) ![128, 640] S128x128.size inb_S512x2048_S128x128_128_640, k0_pay109 (group1 v b) (k0_pay86 (iota .tc S128x1024 32 [1] iota_S128x1024_d1_w32) k0_pay85) X⟩ ::
      ⟨Rect.unit (s := S512x2048) ![128, 384] S128x128.size inb_S512x2048_S128x128_128_384, k0_pay108 (group1 v b) (k0_pay86 (iota .tc S128x1024 32 [1] iota_S128x1024_d1_w32) k0_pay85) X⟩ ::
      ⟨Rect.unit (s := S512x2048) ![128, 128] S128x128.size inb_S512x2048_S128x128_128_128, k0_pay107 (group1 v b) (k0_pay86 (iota .tc S128x1024 32 [1] iota_S128x1024_d1_w32) k0_pay85) X⟩ ::
      ⟨Rect.unit (s := S512x2048) ![0, 1920] S128x128.size inb_S512x2048_S128x128_0_1920, k0_pay100 (k0_pay92 (group0 v b) (iota .tc S128x1024 32 [1] iota_S128x1024_d1_w32) k0_pay85 X)⟩ ::
      ⟨Rect.unit (s := S512x2048) ![0, 1664] S128x128.size inb_S512x2048_S128x128_0_1664, k0_pay99 (k0_pay92 (group0 v b) (iota .tc S128x1024 32 [1] iota_S128x1024_d1_w32) k0_pay85 X)⟩ ::
      ⟨Rect.unit (s := S512x2048) ![0, 1408] S128x128.size inb_S512x2048_S128x128_0_1408, k0_pay98 (k0_pay92 (group0 v b) (iota .tc S128x1024 32 [1] iota_S128x1024_d1_w32) k0_pay85 X)⟩ ::
      ⟨Rect.unit (s := S512x2048) ![0, 1152] S128x128.size inb_S512x2048_S128x128_0_1152, k0_pay97 (k0_pay92 (group0 v b) (iota .tc S128x1024 32 [1] iota_S128x1024_d1_w32) k0_pay85 X)⟩ ::
      ⟨Rect.unit (s := S512x2048) ![0, 896] S128x128.size inb_S512x2048_S128x128_0_896, k0_pay96 (k0_pay92 (group0 v b) (iota .tc S128x1024 32 [1] iota_S128x1024_d1_w32) k0_pay85 X)⟩ ::
      ⟨Rect.unit (s := S512x2048) ![0, 640] S128x128.size inb_S512x2048_S128x128_0_640, k0_pay95 (k0_pay92 (group0 v b) (iota .tc S128x1024 32 [1] iota_S128x1024_d1_w32) k0_pay85 X)⟩ ::
      ⟨Rect.unit (s := S512x2048) ![0, 384] S128x128.size inb_S512x2048_S128x128_0_384, k0_pay94 (k0_pay92 (group0 v b) (iota .tc S128x1024 32 [1] iota_S128x1024_d1_w32) k0_pay85 X)⟩ ::
      ⟨Rect.unit (s := S512x2048) ![0, 128] S128x128.size inb_S512x2048_S128x128_0_128, k0_pay93 (group0 v b) (iota .tc S128x1024 32 [1] iota_S128x1024_d1_w32) k0_pay85 X⟩ :: rest)
      (ix2 r j) (querySide (fun l => (∑ q ∈ Finset.range (r.val + 1), g l q) + z l) x ⟨128 * (j.val / 256) + j.val % 128, by omega⟩) := by
  have hjl := j.isLt
  refine View.allAt_cons_unit _ _ _ _ _ (tile128 r j 384 1920 _ _ fun s l e e' => ?_) ?_
  · refine (cut_queries (k0_pay92 (group3 v b) (iota .tc S128x1024 32 [1] iota_S128x1024_d1_w32) k0_pay85 X) 896 slices_S128x1024_o0_896_S128x128 (by omega) s l).trans ((query_spread _ X s _ _ fun a => group3_three v b g z hv hg hb s a r.val e).trans ?_)
    simp only [hx]
    exact congrArg (querySide _ _) (Fin.ext (by show 896 + l.val = 128 * (j.val / 256) + j.val % 128; omega))
  refine View.allAt_cons_unit _ _ _ _ _ (tile128 r j 384 1664 _ _ fun s l e e' => ?_) ?_
  · refine (cut_queries (k0_pay92 (group3 v b) (iota .tc S128x1024 32 [1] iota_S128x1024_d1_w32) k0_pay85 X) 768 slices_S128x1024_o0_768_S128x128 (by omega) s l).trans ((query_spread _ X s _ _ fun a => group3_three v b g z hv hg hb s a r.val e).trans ?_)
    simp only [hx]
    exact congrArg (querySide _ _) (Fin.ext (by show 768 + l.val = 128 * (j.val / 256) + j.val % 128; omega))
  refine View.allAt_cons_unit _ _ _ _ _ (tile128 r j 384 1408 _ _ fun s l e e' => ?_) ?_
  · refine (cut_queries (k0_pay92 (group3 v b) (iota .tc S128x1024 32 [1] iota_S128x1024_d1_w32) k0_pay85 X) 640 slices_S128x1024_o0_640_S128x128 (by omega) s l).trans ((query_spread _ X s _ _ fun a => group3_three v b g z hv hg hb s a r.val e).trans ?_)
    simp only [hx]
    exact congrArg (querySide _ _) (Fin.ext (by show 640 + l.val = 128 * (j.val / 256) + j.val % 128; omega))
  refine View.allAt_cons_unit _ _ _ _ _ (tile128 r j 384 1152 _ _ fun s l e e' => ?_) ?_
  · refine (cut_queries (k0_pay92 (group3 v b) (iota .tc S128x1024 32 [1] iota_S128x1024_d1_w32) k0_pay85 X) 512 slices_S128x1024_o0_512_S128x128 (by omega) s l).trans ((query_spread _ X s _ _ fun a => group3_three v b g z hv hg hb s a r.val e).trans ?_)
    simp only [hx]
    exact congrArg (querySide _ _) (Fin.ext (by show 512 + l.val = 128 * (j.val / 256) + j.val % 128; omega))
  refine View.allAt_cons_unit _ _ _ _ _ (tile128 r j 384 896 _ _ fun s l e e' => ?_) ?_
  · refine (cut_queries (k0_pay92 (group3 v b) (iota .tc S128x1024 32 [1] iota_S128x1024_d1_w32) k0_pay85 X) 384 slices_S128x1024_o0_384_S128x128 (by omega) s l).trans ((query_spread _ X s _ _ fun a => group3_three v b g z hv hg hb s a r.val e).trans ?_)
    simp only [hx]
    exact congrArg (querySide _ _) (Fin.ext (by show 384 + l.val = 128 * (j.val / 256) + j.val % 128; omega))
  refine View.allAt_cons_unit _ _ _ _ _ (tile128 r j 384 640 _ _ fun s l e e' => ?_) ?_
  · refine (cut_queries (k0_pay92 (group3 v b) (iota .tc S128x1024 32 [1] iota_S128x1024_d1_w32) k0_pay85 X) 256 slices_S128x1024_o0_256_S128x128 (by omega) s l).trans ((query_spread _ X s _ _ fun a => group3_three v b g z hv hg hb s a r.val e).trans ?_)
    simp only [hx]
    exact congrArg (querySide _ _) (Fin.ext (by show 256 + l.val = 128 * (j.val / 256) + j.val % 128; omega))
  refine View.allAt_cons_unit _ _ _ _ _ (tile128 r j 384 384 _ _ fun s l e e' => ?_) ?_
  · refine (cut_queries (k0_pay92 (group3 v b) (iota .tc S128x1024 32 [1] iota_S128x1024_d1_w32) k0_pay85 X) 128 slices_S128x1024_o0_128_S128x128 (by omega) s l).trans ((query_spread _ X s _ _ fun a => group3_three v b g z hv hg hb s a r.val e).trans ?_)
    simp only [hx]
    exact congrArg (querySide _ _) (Fin.ext (by show 128 + l.val = 128 * (j.val / 256) + j.val % 128; omega))
  refine View.allAt_cons_unit _ _ _ _ _ (tile128 r j 384 128 _ _ fun s l e e' => ?_) ?_
  · refine (cut_queries (k0_pay92 (group3 v b) (iota .tc S128x1024 32 [1] iota_S128x1024_d1_w32) k0_pay85 X) 0 slices_S128x1024_o0_0_S128x128 (by omega) s l).trans ((query_spread _ X s _ _ fun a => group3_three v b g z hv hg hb s a r.val e).trans ?_)
    simp only [hx]
    exact congrArg (querySide _ _) (Fin.ext (by show 0 + l.val = 128 * (j.val / 256) + j.val % 128; omega))
  refine View.allAt_cons_unit _ _ _ _ _ (tile128 r j 256 1920 _ _ fun s l e e' => ?_) ?_
  · refine (cut_queries (k0_pay92 (group2 v b) (iota .tc S128x1024 32 [1] iota_S128x1024_d1_w32) k0_pay85 X) 896 slices_S128x1024_o0_896_S128x128 (by omega) s l).trans ((query_spread _ X s _ _ fun a => group2_three v b g z hv hg hb s a r.val e).trans ?_)
    simp only [hx]
    exact congrArg (querySide _ _) (Fin.ext (by show 896 + l.val = 128 * (j.val / 256) + j.val % 128; omega))
  refine View.allAt_cons_unit _ _ _ _ _ (tile128 r j 256 1664 _ _ fun s l e e' => ?_) ?_
  · refine (cut_queries (k0_pay92 (group2 v b) (iota .tc S128x1024 32 [1] iota_S128x1024_d1_w32) k0_pay85 X) 768 slices_S128x1024_o0_768_S128x128 (by omega) s l).trans ((query_spread _ X s _ _ fun a => group2_three v b g z hv hg hb s a r.val e).trans ?_)
    simp only [hx]
    exact congrArg (querySide _ _) (Fin.ext (by show 768 + l.val = 128 * (j.val / 256) + j.val % 128; omega))
  refine View.allAt_cons_unit _ _ _ _ _ (tile128 r j 256 1408 _ _ fun s l e e' => ?_) ?_
  · refine (cut_queries (k0_pay92 (group2 v b) (iota .tc S128x1024 32 [1] iota_S128x1024_d1_w32) k0_pay85 X) 640 slices_S128x1024_o0_640_S128x128 (by omega) s l).trans ((query_spread _ X s _ _ fun a => group2_three v b g z hv hg hb s a r.val e).trans ?_)
    simp only [hx]
    exact congrArg (querySide _ _) (Fin.ext (by show 640 + l.val = 128 * (j.val / 256) + j.val % 128; omega))
  refine View.allAt_cons_unit _ _ _ _ _ (tile128 r j 256 1152 _ _ fun s l e e' => ?_) ?_
  · refine (cut_queries (k0_pay92 (group2 v b) (iota .tc S128x1024 32 [1] iota_S128x1024_d1_w32) k0_pay85 X) 512 slices_S128x1024_o0_512_S128x128 (by omega) s l).trans ((query_spread _ X s _ _ fun a => group2_three v b g z hv hg hb s a r.val e).trans ?_)
    simp only [hx]
    exact congrArg (querySide _ _) (Fin.ext (by show 512 + l.val = 128 * (j.val / 256) + j.val % 128; omega))
  refine View.allAt_cons_unit _ _ _ _ _ (tile128 r j 256 896 _ _ fun s l e e' => ?_) ?_
  · refine (cut_queries (k0_pay92 (group2 v b) (iota .tc S128x1024 32 [1] iota_S128x1024_d1_w32) k0_pay85 X) 384 slices_S128x1024_o0_384_S128x128 (by omega) s l).trans ((query_spread _ X s _ _ fun a => group2_three v b g z hv hg hb s a r.val e).trans ?_)
    simp only [hx]
    exact congrArg (querySide _ _) (Fin.ext (by show 384 + l.val = 128 * (j.val / 256) + j.val % 128; omega))
  refine View.allAt_cons_unit _ _ _ _ _ (tile128 r j 256 640 _ _ fun s l e e' => ?_) ?_
  · refine (cut_queries (k0_pay92 (group2 v b) (iota .tc S128x1024 32 [1] iota_S128x1024_d1_w32) k0_pay85 X) 256 slices_S128x1024_o0_256_S128x128 (by omega) s l).trans ((query_spread _ X s _ _ fun a => group2_three v b g z hv hg hb s a r.val e).trans ?_)
    simp only [hx]
    exact congrArg (querySide _ _) (Fin.ext (by show 256 + l.val = 128 * (j.val / 256) + j.val % 128; omega))
  refine View.allAt_cons_unit _ _ _ _ _ (tile128 r j 256 384 _ _ fun s l e e' => ?_) ?_
  · refine (cut_queries (k0_pay92 (group2 v b) (iota .tc S128x1024 32 [1] iota_S128x1024_d1_w32) k0_pay85 X) 128 slices_S128x1024_o0_128_S128x128 (by omega) s l).trans ((query_spread _ X s _ _ fun a => group2_three v b g z hv hg hb s a r.val e).trans ?_)
    simp only [hx]
    exact congrArg (querySide _ _) (Fin.ext (by show 128 + l.val = 128 * (j.val / 256) + j.val % 128; omega))
  refine View.allAt_cons_unit _ _ _ _ _ (tile128 r j 256 128 _ _ fun s l e e' => ?_) ?_
  · refine (cut_queries (k0_pay92 (group2 v b) (iota .tc S128x1024 32 [1] iota_S128x1024_d1_w32) k0_pay85 X) 0 slices_S128x1024_o0_0_S128x128 (by omega) s l).trans ((query_spread _ X s _ _ fun a => group2_three v b g z hv hg hb s a r.val e).trans ?_)
    simp only [hx]
    exact congrArg (querySide _ _) (Fin.ext (by show 0 + l.val = 128 * (j.val / 256) + j.val % 128; omega))
  refine View.allAt_cons_unit _ _ _ _ _ (tile128 r j 128 1920 _ _ fun s l e e' => ?_) ?_
  · refine (cut_queries (k0_pay92 (group1 v b) (iota .tc S128x1024 32 [1] iota_S128x1024_d1_w32) k0_pay85 X) 896 slices_S128x1024_o0_896_S128x128 (by omega) s l).trans ((query_spread _ X s _ _ fun a => group1_three v b g z hv hg hb s a r.val e).trans ?_)
    simp only [hx]
    exact congrArg (querySide _ _) (Fin.ext (by show 896 + l.val = 128 * (j.val / 256) + j.val % 128; omega))
  refine View.allAt_cons_unit _ _ _ _ _ (tile128 r j 128 1664 _ _ fun s l e e' => ?_) ?_
  · refine (cut_queries (k0_pay92 (group1 v b) (iota .tc S128x1024 32 [1] iota_S128x1024_d1_w32) k0_pay85 X) 768 slices_S128x1024_o0_768_S128x128 (by omega) s l).trans ((query_spread _ X s _ _ fun a => group1_three v b g z hv hg hb s a r.val e).trans ?_)
    simp only [hx]
    exact congrArg (querySide _ _) (Fin.ext (by show 768 + l.val = 128 * (j.val / 256) + j.val % 128; omega))
  refine View.allAt_cons_unit _ _ _ _ _ (tile128 r j 128 1408 _ _ fun s l e e' => ?_) ?_
  · refine (cut_queries (k0_pay92 (group1 v b) (iota .tc S128x1024 32 [1] iota_S128x1024_d1_w32) k0_pay85 X) 640 slices_S128x1024_o0_640_S128x128 (by omega) s l).trans ((query_spread _ X s _ _ fun a => group1_three v b g z hv hg hb s a r.val e).trans ?_)
    simp only [hx]
    exact congrArg (querySide _ _) (Fin.ext (by show 640 + l.val = 128 * (j.val / 256) + j.val % 128; omega))
  refine View.allAt_cons_unit _ _ _ _ _ (tile128 r j 128 1152 _ _ fun s l e e' => ?_) ?_
  · refine (cut_queries (k0_pay92 (group1 v b) (iota .tc S128x1024 32 [1] iota_S128x1024_d1_w32) k0_pay85 X) 512 slices_S128x1024_o0_512_S128x128 (by omega) s l).trans ((query_spread _ X s _ _ fun a => group1_three v b g z hv hg hb s a r.val e).trans ?_)
    simp only [hx]
    exact congrArg (querySide _ _) (Fin.ext (by show 512 + l.val = 128 * (j.val / 256) + j.val % 128; omega))
  refine View.allAt_cons_unit _ _ _ _ _ (tile128 r j 128 896 _ _ fun s l e e' => ?_) ?_
  · refine (cut_queries (k0_pay92 (group1 v b) (iota .tc S128x1024 32 [1] iota_S128x1024_d1_w32) k0_pay85 X) 384 slices_S128x1024_o0_384_S128x128 (by omega) s l).trans ((query_spread _ X s _ _ fun a => group1_three v b g z hv hg hb s a r.val e).trans ?_)
    simp only [hx]
    exact congrArg (querySide _ _) (Fin.ext (by show 384 + l.val = 128 * (j.val / 256) + j.val % 128; omega))
  refine View.allAt_cons_unit _ _ _ _ _ (tile128 r j 128 640 _ _ fun s l e e' => ?_) ?_
  · refine (cut_queries (k0_pay92 (group1 v b) (iota .tc S128x1024 32 [1] iota_S128x1024_d1_w32) k0_pay85 X) 256 slices_S128x1024_o0_256_S128x128 (by omega) s l).trans ((query_spread _ X s _ _ fun a => group1_three v b g z hv hg hb s a r.val e).trans ?_)
    simp only [hx]
    exact congrArg (querySide _ _) (Fin.ext (by show 256 + l.val = 128 * (j.val / 256) + j.val % 128; omega))
  refine View.allAt_cons_unit _ _ _ _ _ (tile128 r j 128 384 _ _ fun s l e e' => ?_) ?_
  · refine (cut_queries (k0_pay92 (group1 v b) (iota .tc S128x1024 32 [1] iota_S128x1024_d1_w32) k0_pay85 X) 128 slices_S128x1024_o0_128_S128x128 (by omega) s l).trans ((query_spread _ X s _ _ fun a => group1_three v b g z hv hg hb s a r.val e).trans ?_)
    simp only [hx]
    exact congrArg (querySide _ _) (Fin.ext (by show 128 + l.val = 128 * (j.val / 256) + j.val % 128; omega))
  refine View.allAt_cons_unit _ _ _ _ _ (tile128 r j 128 128 _ _ fun s l e e' => ?_) ?_
  · refine (cut_queries (k0_pay92 (group1 v b) (iota .tc S128x1024 32 [1] iota_S128x1024_d1_w32) k0_pay85 X) 0 slices_S128x1024_o0_0_S128x128 (by omega) s l).trans ((query_spread _ X s _ _ fun a => group1_three v b g z hv hg hb s a r.val e).trans ?_)
    simp only [hx]
    exact congrArg (querySide _ _) (Fin.ext (by show 0 + l.val = 128 * (j.val / 256) + j.val % 128; omega))
  refine View.allAt_cons_unit _ _ _ _ _ (tile128 r j 0 1920 _ _ fun s l e e' => ?_) ?_
  · refine (cut_queries (k0_pay92 (group0 v b) (iota .tc S128x1024 32 [1] iota_S128x1024_d1_w32) k0_pay85 X) 896 slices_S128x1024_o0_896_S128x128 (by omega) s l).trans ((query_spread _ X s _ _ fun a => group0_three v b g z hv hg hb s a r.val e).trans ?_)
    simp only [hx]
    exact congrArg (querySide _ _) (Fin.ext (by show 896 + l.val = 128 * (j.val / 256) + j.val % 128; omega))
  refine View.allAt_cons_unit _ _ _ _ _ (tile128 r j 0 1664 _ _ fun s l e e' => ?_) ?_
  · refine (cut_queries (k0_pay92 (group0 v b) (iota .tc S128x1024 32 [1] iota_S128x1024_d1_w32) k0_pay85 X) 768 slices_S128x1024_o0_768_S128x128 (by omega) s l).trans ((query_spread _ X s _ _ fun a => group0_three v b g z hv hg hb s a r.val e).trans ?_)
    simp only [hx]
    exact congrArg (querySide _ _) (Fin.ext (by show 768 + l.val = 128 * (j.val / 256) + j.val % 128; omega))
  refine View.allAt_cons_unit _ _ _ _ _ (tile128 r j 0 1408 _ _ fun s l e e' => ?_) ?_
  · refine (cut_queries (k0_pay92 (group0 v b) (iota .tc S128x1024 32 [1] iota_S128x1024_d1_w32) k0_pay85 X) 640 slices_S128x1024_o0_640_S128x128 (by omega) s l).trans ((query_spread _ X s _ _ fun a => group0_three v b g z hv hg hb s a r.val e).trans ?_)
    simp only [hx]
    exact congrArg (querySide _ _) (Fin.ext (by show 640 + l.val = 128 * (j.val / 256) + j.val % 128; omega))
  refine View.allAt_cons_unit _ _ _ _ _ (tile128 r j 0 1152 _ _ fun s l e e' => ?_) ?_
  · refine (cut_queries (k0_pay92 (group0 v b) (iota .tc S128x1024 32 [1] iota_S128x1024_d1_w32) k0_pay85 X) 512 slices_S128x1024_o0_512_S128x128 (by omega) s l).trans ((query_spread _ X s _ _ fun a => group0_three v b g z hv hg hb s a r.val e).trans ?_)
    simp only [hx]
    exact congrArg (querySide _ _) (Fin.ext (by show 512 + l.val = 128 * (j.val / 256) + j.val % 128; omega))
  refine View.allAt_cons_unit _ _ _ _ _ (tile128 r j 0 896 _ _ fun s l e e' => ?_) ?_
  · refine (cut_queries (k0_pay92 (group0 v b) (iota .tc S128x1024 32 [1] iota_S128x1024_d1_w32) k0_pay85 X) 384 slices_S128x1024_o0_384_S128x128 (by omega) s l).trans ((query_spread _ X s _ _ fun a => group0_three v b g z hv hg hb s a r.val e).trans ?_)
    simp only [hx]
    exact congrArg (querySide _ _) (Fin.ext (by show 384 + l.val = 128 * (j.val / 256) + j.val % 128; omega))
  refine View.allAt_cons_unit _ _ _ _ _ (tile128 r j 0 640 _ _ fun s l e e' => ?_) ?_
  · refine (cut_queries (k0_pay92 (group0 v b) (iota .tc S128x1024 32 [1] iota_S128x1024_d1_w32) k0_pay85 X) 256 slices_S128x1024_o0_256_S128x128 (by omega) s l).trans ((query_spread _ X s _ _ fun a => group0_three v b g z hv hg hb s a r.val e).trans ?_)
    simp only [hx]
    exact congrArg (querySide _ _) (Fin.ext (by show 256 + l.val = 128 * (j.val / 256) + j.val % 128; omega))
  refine View.allAt_cons_unit _ _ _ _ _ (tile128 r j 0 384 _ _ fun s l e e' => ?_) ?_
  · refine (cut_queries (k0_pay92 (group0 v b) (iota .tc S128x1024 32 [1] iota_S128x1024_d1_w32) k0_pay85 X) 128 slices_S128x1024_o0_128_S128x128 (by omega) s l).trans ((query_spread _ X s _ _ fun a => group0_three v b g z hv hg hb s a r.val e).trans ?_)
    simp only [hx]
    exact congrArg (querySide _ _) (Fin.ext (by show 128 + l.val = 128 * (j.val / 256) + j.val % 128; omega))
  refine View.allAt_cons_unit _ _ _ _ _ (tile128 r j 0 128 _ _ fun s l e e' => ?_) ?_
  · refine (cut_queries (k0_pay92 (group0 v b) (iota .tc S128x1024 32 [1] iota_S128x1024_d1_w32) k0_pay85 X) 0 slices_S128x1024_o0_0_S128x128 (by omega) s l).trans ((query_spread _ X s _ _ fun a => group0_three v b g z hv hg hb s a r.val e).trans ?_)
    simp only [hx]
    exact congrArg (querySide _ _) (Fin.ext (by show 0 + l.val = 128 * (j.val / 256) + j.val % 128; omega))
  exact hrest

end

end Cert.Kernel3Ideal.Mixin

end
-- ==== Proof.Mixin.SideRows.lean ====
/- The third call's blocks at one grid point, in the lanes beside the queries, keys and values. -/
module

public import proofs.«01_k».proof.Proof.Mixin.Side

@[expose] public section

set_option maxRecDepth 16384

noncomputable section

namespace Cert.Kernel3Ideal.Mixin

open Cert.Kernel3Ideal Cert.Kernel3Ideal.Gen Idealize.ShloMosaic Idealize.ShloMosaic.TcCoe Idealize.ShloMosaic.Tactic
open Cert.Layer Cert.KernelIdeal.Ffn
open scoped BigOperators

variable (m : (ℓ : Loc nD τ sig) → Buf (Elt Ideal) ℓ) (c : Dev nD)

/-- The running sums of one row of a block. -/
def sumRow (t : Fin cfg0.N) (r : Fin 512) (l : Fin 8) : EReal :=
  (∑ s ∈ Finset.range (r.val + 1), gateAt m c t ⟨l.val, by omega⟩ s) + startF m c t ⟨l.val, by omega⟩

set_option maxHeartbeats 1000000 in
/-- The lanes beside the keys of a stored block. -/
theorem key_side (t : Fin cfg0.N) (r : Fin 512) (j : Fin 1024) (hj : 128 ≤ j.val % 256) :
    (outsAt0 m c t.val t.isLt).2.1 (ix2 r j) = keySide (sumRow m c t r) (fun a n => iblk m c 10 t (ix2 a n)) ⟨128 * (j.val / 256) + j.val % 128, by omega⟩ := by
  have hjl := j.isLt
  by_cases h0 : t.val % 16 = 0
  · rw [outsAt0_A m c t h0]
    dsimp only
    unfold out0_A_13
    rw [View.read_writes_junk_eq_canon]
    refine View.canon_eq_of_allAt _ _ _ (cover0_A_13 ..) ?_
    unfold kernelRun0_A
    dsimp only
    refine key_pieces _ _ (fun l s => gateAt m c t ⟨l.val, by omega⟩ s) (fun l => startF m c t ⟨l.val, by omega⟩) (fun l s => gateA m c t s _)
      (fun l s => gateAt_ne_top m c t _ s) (fun l => startA m c t h0 _) _ (fun a n => iblk m c 10 t (ix2 a n)) (fun a n => by rw [load_whole _ _ zeros2]) _ r j hj ?_
    iterate 4 refine View.allAt_cons_unit _ _ _ _ _ (skip r j _ _ _ _ _ (by omega)) ?_
    exact View.allAt_nil _ _
  · rw [outsAt0_B m c t h0]
    dsimp only
    unfold out0_B_13
    rw [View.read_writes_junk_eq_canon]
    refine View.canon_eq_of_allAt _ _ _ (cover0_B_13 ..) ?_
    unfold kernelRun0_B
    dsimp only
    refine key_pieces _ _ (fun l s => gateAt m c t ⟨l.val, by omega⟩ s) (fun l => startF m c t ⟨l.val, by omega⟩) (fun l s => gateB m c t s _)
      (fun l s => gateAt_ne_top m c t _ s) (fun l => by unfold startF; rw [if_neg h0, load_whole _ _ zeros2]; rfl) _ (fun a n => iblk m c 10 t (ix2 a n)) (fun a n => by rw [load_whole _ _ zeros2]) _ r j hj ?_
    iterate 4 refine View.allAt_cons_unit _ _ _ _ _ (skip r j _ _ _ _ _ (by omega)) ?_
    exact View.allAt_nil _ _

set_option maxHeartbeats 1000000 in
/-- The lanes beside the queries of a stored block. -/
theorem query_side (t : Fin cfg0.N) (r : Fin 512) (j : Fin 2048) (hj : 128 ≤ j.val % 256) :
    (outsAt0 m c t.val t.isLt).1 (ix2 r j) = querySide (sumRow m c t r) (fun a n => iblk m c 11 t (ix2 a n)) ⟨128 * (j.val / 256) + j.val % 128, by omega⟩ := by
  have hjl := j.isLt
  by_cases h0 : t.val % 16 = 0
  · rw [outsAt0_A m c t h0]
    dsimp only
    unfold out0_A_12
    rw [View.read_writes_junk_eq_canon]
    refine View.canon_eq_of_allAt _ _ _ (cover0_A_12 ..) ?_
    unfold kernelRun0_A
    dsimp only
    refine query_pieces _ _ (fun l s => gateAt m c t ⟨l.val, by omega⟩ s) (fun l => startF m c t ⟨l.val, by omega⟩) (fun l s => gateA m c t s _)
      (fun l s => gateAt_ne_top m c t _ s) (fun l => startA m c t h0 _) _ (fun a n => iblk m c 11 t (ix2 a n)) (fun a n => by rw [load_whole _ _ zeros2]) _ r j hj ?_
    iterate 8 refine View.allAt_cons_unit _ _ _ _ _ (skip r j _ _ _ _ _ (by omega)) ?_
    exact View.allAt_nil _ _
  · rw [outsAt0_B m c t h0]
    dsimp only
    unfold out0_B_12
    rw [View.read_writes_junk_eq_canon]
    refine View.canon_eq_of_allAt _ _ _ (cover0_B_12 ..) ?_
    unfold kernelRun0_B
    dsimp only
    refine query_pieces _ _ (fun l s => gateAt m c t ⟨l.val, by omega⟩ s) (fun l => startF m c t ⟨l.val, by omega⟩) (fun l s => gateB m c t s _)
      (fun l s => gateAt_ne_top m c t _ s) (fun l => by unfold startF; rw [if_neg h0, load_whole _ _ zeros2]; rfl) _ (fun a n => iblk m c 11 t (ix2 a n)) (fun a n => by rw [load_whole _ _ zeros2]) _ r j hj ?_
    iterate 8 refine View.allAt_cons_unit _ _ _ _ _ (skip r j _ _ _ _ _ (by omega)) ?_
    exact View.allAt_nil _ _

/-- The query lanes that hold nothing. -/
theorem query_rest (t : Fin cfg0.N) (r : Fin 512) (j : Fin 2048) (hj : 64 ≤ j.val % 512 ∧ j.val % 512 < 128 ∨ 256 ≤ j.val % 512 ∧ j.val % 512 < 320) :
    (outsAt0 m c t.val t.isLt).1 (ix2 r j) = Ideal.ofBits .bf16 0x0000#16 := by
  have hjl := j.isLt
  by_cases h0 : t.val % 16 = 0
  · rw [outsAt0_A m c t h0]
    dsimp only
    unfold out0_A_12
    rw [View.read_writes_junk_eq_canon]
    refine View.canon_eq_of_allAt _ _ _ (cover0_A_12 ..) ?_
    unfold kernelRun0_A
    dsimp only
    iterate 32 refine View.allAt_cons_unit _ _ _ _ _ (skip r j _ _ _ _ _ (by omega)) ?_
    refine View.allAt_cons_unit _ _ _ _ _ (tile r j 1792 _ _ fun l e => ?_) ?_
    · have h : l.val < 64 := by omega
      exact rest23 _ _ r l h
    refine View.allAt_cons_unit _ _ _ _ _ (tile r j 1536 _ _ fun l e => ?_) ?_
    · have h : ¬l.val < 64 := by omega
      exact rest22 _ _ r l h
    refine View.allAt_cons_unit _ _ _ _ _ (tile r j 1280 _ _ fun l e => ?_) ?_
    · have h : l.val < 64 := by omega
      exact rest19 _ _ r l h
    refine View.allAt_cons_unit _ _ _ _ _ (tile r j 1024 _ _ fun l e => ?_) ?_
    · have h : ¬l.val < 64 := by omega
      exact rest18 _ _ r l h
    refine View.allAt_cons_unit _ _ _ _ _ (tile r j 768 _ _ fun l e => ?_) ?_
    · have h : l.val < 64 := by omega
      exact rest15 _ _ r l h
    refine View.allAt_cons_unit _ _ _ _ _ (tile r j 512 _ _ fun l e => ?_) ?_
    · have h : ¬l.val < 64 := by omega
      exact rest14 _ _ r l h
    refine View.allAt_cons_unit _ _ _ _ _ (tile r j 256 _ _ fun l e => ?_) ?_
    · have h : l.val < 64 := by omega
      exact rest11 _ _ r l h
    refine View.allAt_cons_unit _ _ _ _ _ (tile r j 0 _ _ fun l e => ?_) ?_
    · have h : ¬l.val < 64 := by omega
      exact rest10 _ _ r l h
    exact View.allAt_nil _ _
  · rw [outsAt0_B m c t h0]
    dsimp only
    unfold out0_B_12
    rw [View.read_writes_junk_eq_canon]
    refine View.canon_eq_of_allAt _ _ _ (cover0_B_12 ..) ?_
    unfold kernelRun0_B
    dsimp only
    iterate 32 refine View.allAt_cons_unit _ _ _ _ _ (skip r j _ _ _ _ _ (by omega)) ?_
    refine View.allAt_cons_unit _ _ _ _ _ (tile r j 1792 _ _ fun l e => ?_) ?_
    · have h : l.val < 64 := by omega
      exact rest23 _ _ r l h
    refine View.allAt_cons_unit _ _ _ _ _ (tile r j 1536 _ _ fun l e => ?_) ?_
    · have h : ¬l.val < 64 := by omega
      exact rest22 _ _ r l h
    refine View.allAt_cons_unit _ _ _ _ _ (tile r j 1280 _ _ fun l e => ?_) ?_
    · have h : l.val < 64 := by omega
      exact rest19 _ _ r l h
    refine View.allAt_cons_unit _ _ _ _ _ (tile r j 1024 _ _ fun l e => ?_) ?_
    · have h : ¬l.val < 64 := by omega
      exact rest18 _ _ r l h
    refine View.allAt_cons_unit _ _ _ _ _ (tile r j 768 _ _ fun l e => ?_) ?_
    · have h : l.val < 64 := by omega
      exact rest15 _ _ r l h
    refine View.allAt_cons_unit _ _ _ _ _ (tile r j 512 _ _ fun l e => ?_) ?_
    · have h : ¬l.val < 64 := by omega
      exact rest14 _ _ r l h
    refine View.allAt_cons_unit _ _ _ _ _ (tile r j 256 _ _ fun l e => ?_) ?_
    · have h : l.val < 64 := by omega
      exact rest11 _ _ r l h
    refine View.allAt_cons_unit _ _ _ _ _ (tile r j 0 _ _ fun l e => ?_) ?_
    · have h : ¬l.val < 64 := by omega
      exact rest10 _ _ r l h
    exact View.allAt_nil _ _

/-- The lanes beside the values. -/
theorem value_rest (t : Fin cfg0.N) (r : Fin 512) (j : Fin 1024) (hj : 64 ≤ j.val % 256 ∧ j.val % 256 < 192) :
    (outsAt0 m c t.val t.isLt).2.2.1 (ix2 r j) = if j.val % 64 = 0 then 1 else 0 := by
  have hjl := j.isLt
  by_cases h0 : t.val % 16 = 0
  · rw [outsAt0_A m c t h0]
    dsimp only
    unfold out0_A_14
    rw [View.read_writes_junk_eq_canon]
    refine View.canon_eq_of_allAt _ _ _ (cover0_A_14 ..) ?_
    unfold kernelRun0_A
    dsimp only
    refine View.allAt_cons_unit _ _ _ _ _ (tile r j 896 _ _ fun l e => ?_) ?_
    · have h : l.val < 64 := by omega
      exact (rest83 _ _ r l h).trans (congrArg (fun n => if n = 0 then (1 : EReal) else 0) (by omega : l.val % 64 = j.val % 64))
    refine View.allAt_cons_unit _ _ _ _ _ (tile r j 768 _ _ fun l e => ?_) ?_
    · have h : ¬l.val < 64 := by omega
      exact (rest82 _ _ r l h).trans (congrArg (fun n => if n = 0 then (1 : EReal) else 0) (by omega : l.val % 64 = j.val % 64))
    refine View.allAt_cons_unit _ _ _ _ _ (tile r j 640 _ _ fun l e => ?_) ?_
    · have h : l.val < 64 := by omega
      exact (rest80 _ _ r l h).trans (congrArg (fun n => if n = 0 then (1 : EReal) else 0) (by omega : l.val % 64 = j.val % 64))
    refine View.allAt_cons_unit _ _ _ _ _ (tile r j 512 _ _ fun l e => ?_) ?_
    · have h : ¬l.val < 64 := by omega
      exact (rest79 _ _ r l h).trans (congrArg (fun n => if n = 0 then (1 : EReal) else 0) (by omega : l.val % 64 = j.val % 64))
    refine View.allAt_cons_unit _ _ _ _ _ (tile r j 384 _ _ fun l e => ?_) ?_
    · have h : l.val < 64 := by omega
      exact (rest77 _ _ r l h).trans (congrArg (fun n => if n = 0 then (1 : EReal) else 0) (by omega : l.val % 64 = j.val % 64))
    refine View.allAt_cons_unit _ _ _ _ _ (tile r j 256 _ _ fun l e => ?_) ?_
    · have h : ¬l.val < 64 := by omega
      exact (rest76 _ _ r l h).trans (congrArg (fun n => if n = 0 then (1 : EReal) else 0) (by omega : l.val % 64 = j.val % 64))
    refine View.allAt_cons_unit _ _ _ _ _ (tile r j 128 _ _ fun l e => ?_) ?_
    · have h : l.val < 64 := by omega
      exact (rest74 _ _ r l h).trans (congrArg (fun n => if n = 0 then (1 : EReal) else 0) (by omega : l.val % 64 = j.val % 64))
    refine View.allAt_cons_unit _ _ _ _ _ (tile r j 0 _ _ fun l e => ?_) ?_
    · have h : ¬l.val < 64 := by omega
      exact (rest73 _ _ r l h).trans (congrArg (fun n => if n = 0 then (1 : EReal) else 0) (by omega : l.val % 64 = j.val % 64))
    exact View.allAt_nil _ _
  · rw [outsAt0_B m c t h0]
    dsimp only
    unfold out0_B_14
    rw [View.read_writes_junk_eq_canon]
    refine View.canon_eq_of_allAt _ _ _ (cover0_B_14 ..) ?_
    unfold kernelRun0_B
    dsimp only
    refine View.allAt_cons_unit _ _ _ _ _ (tile r j 896 _ _ fun l e => ?_) ?_
    · have h : l.val < 64 := by omega
      exact (rest83 _ _ r l h).trans (congrArg (fun n => if n = 0 then (1 : EReal) else 0) (by omega : l.val % 64 = j.val % 64))
    refine View.allAt_cons_unit _ _ _ _ _ (tile r j 768 _ _ fun l e => ?_) ?_
    · have h : ¬l.val < 64 := by omega
      exact (rest82 _ _ r l h).trans (congrArg (fun n => if n = 0 then (1 : EReal) else 0) (by omega : l.val % 64 = j.val % 64))
    refine View.allAt_cons_unit _ _ _ _ _ (tile r j 640 _ _ fun l e => ?_) ?_
    · have h : l.val < 64 := by omega
      exact (rest80 _ _ r l h).trans (congrArg (fun n => if n = 0 then (1 : EReal) else 0) (by omega : l.val % 64 = j.val % 64))
    refine View.allAt_cons_unit _ _ _ _ _ (tile r j 512 _ _ fun l e => ?_) ?_
    · have h : ¬l.val < 64 := by omega
      exact (rest79 _ _ r l h).trans (congrArg (fun n => if n = 0 then (1 : EReal) else 0) (by omega : l.val % 64 = j.val % 64))
    refine View.allAt_cons_unit _ _ _ _ _ (tile r j 384 _ _ fun l e => ?_) ?_
    · have h : l.val < 64 := by omega
      exact (rest77 _ _ r l h).trans (congrArg (fun n => if n = 0 then (1 : EReal) else 0) (by omega : l.val % 64 = j.val % 64))
    refine View.allAt_cons_unit _ _ _ _ _ (tile r j 256 _ _ fun l e => ?_) ?_
    · have h : ¬l.val < 64 := by omega
      exact (rest76 _ _ r l h).trans (congrArg (fun n => if n = 0 then (1 : EReal) else 0) (by omega : l.val % 64 = j.val % 64))
    refine View.allAt_cons_unit _ _ _ _ _ (tile r j 128 _ _ fun l e => ?_) ?_
    · have h : l.val < 64 := by omega
      exact (rest74 _ _ r l h).trans (congrArg (fun n => if n = 0 then (1 : EReal) else 0) (by omega : l.val % 64 = j.val % 64))
    refine View.allAt_cons_unit _ _ _ _ _ (tile r j 0 _ _ fun l e => ?_) ?_
    · have h : ¬l.val < 64 := by omega
      exact (rest73 _ _ r l h).trans (congrArg (fun n => if n = 0 then (1 : EReal) else 0) (by omega : l.val % 64 = j.val % 64))
    exact View.allAt_nil _ _

end Cert.Kernel3Ideal.Mixin

end
-- ==== Proof.Mixin.SumLinks.lean ====
/- The third call: the blocks of running sums and of last rows as entries of the whole arrays. -/
module

public import proofs.«01_k».proof.Proof.Mixin.SumRows
public import proofs.«01_k».proof.Proof.Mixin.Links

@[expose] public section

set_option maxRecDepth 16384

noncomputable section

namespace Cert.Kernel3Ideal.Mixin

open Cert.Kernel3Ideal Cert.Kernel3Ideal.Gen Cert.Layer
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (c : Dev nD)

theorem place4 : ∀ t : Fin cfg0.N, win0_4.index t = ![0, 0] :=
  (by decide +kernel : ∀ t : Fin grid0.N, win0_4.index t = ![0, 0])
theorem place5 : ∀ t : Fin cfg0.N, win0_5.index t = ![0, 0] :=
  (by decide +kernel : ∀ t : Fin grid0.N, win0_5.index t = ![0, 0])
theorem place9 : ∀ t : Fin cfg0.N, win0_9.index t = ![0, 0] :=
  (by decide +kernel : ∀ t : Fin grid0.N, win0_9.index t = ![0, 0])
theorem place15 : ∀ t : Fin cfg0.N, win0_15.index t = ![t.val, 0] :=
  (by decide +kernel : ∀ t : Fin grid0.N, win0_15.index t = ![t.val, 0])
theorem place18 : ∀ t : Fin cfg0.N, win0_18.index t = ![t.val, 0] :=
  (by decide +kernel : ∀ t : Fin grid0.N, win0_18.index t = ![t.val, 0])

/-- The gates' offsets. -/
def bs (l : Fin 8) : EReal := m ((c : Thread nD τ).loc main_arg2) (ix2 0 l)

/-- The sums given at a sequence's start. -/
def fs (l : Fin 8) : EReal := m ((c : Thread nD τ).loc main_arg7) (ix2 0 ⟨l.val, by omega⟩)

theorem block9 (t : Fin cfg0.N) (l : Fin 8) : iblk m c 9 t (ix2 0 (⟨l.val, by omega⟩ : Fin 128)) = fs m c l := by
  have e0 : win0_9.index t 0 = 0 := by rw [place9]; rfl
  have e1 : win0_9.index t 1 = 0 := by rw [place9]; rfl
  unfold iblk fs
  show V m c main_arg7 _ = _
  entry_read
  blk_ext

theorem block4 (t : Fin cfg0.N) (l : Fin 8) (a : Fin 1024) : iblk m c 4 t (ix2 (⟨l.val, by omega⟩ : Fin 128) a) = ws m c a ⟨1536 + l.val, by omega⟩ := by
  unfold iblk ws
  show V m c main_v8 _ = _
  after_reads_at
  blk_simp [place4 t]
  rw [dif_pos l.isLt]
  blk_ext [place4 t]

theorem block5 (t : Fin cfg0.N) (l : Fin 8) : iblk m c 5 t (ix2 0 (⟨l.val, by omega⟩ : Fin 128)) = bs m c l := by
  unfold iblk bs
  show V m c main_v11 _ = _
  after_reads_at
  blk_simp [place5 t]
  rw [dif_pos l.isLt]

theorem gate_eq (t : Fin cfg0.N) (r : Fin 512) (i : Fin 16384) (hi : i.val = 512 * t.val + r.val) (l : Fin 8) :
    gateRow m c t r ⟨l.val, by omega⟩ = logF (hs m c) (gs m c) (ws m c) (bs m c) i l := by
  unfold gateRow logF col
  rw [unit_eq m c t r i hi]
  simp only [block4, block5]

/-- The logarithms of a block's rows as those of its sequence's rows. -/
theorem gateAt_eq (t : Fin cfg0.N) (l : Fin 8) (s : ℕ) (hs' : s < 512) :
    gateAt m c t ⟨l.val, by omega⟩ s = logS (hs m c) (gs m c) (ws m c) (bs m c) (t.val / 16) l (512 * (t.val % 16) + s) := by
  have ht : t.val < 32 := t.isLt
  unfold gateAt logS
  rw [dif_pos hs', dif_pos (by omega)]
  exact gate_eq m c t _ _ (by show 8192 * (t.val / 16) + (512 * (t.val % 16) + s) = 512 * t.val + s; omega) l

theorem part_eq (t : Fin cfg0.N) (l : Fin 8) (n : ℕ) (hn : n ≤ 512) :
    (∑ s ∈ Finset.range n, gateAt m c t ⟨l.val, by omega⟩ s) = ∑ s ∈ Finset.range n, logS (hs m c) (gs m c) (ws m c) (bs m c) (t.val / 16) l (512 * (t.val % 16) + s) :=
  Finset.sum_congr rfl fun s h => gateAt_eq m c t l s (by have := Finset.mem_range.mp h; omega)

/-- The sums a block starts from: those over the sequence's rows before it. -/
theorem start_eq (l : Fin 8) : ∀ (n : ℕ) (hn : n < cfg0.N),
    startF m c ⟨n, hn⟩ ⟨l.val, by omega⟩ = fs m c l + ∑ s ∈ Finset.range (512 * (n % 16)), logS (hs m c) (gs m c) (ws m c) (bs m c) (n / 16) l s := by
  intro n
  induction n with
  | zero =>
    intro hn
    unfold startF
    rw [if_pos (show (⟨0, hn⟩ : Fin cfg0.N).val % 16 = 0 from rfl), block9]
    simp
  | succ n ih =>
    intro hn
    unfold startF
    by_cases h0 : (n + 1) % 16 = 0
    · rw [if_pos (show (⟨n + 1, hn⟩ : Fin cfg0.N).val % 16 = 0 from h0), block9, h0]
      simp
    · rw [if_neg (show ¬(⟨n + 1, hn⟩ : Fin cfg0.N).val % 16 = 0 from h0)]
      have hp : prevF m c ⟨n + 1, hn⟩ (ix2 0 (⟨l.val, by omega⟩ : Fin 128)) = _ := f_left m c ⟨n, by omega⟩ ⟨l.val, by omega⟩ l.isLt
      rw [hp, part_eq m c _ l 512 (le_refl _), ih (by omega)]
      have e1 : (n + 1) / 16 = n / 16 := by omega
      have e2 : 512 * ((n + 1) % 16) = 512 * (n % 16) + 512 := by omega
      rw [e1, e2, Finset.sum_range_add _ (512 * (n % 16)) 512]
      exact (add_comm _ _).trans (add_assoc _ _ _)

theorem f_eq (t : Fin cfg0.N) (r : Fin 512) (i : Fin 16384) (hi : i.val = 512 * t.val + r.val) (l : Fin 8) :
    (∑ s ∈ Finset.range (r.val + 1), gateAt m c t ⟨l.val, by omega⟩ s) + startF m c t ⟨l.val, by omega⟩
      = sumF (hs m c) (gs m c) (ws m c) (bs m c) (fs m c) i l := by
  have ht : t.val < 32 := t.isLt
  have hr : r.val < 512 := r.isLt
  unfold sumF
  rw [part_eq m c t l _ (by omega), start_eq m c l t.val t.isLt]
  have e1 : i.val / 8192 = t.val / 16 := by omega
  have e2 : i.val % 8192 + 1 = 512 * (t.val % 16) + (r.val + 1) := by omega
  rw [e1, e2, Finset.sum_range_add _ (512 * (t.val % 16)) (r.val + 1)]
  exact (add_comm _ _).trans (add_assoc _ _ _)

end Cert.Kernel3Ideal.Mixin

end
-- ==== Proof.Mixin.SideLinks.lean ====
/- The third call: the lanes beside the queries and keys, from the running sums of the whole arrays. -/
module

public import proofs.«01_k».proof.Proof.Mixin.SideRows
public import proofs.«01_k».proof.Proof.Mixin.SumLinks

@[expose] public section

set_option maxRecDepth 16384

noncomputable section

namespace Cert.Kernel3Ideal.Mixin

open Cert.Kernel3Ideal Cert.Kernel3Ideal.Gen Cert.Layer
open Idealize.ShloMosaic Idealize.ShloMosaic.TcCoe Idealize.ShloMosaic.Tactic Idealize.SL.Sem
open Idealize.ShloMosaic.Pipeline (Dat)
open scoped BigOperators

variable (m : (ℓ : Loc nD τ sig) → Buf (Elt Ideal) ℓ) (c : Dev nD)

theorem place10 : ∀ t : Fin cfg0.N, win0_10.index t = ![0, 0] :=
  (by decide +kernel : ∀ t : Fin grid0.N, win0_10.index t = ![0, 0])
theorem place11 : ∀ t : Fin cfg0.N, win0_11.index t = ![0, 0] :=
  (by decide +kernel : ∀ t : Fin grid0.N, win0_11.index t = ![0, 0])

/-- The weights that spread the sums beside the keys. -/
def ks (a : Fin 128) (n : Fin 512) : EReal := m ((c : Thread nD τ).loc main_arg8) (ix2 a n)

/-- The weights that spread the sums beside the queries. -/
def qs (a : Fin 128) (n : Fin 1024) : EReal := m ((c : Thread nD τ).loc main_arg9) (ix2 a n)

theorem block10 (t : Fin cfg0.N) (a : Fin 128) (n : Fin 512) : iblk m c 10 t (ix2 a n) = ks m c a n := by
  have e0 : win0_10.index t 0 = 0 := by rw [place10]; rfl
  have e1 : win0_10.index t 1 = 0 := by rw [place10]; rfl
  unfold iblk ks
  show V m c main_arg8 _ = _
  entry_read
  blk_ext

theorem block11 (t : Fin cfg0.N) (a : Fin 128) (n : Fin 1024) : iblk m c 11 t (ix2 a n) = qs m c a n := by
  have e0 : win0_11.index t 0 = 0 := by rw [place11]; rfl
  have e1 : win0_11.index t 1 = 0 := by rw [place11]; rfl
  unfold iblk qs
  show V m c main_arg9 _ = _
  entry_read
  blk_ext

theorem sumRow_eq (t : Fin cfg0.N) (r : Fin 512) (i : Fin 16384) (hi : i.val = 512 * t.val + r.val) :
    sumRow m c t r = sumF (hs m c) (gs m c) (ws m c) (bs m c) (fs m c) i :=
  funext fun l => f_eq m c t r i hi l

/-- The lanes beside the keys of a stored block. -/
theorem key_side_eq (t : Fin cfg0.N) (r : Fin 512) (i : Fin 16384) (hi : i.val = 512 * t.val + r.val) (j : Fin 1024) (hj : 128 ≤ j.val % 256) :
    (outsAt0 m c t.val t.isLt).2.1 (ix2 r j)
      = keySide (sumF (hs m c) (gs m c) (ws m c) (bs m c) (fs m c) i) (ks m c) ⟨128 * (j.val / 256) + j.val % 128, by omega⟩ := by
  rw [key_side m c t r j hj, sumRow_eq m c t r i hi]
  simp only [block10]

/-- The lanes beside the queries of a stored block. -/
theorem query_side_eq (t : Fin cfg0.N) (r : Fin 512) (i : Fin 16384) (hi : i.val = 512 * t.val + r.val) (j : Fin 2048) (hj : 128 ≤ j.val % 256) :
    (outsAt0 m c t.val t.isLt).1 (ix2 r j)
      = querySide (sumF (hs m c) (gs m c) (ws m c) (bs m c) (fs m c) i) (qs m c) ⟨128 * (j.val / 256) + j.val % 128, by omega⟩ := by
  rw [query_side m c t r j hj, sumRow_eq m c t r i hi]
  simp only [block11]

end Cert.Kernel3Ideal.Mixin

end
-- ==== Proof.Mixin.Whole3.lean ====
/- The third call: the arrays its blocks fill, the lanes the host code takes of them, and the claims about it. -/
module

public import proofs.«01_k».proof.Defs
public import proofs.«01_k».proof.Proof.Gen.Reference3Ideal.Run
public import proofs.«01_k».proof.Proof.Mixin.Links
public import proofs.«01_k».proof.Proof.Mixin.Reference3Side
public import proofs.«01_k».proof.Proof.Mixin.SideLinks
public import Idealize.ShloMosaic.Lib.Pipeline.ValueKit
public import Idealize.ShloMosaic.Lib.Pointwise
public import Idealize.ShloMosaic.Lib.Claim
public import Idealize.ShloMosaic.Lib.Quiescent
public import Idealize.ShloMosaic.Lib.StableHlo.ReadAt

@[expose] public section

set_option maxRecDepth 16384

noncomputable section

namespace Cert.Kernel3Ideal.Mixin

open Cert.Kernel3Ideal Cert.Kernel3Ideal.Gen Cert.Layer
open Idealize.ShloMosaic Idealize.ShloMosaic.TcCoe Idealize.ShloMosaic.Tactic Idealize.SL.Sem
open Idealize.ShloMosaic.Pipeline (Dat)
open Cert.Reference3Ideal.Value (out0 out1 out2 out3 out4 out5 out6 out7 out8 out9 out10)

variable (m : (ℓ : Loc nD τ sig) → Buf (Elt Ideal) ℓ) (ρ : Dev nD → PrngReg) (c : Dev nD)

/-! ## The arrays filled -/

theorem filled16 : (dats m 0 c).arrAt 16 cfg0.N = out3 (m ((c : Thread nD τ).loc main_arg0)) (m ((c : Thread nD τ).loc main_arg5)) (m ((c : Thread nD τ).loc main_arg1)) := by
  refine (dats m 0 c).arrAt_eq_of_covers 16 _ (by decide +kernel) fun t hf y => ?_
  blk_simp
  rw [after0_16]
  obtain ⟨r, j, rfl⟩ : ∃ (r : Fin 512) (j : Fin 1024), y = ix2 r j := ⟨y 0, y 1, by funext a; match a with | ⟨0, _⟩ => rfl | ⟨1, _⟩ => rfl⟩
  have ht : t.val < 32 := t.isLt
  have hr : r.val < 512 := r.isLt
  have e : ((cfg0.win 16).blk t).view.emb (ix2 r j) = ix2 (n0 := 16384) (n1 := 1024) ⟨512 * t.val + r.val, by omega⟩ j := by
    blk_ext [place16 t]
  rw [e, Cert.Reference3Ideal.Value.out3_apply]
  exact (a_block m c t r j).trans (av_eq m c t r ⟨512 * t.val + r.val, by omega⟩ rfl j)

theorem filled17 : (dats m 0 c).arrAt 17 cfg0.N = out4 (m ((c : Thread nD τ).loc main_arg0)) (m ((c : Thread nD τ).loc main_arg5)) (m ((c : Thread nD τ).loc main_arg1)) (m ((c : Thread nD τ).loc main_arg3)) (m ((c : Thread nD τ).loc main_arg6)) (m ((c : Thread nD τ).loc main_arg4)) := by
  refine (dats m 0 c).arrAt_eq_of_covers 17 _ (by decide +kernel) fun t hf y => ?_
  blk_simp
  rw [after0_17]
  obtain ⟨r, j, rfl⟩ : ∃ (r : Fin 512) (j : Fin 1024), y = ix2 r j := ⟨y 0, y 1, by funext a; match a with | ⟨0, _⟩ => rfl | ⟨1, _⟩ => rfl⟩
  have ht : t.val < 32 := t.isLt
  have hr : r.val < 512 := r.isLt
  have e : ((cfg0.win 17).blk t).view.emb (ix2 r j) = ix2 (n0 := 16384) (n1 := 1024) ⟨512 * t.val + r.val, by omega⟩ j := by
    blk_ext [place17 t]
  rw [e, Cert.Reference3Ideal.Value.out4_apply]
  exact (g_block m c t r j).trans (gv_eq m c t r ⟨512 * t.val + r.val, by omega⟩ rfl j)

theorem filled15 : (dats m 0 c).arrAt 15 cfg0.N = out5 (m ((c : Thread nD τ).loc main_arg0)) (m ((c : Thread nD τ).loc main_arg5)) (m ((c : Thread nD τ).loc main_arg1)) (m ((c : Thread nD τ).loc main_arg2)) (m ((c : Thread nD τ).loc main_arg7)) := by
  refine (dats m 0 c).arrAt_eq_of_covers 15 _ (by decide +kernel) fun t hf y => ?_
  blk_simp
  rw [after0_15]
  obtain ⟨r, l, rfl⟩ : ∃ (r : Fin 512) (l : Fin 8), y = ix2 r l := ⟨y 0, y 1, by funext a; match a with | ⟨0, _⟩ => rfl | ⟨1, _⟩ => rfl⟩
  have ht : t.val < 32 := t.isLt
  have hr : r.val < 512 := r.isLt
  have e : ((cfg0.win 15).blk t).view.emb (ix2 r l) = ix2 (n0 := 16384) (n1 := 8) ⟨512 * t.val + r.val, by omega⟩ l := by
    blk_ext [place15 t]
  rw [e, Cert.Reference3Ideal.Value.out5_apply]
  exact (f_block m c t r l).trans (f_eq m c t r ⟨512 * t.val + r.val, by omega⟩ rfl l)

theorem filled18 : (dats m 0 c).arrAt 18 cfg0.N = out6 (m ((c : Thread nD τ).loc main_arg0)) (m ((c : Thread nD τ).loc main_arg5)) (m ((c : Thread nD τ).loc main_arg1)) := by
  refine (dats m 0 c).arrAt_eq_of_covers 18 _ (by decide +kernel) fun t hf y => ?_
  blk_simp
  rw [after0_18]
  obtain ⟨r, k, rfl⟩ : ∃ (r : Fin 8) (k : Fin 512), y = ix2 r k := ⟨y 0, y 1, by funext a; match a with | ⟨0, _⟩ => rfl | ⟨1, _⟩ => rfl⟩
  have ht : t.val < 32 := t.isLt
  have hr : r.val < 8 := r.isLt
  have e : ((cfg0.win 18).blk t).view.emb (ix2 r k) = ix2 (n0 := 256) (n1 := 512) ⟨8 * t.val + r.val, by omega⟩ k := by
    blk_ext [place18 t]
  rw [e, Cert.Reference3Ideal.Value.out6_apply]
  exact (t_block m c t r k).trans (prod_eq m c t ⟨504 + r.val, by omega⟩ _ (by show 512 * ((8 * t.val + r.val) / 8) + (504 + (8 * t.val + r.val) % 8) = 512 * t.val + (504 + r.val); omega) k)

/-! ## The lanes the kernel fills of the wider arrays -/

theorem row_of (i : Fin 16384) : ∃ (t : Fin cfg0.N) (r : Fin 512), i.val = 512 * t.val + r.val := by
  have hi : i.val < 16384 := i.isLt
  have hN : cfg0.N = 32 := N_0
  exact ⟨⟨i.val / 512, by omega⟩, ⟨i.val % 512, by omega⟩, by show i.val = 512 * (i.val / 512) + i.val % 512; omega⟩

theorem places12 : ∀ t t' : Fin cfg0.N, win0_12.index t = win0_12.index t' → t = t' :=
  (by decide +kernel : ∀ t t' : Fin grid0.N, win0_12.index t = win0_12.index t' → t = t')

theorem apart12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (places12 t t' h)

theorem flushes12 : ∀ t : Fin cfg0.N, (cfg0.win 12).flush t = true := by decide +kernel

/-- A block's row is where it is put in the array. -/
theorem stored12 (i : Fin 16384) (j : Fin 2048) (t : Fin cfg0.N) (r : Fin 512) (hv : i.val = 512 * t.val + r.val) :
    (dats m 0 c).arrAt 12 cfg0.N (ix2 i j) = (outsAt0 m c t.val t.isLt).1 (ix2 r j) := by
  have e : ((cfg0.win 12).blk t).view.emb (ix2 r j) = ix2 (n0 := 16384) (n1 := 2048) i j := by
    have e0 : win0_12.index t 0 = t.val := by rw [place12]; rfl
    have e1 : win0_12.index t 1 = 0 := by rw [place12]; rfl
    blk_ext
  have key := congrFun ((dats m 0 c).read_blk_arrAt_eq_flushed 12 apart12 cfg0.N t t.isLt (flushes12 t)) (ix2 r j)
  have left : ((cfg0.win 12).blk t).view.read (Elt Ideal) ((dats m 0 c).arrAt 12 cfg0.N) (ix2 r j) = (dats m 0 c).arrAt 12 cfg0.N (ix2 i j) :=
    congrArg ((dats m 0 c).arrAt 12 cfg0.N) e
  refine left.symm.trans (key.trans ?_)
  show (cfg0.win 12).cut (grid0.coords t) ((dats m 0 c).after 12 t) (ix2 r j) = _
  rw [after0_12]
  rfl

theorem filled12 (i : Fin 16384) (j : Fin 2048) (hj : j.val % 512 < 64 ∨ 320 ≤ j.val % 512 ∧ j.val % 512 < 384) :
    (dats m 0 c).arrAt 12 cfg0.N (ix2 i j) = queryAt (hs m c) (gs m c) (ws m c) i ⟨128 * (j.val / 512) + j.val % 128, by omega⟩ := by
  obtain ⟨t, r, hv⟩ := row_of i
  exact (stored12 m c i j t r hv).trans ((q_block m c t r j hj).trans (qv_eq m c t r i hv _))

theorem places13 : ∀ t t' : Fin cfg0.N, win0_13.index t = win0_13.index t' → t = t' :=
  (by decide +kernel : ∀ t t' : Fin grid0.N, win0_13.index t = win0_13.index t' → t = t')

theorem apart13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (places13 t t' h)

theorem flushes13 : ∀ t : Fin cfg0.N, (cfg0.win 13).flush t = true := by decide +kernel

/-- A block's row is where it is put in the array. -/
theorem stored13 (i : Fin 16384) (j : Fin 1024) (t : Fin cfg0.N) (r : Fin 512) (hv : i.val = 512 * t.val + r.val) :
    (dats m 0 c).arrAt 13 cfg0.N (ix2 i j) = (outsAt0 m c t.val t.isLt).2.1 (ix2 r j) := by
  have e : ((cfg0.win 13).blk t).view.emb (ix2 r j) = ix2 (n0 := 16384) (n1 := 1024) i j := by
    have e0 : win0_13.index t 0 = t.val := by rw [place13]; rfl
    have e1 : win0_13.index t 1 = 0 := by rw [place13]; rfl
    blk_ext
  have key := congrFun ((dats m 0 c).read_blk_arrAt_eq_flushed 13 apart13 cfg0.N t t.isLt (flushes13 t)) (ix2 r j)
  have left : ((cfg0.win 13).blk t).view.read (Elt Ideal) ((dats m 0 c).arrAt 13 cfg0.N) (ix2 r j) = (dats m 0 c).arrAt 13 cfg0.N (ix2 i j) :=
    congrArg ((dats m 0 c).arrAt 13 cfg0.N) e
  refine left.symm.trans (key.trans ?_)
  show (cfg0.win 13).cut (grid0.coords t) ((dats m 0 c).after 13 t) (ix2 r j) = _
  rw [after0_13]
  rfl

theorem filled13 (i : Fin 16384) (j : Fin 1024) (hj : j.val % 256 < 128) :
    (dats m 0 c).arrAt 13 cfg0.N (ix2 i j) = keyAt (hs m c) (gs m c) (ws m c) i ⟨128 * (j.val / 256) + j.val % 128, by omega⟩ := by
  obtain ⟨t, r, hv⟩ := row_of i
  exact (stored13 m c i j t r hv).trans ((k_block m c t r j hj).trans (kv_eq m c t r i hv _))

theorem places14 : ∀ t t' : Fin cfg0.N, win0_14.index t = win0_14.index t' → t = t' :=
  (by decide +kernel : ∀ t t' : Fin grid0.N, win0_14.index t = win0_14.index t' → t = t')

theorem apart14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (places14 t t' h)

theorem flushes14 : ∀ t : Fin cfg0.N, (cfg0.win 14).flush t = true := by decide +kernel

/-- A block's row is where it is put in the array. -/
theorem stored14 (i : Fin 16384) (j : Fin 1024) (t : Fin cfg0.N) (r : Fin 512) (hv : i.val = 512 * t.val + r.val) :
    (dats m 0 c).arrAt 14 cfg0.N (ix2 i j) = (outsAt0 m c t.val t.isLt).2.2.1 (ix2 r j) := by
  have e : ((cfg0.win 14).blk t).view.emb (ix2 r j) = ix2 (n0 := 16384) (n1 := 1024) i j := by
    have e0 : win0_14.index t 0 = t.val := by rw [place14]; rfl
    have e1 : win0_14.index t 1 = 0 := by rw [place14]; rfl
    blk_ext
  have key := congrFun ((dats m 0 c).read_blk_arrAt_eq_flushed 14 apart14 cfg0.N t t.isLt (flushes14 t)) (ix2 r j)
  have left : ((cfg0.win 14).blk t).view.read (Elt Ideal) ((dats m 0 c).arrAt 14 cfg0.N) (ix2 r j) = (dats m 0 c).arrAt 14 cfg0.N (ix2 i j) :=
    congrArg ((dats m 0 c).arrAt 14 cfg0.N) e
  refine left.symm.trans (key.trans ?_)
  show (cfg0.win 14).cut (grid0.coords t) ((dats m 0 c).after 14 t) (ix2 r j) = _
  rw [after0_14]
  rfl

theorem filled14 (i : Fin 16384) (j : Fin 1024) (hj : j.val % 256 < 64 ∨ 192 ≤ j.val % 256) :
    (dats m 0 c).arrAt 14 cfg0.N (ix2 i j) = valueAt (hs m c) (gs m c) (ws m c) i ⟨128 * (j.val / 256) + j.val % 128, by omega⟩ := by
  obtain ⟨t, r, hv⟩ := row_of i
  exact (stored14 m c i j t r hv).trans ((v_block m c t r j hj).trans (vv_eq m c t r i hv _))

theorem filledKeySide (i : Fin 16384) (j : Fin 1024) (hj : 128 ≤ j.val % 256) :
    (dats m 0 c).arrAt 13 cfg0.N (ix2 i j) = keySide (sumF (hs m c) (gs m c) (ws m c) (bs m c) (fs m c) i) (ks m c) ⟨128 * (j.val / 256) + j.val % 128, by omega⟩ := by
  obtain ⟨t, r, hv⟩ := row_of i
  exact (stored13 m c i j t r hv).trans (key_side_eq m c t r i hv j hj)

theorem filledQuerySide (i : Fin 16384) (j : Fin 2048) (hj : 128 ≤ j.val % 256) :
    (dats m 0 c).arrAt 12 cfg0.N (ix2 i j) = querySide (sumF (hs m c) (gs m c) (ws m c) (bs m c) (fs m c) i) (qs m c) ⟨128 * (j.val / 256) + j.val % 128, by omega⟩ := by
  obtain ⟨t, r, hv⟩ := row_of i
  exact (stored12 m c i j t r hv).trans (query_side_eq m c t r i hv j hj)

theorem filledQueryRest (i : Fin 16384) (j : Fin 2048) (hj : 64 ≤ j.val % 512 ∧ j.val % 512 < 128 ∨ 256 ≤ j.val % 512 ∧ j.val % 512 < 320) :
    (dats m 0 c).arrAt 12 cfg0.N (ix2 i j) = Ideal.ofBits .bf16 0x0000#16 := by
  obtain ⟨t, r, hv⟩ := row_of i
  exact (stored12 m c i j t r hv).trans (query_rest m c t r j hj)

theorem filledValueRest (i : Fin 16384) (j : Fin 1024) (hj : 64 ≤ j.val % 256 ∧ j.val % 256 < 192) :
    (dats m 0 c).arrAt 14 cfg0.N (ix2 i j) = (if j.val % 64 = 0 then 1 else 0 : EReal) := by
  obtain ⟨t, r, hv⟩ := row_of i
  exact (stored14 m c i j t r hv).trans (value_rest m c t r j hj)

/-! ## The lanes the host code takes -/

def takeQ (a : FVec Ideal S16384x2048 .bf16) : FVec Ideal S16384x512 .bf16 :=
  shapeCast S16384x512 (concatenate S16384x4x128 2 [⟨S16384x4x64, extractStridedSlice S16384x4x64 ![0, 0, 0] (shapeCast S16384x4x512 a shapeCasts_S16384x2048_S16384x4x512) slices_S16384x4x512_S16384x4x64_0_0_0⟩,
    ⟨S16384x4x64, extractStridedSlice S16384x4x64 ![0, 0, 320] (shapeCast S16384x4x512 a shapeCasts_S16384x2048_S16384x4x512) slices_S16384x4x512_S16384x4x64_0_0_320⟩] concatenates_S16384x4x64_S16384x4x64_S16384x4x128_d2) shapeCasts_S16384x4x128_S16384x512
def takeK (a : FVec Ideal S16384x1024 .bf16) : FVec Ideal S16384x512 .bf16 :=
  shapeCast S16384x512 (extractStridedSlice S16384x4x128 ![0, 0, 0] (shapeCast S16384x4x256 a shapeCasts_S16384x1024_S16384x4x256) slices_S16384x4x256_S16384x4x128_0_0_0) shapeCasts_S16384x4x128_S16384x512
def takeV (a : FVec Ideal S16384x1024 .bf16) : FVec Ideal S16384x512 .bf16 :=
  shapeCast S16384x512 (concatenate S16384x4x128 2 [⟨S16384x4x64, extractStridedSlice S16384x4x64 ![0, 0, 0] (shapeCast S16384x4x256 a shapeCasts_S16384x1024_S16384x4x256) slices_S16384x4x256_S16384x4x64_0_0_0⟩,
    ⟨S16384x4x64, extractStridedSlice S16384x4x64 ![0, 0, 192] (shapeCast S16384x4x256 a shapeCasts_S16384x1024_S16384x4x256) slices_S16384x4x256_S16384x4x64_0_0_192⟩] concatenates_S16384x4x64_S16384x4x64_S16384x4x128_d2) shapeCasts_S16384x4x128_S16384x512

/-- Four groups of 128 lanes side by side. -/
theorem grouped (x : FVec Ideal S16384x4x128 .bf16) (i : Fin 16384) (j : Fin 512) :
    shapeCast S16384x512 x shapeCasts_S16384x4x128_S16384x512 (ix2 i j) = x (ix3 i ⟨j.val / 128, by omega⟩ ⟨j.val % 128, by omega⟩) :=
  shapeCast_apply _ _ _ _ (by
    rw [Shape.rowMajor_val_three, Shape.rowMajor_val_two]
    show (i.val * 4 + j.val / 128) * 128 + j.val % 128 = i.val * 512 + j.val
    omega)

theorem groups512 (a : FVec Ideal S16384x2048 .bf16) (i : Fin 16384) (p : Fin 4) (n : Fin 512) :
    shapeCast S16384x4x512 a shapeCasts_S16384x2048_S16384x4x512 (ix3 i p n) = a (ix2 i ⟨512 * p.val + n.val, by omega⟩) :=
  shapeCast_apply _ _ _ _ (by
    rw [Shape.rowMajor_val_three, Shape.rowMajor_val_two]
    show i.val * 2048 + (512 * p.val + n.val) = (i.val * 4 + p.val) * 512 + n.val
    omega)

theorem groups256 (a : FVec Ideal S16384x1024 .bf16) (i : Fin 16384) (p : Fin 4) (n : Fin 256) :
    shapeCast S16384x4x256 a shapeCasts_S16384x1024_S16384x4x256 (ix3 i p n) = a (ix2 i ⟨256 * p.val + n.val, by omega⟩) :=
  shapeCast_apply _ _ _ _ (by
    rw [Shape.rowMajor_val_three, Shape.rowMajor_val_two]
    show i.val * 1024 + (256 * p.val + n.val) = (i.val * 4 + p.val) * 256 + n.val
    omega)

/-- Two halves of 64 lanes side by side. -/
theorem half_left (x y : FVec Ideal S16384x4x64 .bf16) (i : Fin 16384) (p : Fin 4) (l : Fin 128) (h : l.val < 64) :
    concatenate S16384x4x128 2 [⟨S16384x4x64, x⟩, ⟨S16384x4x64, y⟩] concatenates_S16384x4x64_S16384x4x64_S16384x4x128_d2 (ix3 i p l) = x (ix3 i p ⟨l.val, h⟩) :=
  concatenate_pair_apply_left (t := S16384x4x128) (s₁ := S16384x4x64) (s₂ := S16384x4x64) 2 _ _ _ _ rfl (ix3 i p (⟨l.val, h⟩ : Fin 64)) fun a =>
    match a with
    | ⟨0, _⟩ => rfl
    | ⟨1, _⟩ => rfl
    | ⟨2, _⟩ => rfl

theorem half_right (x y : FVec Ideal S16384x4x64 .bf16) (i : Fin 16384) (p : Fin 4) (l : Fin 128) (h : 64 ≤ l.val) :
    concatenate S16384x4x128 2 [⟨S16384x4x64, x⟩, ⟨S16384x4x64, y⟩] concatenates_S16384x4x64_S16384x4x64_S16384x4x128_d2 (ix3 i p l) = y (ix3 i p ⟨l.val - 64, by omega⟩) := by
  refine concatenate_pair_apply_right (t := S16384x4x128) (s₁ := S16384x4x64) (s₂ := S16384x4x64) 2 _ _ _ _ rfl rfl (ix3 i p (⟨l.val - 64, by omega⟩ : Fin 64)) (fun a ha => ?_) ?_
  · match a, ha with
    | ⟨0, _⟩, _ => rfl
    | ⟨1, _⟩, _ => rfl
    | ⟨2, _⟩, ha => exact absurd rfl ha
  · show l.val - 64 + 64 = l.val
    omega

theorem cut512 (x : FVec Ideal S16384x4x512 .bf16) (i : Fin 16384) (p : Fin 4) (l : Fin 64) :
    extractStridedSlice S16384x4x64 ![0, 0, 0] x slices_S16384x4x512_S16384x4x64_0_0_0 (ix3 i p l) = x (ix3 i p ⟨l.val, by omega⟩) := by pointwise
theorem cut512' (x : FVec Ideal S16384x4x512 .bf16) (i : Fin 16384) (p : Fin 4) (l : Fin 64) :
    extractStridedSlice S16384x4x64 ![0, 0, 320] x slices_S16384x4x512_S16384x4x64_0_0_320 (ix3 i p l) = x (ix3 i p ⟨320 + l.val, by omega⟩) := by pointwise
theorem cut256 (x : FVec Ideal S16384x4x256 .bf16) (i : Fin 16384) (p : Fin 4) (l : Fin 64) :
    extractStridedSlice S16384x4x64 ![0, 0, 0] x slices_S16384x4x256_S16384x4x64_0_0_0 (ix3 i p l) = x (ix3 i p ⟨l.val, by omega⟩) := by pointwise
theorem cut256' (x : FVec Ideal S16384x4x256 .bf16) (i : Fin 16384) (p : Fin 4) (l : Fin 64) :
    extractStridedSlice S16384x4x64 ![0, 0, 192] x slices_S16384x4x256_S16384x4x64_0_0_192 (ix3 i p l) = x (ix3 i p ⟨192 + l.val, by omega⟩) := by pointwise
theorem cut128 (x : FVec Ideal S16384x4x256 .bf16) (i : Fin 16384) (p : Fin 4) (l : Fin 128) :
    extractStridedSlice S16384x4x128 ![0, 0, 0] x slices_S16384x4x256_S16384x4x128_0_0_0 (ix3 i p l) = x (ix3 i p ⟨l.val, by omega⟩) := by pointwise

theorem taken_q : takeQ ((dats m 0 c).arrAt 12 cfg0.N) = out0 (m ((c : Thread nD τ).loc main_arg0)) (m ((c : Thread nD τ).loc main_arg5)) (m ((c : Thread nD τ).loc main_arg1)) := by
  funext y
  obtain ⟨i, j, rfl⟩ : ∃ (i : Fin 16384) (j : Fin 512), y = ix2 i j := ⟨y 0, y 1, by funext a; match a with | ⟨0, _⟩ => rfl | ⟨1, _⟩ => rfl⟩
  have hj : j.val < 512 := j.isLt
  rw [Cert.Reference3Ideal.Value.out0_apply]
  unfold takeQ
  rw [grouped]
  by_cases h : j.val % 128 < 64
  · rw [half_left _ _ _ _ _ h, cut512, groups512]
    refine (filled12 m c i _ (Or.inl (by show (512 * (j.val / 128) + j.val % 128) % 512 < 64; omega))).trans ?_
    exact congrArg (queryAt _ _ _ i) (Fin.ext (by show 128 * ((512 * (j.val / 128) + j.val % 128) / 512) + (512 * (j.val / 128) + j.val % 128) % 128 = j.val; omega))
  · rw [half_right _ _ _ _ _ (by show 64 ≤ j.val % 128; omega), cut512', groups512]
    refine (filled12 m c i _ (Or.inr (by show 320 ≤ (512 * (j.val / 128) + (320 + (j.val % 128 - 64))) % 512 ∧ (512 * (j.val / 128) + (320 + (j.val % 128 - 64))) % 512 < 384; omega))).trans ?_
    exact congrArg (queryAt _ _ _ i) (Fin.ext (by show 128 * ((512 * (j.val / 128) + (320 + (j.val % 128 - 64))) / 512) + (512 * (j.val / 128) + (320 + (j.val % 128 - 64))) % 128 = j.val; omega))

theorem taken_k : takeK ((dats m 0 c).arrAt 13 cfg0.N) = out1 (m ((c : Thread nD τ).loc main_arg0)) (m ((c : Thread nD τ).loc main_arg5)) (m ((c : Thread nD τ).loc main_arg1)) := by
  funext y
  obtain ⟨i, j, rfl⟩ : ∃ (i : Fin 16384) (j : Fin 512), y = ix2 i j := ⟨y 0, y 1, by funext a; match a with | ⟨0, _⟩ => rfl | ⟨1, _⟩ => rfl⟩
  have hj : j.val < 512 := j.isLt
  rw [Cert.Reference3Ideal.Value.out1_apply]
  unfold takeK
  rw [grouped, cut128, groups256]
  refine (filled13 m c i _ (by show (256 * (j.val / 128) + j.val % 128) % 256 < 128; omega)).trans ?_
  exact congrArg (keyAt _ _ _ i) (Fin.ext (by show 128 * ((256 * (j.val / 128) + j.val % 128) / 256) + (256 * (j.val / 128) + j.val % 128) % 128 = j.val; omega))

theorem taken_v : takeV ((dats m 0 c).arrAt 14 cfg0.N) = out2 (m ((c : Thread nD τ).loc main_arg0)) (m ((c : Thread nD τ).loc main_arg5)) (m ((c : Thread nD τ).loc main_arg1)) := by
  funext y
  obtain ⟨i, j, rfl⟩ : ∃ (i : Fin 16384) (j : Fin 512), y = ix2 i j := ⟨y 0, y 1, by funext a; match a with | ⟨0, _⟩ => rfl | ⟨1, _⟩ => rfl⟩
  have hj : j.val < 512 := j.isLt
  rw [Cert.Reference3Ideal.Value.out2_apply]
  unfold takeV
  rw [grouped]
  by_cases h : j.val % 128 < 64
  · rw [half_left _ _ _ _ _ h, cut256, groups256]
    refine (filled14 m c i _ (Or.inl (by show (256 * (j.val / 128) + j.val % 128) % 256 < 64; omega))).trans ?_
    exact congrArg (valueAt _ _ _ i) (Fin.ext (by show 128 * ((256 * (j.val / 128) + j.val % 128) / 256) + (256 * (j.val / 128) + j.val % 128) % 128 = j.val; omega))
  · rw [half_right _ _ _ _ _ (by show 64 ≤ j.val % 128; omega), cut256', groups256]
    refine (filled14 m c i _ (Or.inr (by show 192 ≤ (256 * (j.val / 128) + (192 + (j.val % 128 - 64))) % 256; omega))).trans ?_
    exact congrArg (valueAt _ _ _ i) (Fin.ext (by show 128 * ((256 * (j.val / 128) + (192 + (j.val % 128 - 64))) / 256) + (256 * (j.val / 128) + (192 + (j.val % 128 - 64))) % 128 = j.val; omega))

/-! ## The lanes beside -/

def takeKeySide (a : FVec Ideal S16384x1024 .bf16) : FVec Ideal S16384x4x128 .bf16 :=
  extractStridedSlice S16384x4x128 ![0, 0, 128] (shapeCast S16384x4x256 a shapeCasts_S16384x1024_S16384x4x256) slices_S16384x4x256_S16384x4x128_0_0_128
def takeQuerySide (a : FVec Ideal S16384x2048 .bf16) : FVec Ideal S16384x8x128 .bf16 :=
  extractStridedSlice S16384x8x128 ![0, 0, 128] (shapeCast S16384x8x256 a shapeCasts_S16384x2048_S16384x8x256) slices_S16384x8x256_S16384x8x128_0_0_128
def takeValueRest (a : FVec Ideal S16384x1024 .bf16) : FVec Ideal S16384x4x128 .bf16 :=
  extractStridedSlice S16384x4x128 ![0, 0, 64] (shapeCast S16384x4x256 a shapeCasts_S16384x1024_S16384x4x256) slices_S16384x4x256_S16384x4x128_0_0_64
def takeQueryRest (a : FVec Ideal S16384x2048 .bf16) : FVec Ideal S16384x512 .bf16 :=
  shapeCast S16384x512 (concatenate S16384x4x128 2 [⟨S16384x4x64, extractStridedSlice S16384x4x64 ![0, 0, 64] (shapeCast S16384x4x512 a shapeCasts_S16384x2048_S16384x4x512) slices_S16384x4x512_S16384x4x64_0_0_64⟩,
    ⟨S16384x4x64, extractStridedSlice S16384x4x64 ![0, 0, 256] (shapeCast S16384x4x512 a shapeCasts_S16384x2048_S16384x4x512) slices_S16384x4x512_S16384x4x64_0_0_256⟩] concatenates_S16384x4x64_S16384x4x64_S16384x4x128_d2) shapeCasts_S16384x4x128_S16384x512

theorem groupsHeads (a : FVec Ideal S16384x2048 .bf16) (i : Fin 16384) (p : Fin 8) (n : Fin 256) :
    shapeCast S16384x8x256 a shapeCasts_S16384x2048_S16384x8x256 (ix3 i p n) = a (ix2 i ⟨256 * p.val + n.val, by omega⟩) :=
  shapeCast_apply _ _ _ _ (by
    rw [Shape.rowMajor_val_three, Shape.rowMajor_val_two]
    show i.val * 2048 + (256 * p.val + n.val) = (i.val * 8 + p.val) * 256 + n.val
    omega)

theorem cutRest (x : FVec Ideal S16384x4x512 .bf16) (i : Fin 16384) (p : Fin 4) (l : Fin 64) :
    extractStridedSlice S16384x4x64 ![0, 0, 64] x slices_S16384x4x512_S16384x4x64_0_0_64 (ix3 i p l) = x (ix3 i p ⟨64 + l.val, by omega⟩) := by pointwise
theorem cutRest' (x : FVec Ideal S16384x4x512 .bf16) (i : Fin 16384) (p : Fin 4) (l : Fin 64) :
    extractStridedSlice S16384x4x64 ![0, 0, 256] x slices_S16384x4x512_S16384x4x64_0_0_256 (ix3 i p l) = x (ix3 i p ⟨256 + l.val, by omega⟩) := by pointwise
theorem cutKey (x : FVec Ideal S16384x4x256 .bf16) (i : Fin 16384) (p : Fin 4) (l : Fin 128) :
    extractStridedSlice S16384x4x128 ![0, 0, 128] x slices_S16384x4x256_S16384x4x128_0_0_128 (ix3 i p l) = x (ix3 i p ⟨128 + l.val, by omega⟩) := by pointwise
theorem cutValue (x : FVec Ideal S16384x4x256 .bf16) (i : Fin 16384) (p : Fin 4) (l : Fin 128) :
    extractStridedSlice S16384x4x128 ![0, 0, 64] x slices_S16384x4x256_S16384x4x128_0_0_64 (ix3 i p l) = x (ix3 i p ⟨64 + l.val, by omega⟩) := by pointwise
theorem cutQuery (x : FVec Ideal S16384x8x256 .bf16) (i : Fin 16384) (p : Fin 8) (l : Fin 128) :
    extractStridedSlice S16384x8x128 ![0, 0, 128] x slices_S16384x8x256_S16384x8x128_0_0_128 (ix3 i p l) = x (ix3 i p ⟨128 + l.val, by omega⟩) := by pointwise

theorem taken_key_side : takeKeySide ((dats m 0 c).arrAt 13 cfg0.N) = out7 (m ((c : Thread nD τ).loc main_arg0)) (m ((c : Thread nD τ).loc main_arg5)) (m ((c : Thread nD τ).loc main_arg1)) (m ((c : Thread nD τ).loc main_arg2)) (m ((c : Thread nD τ).loc main_arg7)) (m ((c : Thread nD τ).loc main_arg8)) := by
  funext y
  obtain ⟨i, h, l, rfl⟩ : ∃ (i : Fin 16384) (h : Fin 4) (l : Fin 128), y = ix3 i h l := ⟨y 0, y 1, y 2, by funext a; match a with | ⟨0, _⟩ => rfl | ⟨1, _⟩ => rfl | ⟨2, _⟩ => rfl⟩
  have hh : h.val < 4 := h.isLt
  have hl : l.val < 128 := l.isLt
  rw [Cert.Reference3Ideal.Value.out7_apply]
  unfold takeKeySide
  rw [cutKey, groups256]
  refine (filledKeySide m c i _ (by show 128 ≤ (256 * h.val + (128 + l.val)) % 256; omega)).trans ?_
  exact congrArg (keySide _ _) (Fin.ext (by show 128 * ((256 * h.val + (128 + l.val)) / 256) + (256 * h.val + (128 + l.val)) % 128 = 128 * h.val + l.val; omega))

theorem taken_query_side : takeQuerySide ((dats m 0 c).arrAt 12 cfg0.N) = out8 (m ((c : Thread nD τ).loc main_arg0)) (m ((c : Thread nD τ).loc main_arg5)) (m ((c : Thread nD τ).loc main_arg1)) (m ((c : Thread nD τ).loc main_arg2)) (m ((c : Thread nD τ).loc main_arg7)) (m ((c : Thread nD τ).loc main_arg9)) := by
  funext y
  obtain ⟨i, h, l, rfl⟩ : ∃ (i : Fin 16384) (h : Fin 8) (l : Fin 128), y = ix3 i h l := ⟨y 0, y 1, y 2, by funext a; match a with | ⟨0, _⟩ => rfl | ⟨1, _⟩ => rfl | ⟨2, _⟩ => rfl⟩
  have hh : h.val < 8 := h.isLt
  have hl : l.val < 128 := l.isLt
  rw [Cert.Reference3Ideal.Value.out8_apply]
  unfold takeQuerySide
  rw [cutQuery, groupsHeads]
  refine (filledQuerySide m c i _ (by show 128 ≤ (256 * h.val + (128 + l.val)) % 256; omega)).trans ?_
  exact congrArg (querySide _ _) (Fin.ext (by show 128 * ((256 * h.val + (128 + l.val)) / 256) + (256 * h.val + (128 + l.val)) % 128 = 128 * h.val + l.val; omega))

theorem taken_value_rest : takeValueRest ((dats m 0 c).arrAt 14 cfg0.N) = out9 := by
  funext y
  obtain ⟨i, h, l, rfl⟩ : ∃ (i : Fin 16384) (h : Fin 4) (l : Fin 128), y = ix3 i h l := ⟨y 0, y 1, y 2, by funext a; match a with | ⟨0, _⟩ => rfl | ⟨1, _⟩ => rfl | ⟨2, _⟩ => rfl⟩
  have hh : h.val < 4 := h.isLt
  have hl : l.val < 128 := l.isLt
  rw [Cert.Reference3Ideal.Value.out9_apply]
  unfold takeValueRest valueSide
  rw [cutValue, groups256]
  refine (filledValueRest m c i _ (by show 64 ≤ (256 * h.val + (64 + l.val)) % 256 ∧ (256 * h.val + (64 + l.val)) % 256 < 192; omega)).trans ?_
  have e : (256 * h.val + (64 + l.val)) % 64 = l.val % 64 := by omega
  simp only [e]

theorem taken_query_rest : takeQueryRest ((dats m 0 c).arrAt 12 cfg0.N) = out10 := by
  funext y
  obtain ⟨i, j, rfl⟩ : ∃ (i : Fin 16384) (j : Fin 512), y = ix2 i j := ⟨y 0, y 1, by funext a; match a with | ⟨0, _⟩ => rfl | ⟨1, _⟩ => rfl⟩
  have hj : j.val < 512 := j.isLt
  rw [Cert.Reference3Ideal.Value.out10_apply]
  unfold takeQueryRest
  rw [grouped]
  by_cases h : j.val % 128 < 64
  · rw [half_left _ _ _ _ _ h, cutRest, groups512]
    exact filledQueryRest m c i _ (Or.inl (by show 64 ≤ (512 * (j.val / 128) + (64 + j.val % 128)) % 512 ∧ (512 * (j.val / 128) + (64 + j.val % 128)) % 512 < 128; omega))
  · rw [half_right _ _ _ _ _ (by show 64 ≤ j.val % 128; omega), cutRest', groups512]
    exact filledQueryRest m c i _ (Or.inr (by show 256 ≤ (512 * (j.val / 128) + (256 + (j.val % 128 - 64))) % 512 ∧ (512 * (j.val / 128) + (256 + (j.val % 128 - 64))) % 512 < 320; omega))

/-! ## The run -/

theorem arrays_apart : Function.Injective (Pipeline.arrRef spec0) := by decide +kernel

theorem line24 (σ : Valuation τ sig (Elt Ideal)) :
    StableHlo.after (hostOps1 (F := Ideal)) σ (Proc.devRef .tc main_v24) = takeQ (σ (Proc.devRef .tc main_v17_0)) := by
  after_reads_simp
  rfl

theorem tail24 : Pipeline.afterTail₀ cfgs (dats m) 0 (V0 m) [hostOps1] c main_v24 = takeQ ((dats m 0 c).arrAt 12 cfg0.N) := by
  unfold Pipeline.afterTail₀
  refine (line24 _).trans (congrArg takeQ ?_)
  exact Pipeline.withArrays_arr (cfgs 0).spec arrays_apart c (V0 m c) (fun w => (dats m 0 c).arrAt w (cfgs 0).N) 12

theorem line26 (σ : Valuation τ sig (Elt Ideal)) :
    StableHlo.after (hostOps1 (F := Ideal)) σ (Proc.devRef .tc main_v26) = takeK (σ (Proc.devRef .tc main_v17_1)) := by
  after_reads_simp
  rfl

theorem tail26 : Pipeline.afterTail₀ cfgs (dats m) 0 (V0 m) [hostOps1] c main_v26 = takeK ((dats m 0 c).arrAt 13 cfg0.N) := by
  unfold Pipeline.afterTail₀
  refine (line26 _).trans (congrArg takeK ?_)
  exact Pipeline.withArrays_arr (cfgs 0).spec arrays_apart c (V0 m c) (fun w => (dats m 0 c).arrAt w (cfgs 0).N) 13

theorem line30 (σ : Valuation τ sig (Elt Ideal)) :
    StableHlo.after (hostOps1 (F := Ideal)) σ (Proc.devRef .tc main_v30) = takeV (σ (Proc.devRef .tc main_v17_2)) := by
  after_reads_simp
  rfl

theorem tail30 : Pipeline.afterTail₀ cfgs (dats m) 0 (V0 m) [hostOps1] c main_v30 = takeV ((dats m 0 c).arrAt 14 cfg0.N) := by
  unfold Pipeline.afterTail₀
  refine (line30 _).trans (congrArg takeV ?_)
  exact Pipeline.withArrays_arr (cfgs 0).spec arrays_apart c (V0 m c) (fun w => (dats m 0 c).arrAt w (cfgs 0).N) 14

theorem line31 (σ : Valuation τ sig (Elt Ideal)) :
    StableHlo.after (hostOps1 (F := Ideal)) σ (Proc.devRef .tc main_v31) = takeKeySide (σ (Proc.devRef .tc main_v17_1)) := by
  after_reads_simp
  rfl

theorem tail31 : Pipeline.afterTail₀ cfgs (dats m) 0 (V0 m) [hostOps1] c main_v31 = takeKeySide ((dats m 0 c).arrAt 13 cfg0.N) := by
  unfold Pipeline.afterTail₀
  refine (line31 _).trans (congrArg takeKeySide ?_)
  exact Pipeline.withArrays_arr (cfgs 0).spec arrays_apart c (V0 m c) (fun w => (dats m 0 c).arrAt w (cfgs 0).N) 13

theorem line33 (σ : Valuation τ sig (Elt Ideal)) :
    StableHlo.after (hostOps1 (F := Ideal)) σ (Proc.devRef .tc main_v33) = takeQuerySide (σ (Proc.devRef .tc main_v17_0)) := by
  after_reads_simp
  rfl

theorem tail33 : Pipeline.afterTail₀ cfgs (dats m) 0 (V0 m) [hostOps1] c main_v33 = takeQuerySide ((dats m 0 c).arrAt 12 cfg0.N) := by
  unfold Pipeline.afterTail₀
  refine (line33 _).trans (congrArg takeQuerySide ?_)
  exact Pipeline.withArrays_arr (cfgs 0).spec arrays_apart c (V0 m c) (fun w => (dats m 0 c).arrAt w (cfgs 0).N) 12

theorem line34 (σ : Valuation τ sig (Elt Ideal)) :
    StableHlo.after (hostOps1 (F := Ideal)) σ (Proc.devRef .tc main_v34) = takeValueRest (σ (Proc.devRef .tc main_v17_2)) := by
  after_reads_simp
  rfl

theorem tail34 : Pipeline.afterTail₀ cfgs (dats m) 0 (V0 m) [hostOps1] c main_v34 = takeValueRest ((dats m 0 c).arrAt 14 cfg0.N) := by
  unfold Pipeline.afterTail₀
  refine (line34 _).trans (congrArg takeValueRest ?_)
  exact Pipeline.withArrays_arr (cfgs 0).spec arrays_apart c (V0 m c) (fun w => (dats m 0 c).arrAt w (cfgs 0).N) 14

theorem line38 (σ : Valuation τ sig (Elt Ideal)) :
    StableHlo.after (hostOps1 (F := Ideal)) σ (Proc.devRef .tc main_v38) = takeQueryRest (σ (Proc.devRef .tc main_v17_0)) := by
  after_reads_simp
  rfl

theorem tail38 : Pipeline.afterTail₀ cfgs (dats m) 0 (V0 m) [hostOps1] c main_v38 = takeQueryRest ((dats m 0 c).arrAt 12 cfg0.N) := by
  unfold Pipeline.afterTail₀
  refine (line38 _).trans (congrArg takeQueryRest ?_)
  exact Pipeline.withArrays_arr (cfgs 0).spec arrays_apart c (V0 m c) (fun w => (dats m 0 c).arrAt w (cfgs 0).N) 12

theorem run : θ_run (defs (F := Ideal)) (onTc (τ := τ) (main (F := Ideal))) ⟨m, fun _ => 0, ρ⟩ (fun r => ∀ c : Dev nD,
      r.2.mem ((c.tc : Thread nD τ).loc main_v24) = out0 (m ((c : Thread nD τ).loc main_arg0)) (m ((c : Thread nD τ).loc main_arg5)) (m ((c : Thread nD τ).loc main_arg1))
      ∧ r.2.mem ((c.tc : Thread nD τ).loc main_v26) = out1 (m ((c : Thread nD τ).loc main_arg0)) (m ((c : Thread nD τ).loc main_arg5)) (m ((c : Thread nD τ).loc main_arg1))
      ∧ r.2.mem ((c.tc : Thread nD τ).loc main_v30) = out2 (m ((c : Thread nD τ).loc main_arg0)) (m ((c : Thread nD τ).loc main_arg5)) (m ((c : Thread nD τ).loc main_arg1))
      ∧ r.2.mem ((c.tc : Thread nD τ).loc main_v17_4) = out3 (m ((c : Thread nD τ).loc main_arg0)) (m ((c : Thread nD τ).loc main_arg5)) (m ((c : Thread nD τ).loc main_arg1))
      ∧ r.2.mem ((c.tc : Thread nD τ).loc main_v17_5) = out4 (m ((c : Thread nD τ).loc main_arg0)) (m ((c : Thread nD τ).loc main_arg5)) (m ((c : Thread nD τ).loc main_arg1)) (m ((c : Thread nD τ).loc main_arg3)) (m ((c : Thread nD τ).loc main_arg6)) (m ((c : Thread nD τ).loc main_arg4))
      ∧ r.2.mem ((c.tc : Thread nD τ).loc main_v17_3) = out5 (m ((c : Thread nD τ).loc main_arg0)) (m ((c : Thread nD τ).loc main_arg5)) (m ((c : Thread nD τ).loc main_arg1)) (m ((c : Thread nD τ).loc main_arg2)) (m ((c : Thread nD τ).loc main_arg7))
      ∧ r.2.mem ((c.tc : Thread nD τ).loc main_v17_6) = out6 (m ((c : Thread nD τ).loc main_arg0)) (m ((c : Thread nD τ).loc main_arg5)) (m ((c : Thread nD τ).loc main_arg1))
      ∧ r.2.mem ((c.tc : Thread nD τ).loc main_v31) = out7 (m ((c : Thread nD τ).loc main_arg0)) (m ((c : Thread nD τ).loc main_arg5)) (m ((c : Thread nD τ).loc main_arg1)) (m ((c : Thread nD τ).loc main_arg2)) (m ((c : Thread nD τ).loc main_arg7)) (m ((c : Thread nD τ).loc main_arg8))
      ∧ r.2.mem ((c.tc : Thread nD τ).loc main_v33) = out8 (m ((c : Thread nD τ).loc main_arg0)) (m ((c : Thread nD τ).loc main_arg5)) (m ((c : Thread nD τ).loc main_arg1)) (m ((c : Thread nD τ).loc main_arg2)) (m ((c : Thread nD τ).loc main_arg7)) (m ((c : Thread nD τ).loc main_arg9))
      ∧ r.2.mem ((c.tc : Thread nD τ).loc main_v34) = out9
      ∧ r.2.mem ((c.tc : Thread nD τ).loc main_v38) = out10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run _ _ _).mono ?_ (θ_run_and (unchanged m ρ) (run_main m ρ))
  intro r h c
  refine ⟨?_, ?_, ?_, ?_, ?_, ?_, ?_, ?_, ?_, ?_, ?_, h.1 c⟩
  · exact ((h.2 c).2 main_v24 (Pipeline.mem_restRefs_of main_v24 (by decide) (by decide))).trans ((tail24 m c).trans (taken_q m c))
  · exact ((h.2 c).2 main_v26 (Pipeline.mem_restRefs_of main_v26 (by decide) (by decide))).trans ((tail26 m c).trans (taken_k m c))
  · exact ((h.2 c).2 main_v30 (Pipeline.mem_restRefs_of main_v30 (by decide) (by decide))).trans ((tail30 m c).trans (taken_v m c))
  · exact ((h.2 c).1 16).trans (filled16 m c)
  · exact ((h.2 c).1 17).trans (filled17 m c)
  · exact ((h.2 c).1 15).trans (filled15 m c)
  · exact ((h.2 c).1 18).trans (filled18 m c)
  · exact ((h.2 c).2 main_v31 (Pipeline.mem_restRefs_of main_v31 (by decide) (by decide))).trans ((tail31 m c).trans (taken_key_side m c))
  · exact ((h.2 c).2 main_v33 (Pipeline.mem_restRefs_of main_v33 (by decide) (by decide))).trans ((tail33 m c).trans (taken_query_side m c))
  · exact ((h.2 c).2 main_v34 (Pipeline.mem_restRefs_of main_v34 (by decide) (by decide))).trans ((tail34 m c).trans (taken_value_rest m c))
  · exact ((h.2 c).2 main_v38 (Pipeline.mem_restRefs_of main_v38 (by decide) (by decide))).trans ((tail38 m c).trans (taken_query_rest m c))

end Cert.Kernel3Ideal.Mixin

namespace Cert.Whole3

open Idealize.ShloMosaic Idealize.ShloMosaic.TcCoe Idealize.SL.Sem
open Cert.Reference3Ideal.Value (out0 out1 out2 out3 out4 out5 out6 out7 out8 out9 out10)

/-- Kernel and reference, from the same arguments, end with the same eleven results. -/
theorem algebraic : Cert.algebraic_Kernel3Ideal_Reference3Ideal (hKernel3Ideal := Cert.Kernel3Ideal.Gen.facts) (hReference3Ideal := Cert.Reference3Ideal.Gen.facts) :=
  fun m ρ m' ρ' _ hag =>
    ⟨fun c => out0 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)),
     fun c => out1 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)),
     fun c => out2 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)),
     fun c => out3 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)),
     fun c => out4 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg4)),
     fun c => out5 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg7)),
     fun c => out6 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)),
     fun c => out7 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)),
     fun c => out8 (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg9)),
     fun c => out9,
     fun c => out10,
     Cert.Kernel3Ideal.Mixin.run m ρ,
     (θ_run _ _ _).mono (fun _ h c => by
      obtain ⟨a0, a1, a2, a3, a4, a5, a6, a7, a8, a9⟩ := hag c
      obtain ⟨r0, r1, r2, r3, r4, r5, r6, r7, r8, r9, r10, rest⟩ := h c
      refine ⟨r0.trans ?_, r1.trans ?_, r2.trans ?_, r3.trans ?_, r4.trans ?_, r5.trans ((Cert.Reference3Ideal.Value.res_out5_eq m' c).trans ?_), r6.trans ?_, r7.trans ?_, r8.trans ?_, r9, r10, rest⟩
      · show out0 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) = _
        rw [a0, a1, a5]
      · show out1 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) = _
        rw [a0, a1, a5]
      · show out2 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) = _
        rw [a0, a1, a5]
      · show out3 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) = _
        rw [a0, a1, a5]
      · show out4 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg6)) (m' ((c.tc : Thread Cert.Reference3Ideal.nD Cert.Reference3Ideal.τ).loc Cert.Reference3Ideal.main_arg4)) = _
        rw [a0, a1, a3, a4, a5, a6]
      · rw [a0, a1, a2, a5, a7]
      · show out6 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) = _
        rw [a0, a1, a5]
      · show out7 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg8)) = _
        rw [a0, a1, a2, a5, a7, a8]
      · show out8 (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg7)) (m' ((c.tc : Thread Cert.Reference3Ideal.nD Cert.Reference3Ideal.τ).loc Cert.Reference3Ideal.main_arg9)) = _
        rw [a0, a1, a2, a5, a7, a9]) (Cert.Reference3Ideal.Value.run m' ρ')⟩

/-- The reference leaves its arguments, and has no counters. -/
theorem reference_frame : Cert.quiescent_Reference3Ideal (hReference3Ideal := Cert.Reference3Ideal.Gen.facts) :=
  fun m ρ _ => (θ_run _ _ _).mono (fun r h => ⟨fun c => (h c).2.2.2.2.2.2.2.2.2.2.2, sem_eq_zero_of_no_sems (by decide) r.2⟩)
    (Cert.Reference3Ideal.Value.run m ρ)

end Cert.Whole3

end
-- ==== Proof.lean ====
/- The claims of `Cert.Claim`, put together. -/
module

public import proofs.«01_k».proof.Proof.Gen.Kernel3
public import proofs.«01_k».proof.Proof.Gen.Kernel3Ideal
public import proofs.«01_k».proof.Proof.Gen.Kernel3.Frame
public import proofs.«01_k».proof.Proof.Gen.Kernel3Ideal.Frame
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.ReferenceIdeal.Run
public import proofs.«01_k».proof.Proof.Gen.Reference2Ideal.Run
public import proofs.«01_k».proof.Proof.Ffn.Words
public import proofs.«01_k».proof.Proof.Value.Whole
public import proofs.«01_k».proof.Proof.Value.Whole2
public import proofs.«01_k».proof.Proof.Mixin.Whole3
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.KernelIdeal.Ffn.frame_words,
  fun m ρ _ => Cert.KernelIdeal.Ffn.frame m ρ,
  Cert.Whole.reference_frame,
  fun m ρ _ => Cert.Kernel2.Gen.frame m ρ,
  fun m ρ _ => Cert.Kernel2Ideal.Gen.frame m ρ,
  Cert.Whole2.reference_frame,
  fun m ρ _ => Cert.Kernel3.Gen.frame m ρ,
  fun m ρ _ => Cert.Kernel3Ideal.Gen.frame m ρ,
  Cert.Whole3.reference_frame,
  trivial,
  Cert.Whole.algebraic,
  trivial,
  Cert.Whole2.algebraic,
  trivial,
  Cert.Whole3.algebraic⟩

end Cert.Proof

end
